-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InProj1 (m : (ℓ : Loc Cert.InProj1.nD Cert.InProj1.τ Cert.InProj1.sig) → Buf (Elt Bits) ℓ) : Prop :=
  True

def Pre_InProj1Ideal (m : (ℓ : Loc Cert.InProj1Ideal.nD Cert.InProj1Ideal.τ Cert.InProj1Ideal.sig) → Buf (Elt Ideal) ℓ) : Prop :=
  True

def Pre_InProj1ReferenceIdeal (m : (ℓ : Loc Cert.InProj1ReferenceIdeal.nD Cert.InProj1ReferenceIdeal.τ Cert.InProj1ReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_Merge1ReferenceIdeal (m : (ℓ : Loc Cert.Merge1ReferenceIdeal.nD Cert.Merge1ReferenceIdeal.τ Cert.Merge1ReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OutProj1 (m : (ℓ : Loc Cert.OutProj1.nD Cert.OutProj1.τ Cert.OutProj1.sig) → Buf (Elt Bits) ℓ) : Prop :=
  True

def Pre_OutProj1Ideal (m : (ℓ : Loc Cert.OutProj1Ideal.nD Cert.OutProj1Ideal.τ Cert.OutProj1Ideal.sig) → Buf (Elt Ideal) ℓ) : Prop :=
  True

def Pre_OutProj1ReferenceIdeal (m : (ℓ : Loc Cert.OutProj1ReferenceIdeal.nD Cert.OutProj1ReferenceIdeal.τ Cert.OutProj1ReferenceIdeal.sig) → Buf (Elt Ideal) ℓ) : Prop :=
  True

def Pre_DenseFfn (m : (ℓ : Loc Cert.DenseFfn.nD Cert.DenseFfn.τ Cert.DenseFfn.sig) → Buf (Elt Bits) ℓ) : Prop :=
  True

def Pre_DenseFfnIdeal (m : (ℓ : Loc Cert.DenseFfnIdeal.nD Cert.DenseFfnIdeal.τ Cert.DenseFfnIdeal.sig) → Buf (Elt Ideal) ℓ) : Prop :=
  True

def Pre_DenseFfnReferenceIdeal (m : (ℓ : Loc Cert.DenseFfnReferenceIdeal.nD Cert.DenseFfnReferenceIdeal.τ Cert.DenseFfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_InProj1 [hInProj1 : Cert.InProj1.Facts] : Prop :=
  ∀ (m : (ℓ : Loc Cert.InProj1.nD Cert.InProj1.τ Cert.InProj1.sig) → Buf (Elt Bits) ℓ) (g : Dev Cert.InProj1.nD → PrngReg), Pre_InProj1 m →
    θ_run (Cert.InProj1.defs (F := Bits)) (onTc (τ := Cert.InProj1.τ) (Cert.InProj1.main (F := Bits))) ⟨m, fun _ => 0, g⟩ (fun r => (∀ c : Dev Cert.InProj1.nD,
      r.2.mem ((c.tc : Thread Cert.InProj1.nD Cert.InProj1.τ).loc Cert.InProj1.main_arg0) = m ((c.tc : Thread Cert.InProj1.nD Cert.InProj1.τ).loc Cert.InProj1.main_arg0)
      ∧ r.2.mem ((c.tc : Thread Cert.InProj1.nD Cert.InProj1.τ).loc Cert.InProj1.main_arg1) = m ((c.tc : Thread Cert.InProj1.nD Cert.InProj1.τ).loc Cert.InProj1.main_arg1)
      ∧ r.2.mem ((c.tc : Thread Cert.InProj1.nD Cert.InProj1.τ).loc Cert.InProj1.main_arg2) = m ((c.tc : Thread Cert.InProj1.nD Cert.InProj1.τ).loc Cert.InProj1.main_arg2))
      ∧ r.2.sem = fun _ => 0)

def quiescent_InProj1Ideal [hInProj1Ideal : Cert.InProj1Ideal.Facts] : Prop :=
  ∀ (m : (ℓ : Loc Cert.InProj1Ideal.nD Cert.InProj1Ideal.τ Cert.InProj1Ideal.sig) → Buf (Elt Ideal) ℓ) (g : Dev Cert.InProj1Ideal.nD → PrngReg), Pre_InProj1Ideal m →
    θ_run (Cert.InProj1Ideal.defs (F := Ideal)) (onTc (τ := Cert.InProj1Ideal.τ) (Cert.InProj1Ideal.main (F := Ideal))) ⟨m, fun _ => 0, g⟩ (fun r => (∀ c : Dev Cert.InProj1Ideal.nD,
      r.2.mem ((c.tc : Thread Cert.InProj1Ideal.nD Cert.InProj1Ideal.τ).loc Cert.InProj1Ideal.main_arg0) = m ((c.tc : Thread Cert.InProj1Ideal.nD Cert.InProj1Ideal.τ).loc Cert.InProj1Ideal.main_arg0)
      ∧ r.2.mem ((c.tc : Thread Cert.InProj1Ideal.nD Cert.InProj1Ideal.τ).loc Cert.InProj1Ideal.main_arg1) = m ((c.tc : Thread Cert.InProj1Ideal.nD Cert.InProj1Ideal.τ).loc Cert.InProj1Ideal.main_arg1)
      ∧ r.2.mem ((c.tc : Thread Cert.InProj1Ideal.nD Cert.InProj1Ideal.τ).loc Cert.InProj1Ideal.main_arg2) = m ((c.tc : Thread Cert.InProj1Ideal.nD Cert.InProj1Ideal.τ).loc Cert.InProj1Ideal.main_arg2))
      ∧ r.2.sem = fun _ => 0)

def quiescent_InProj1ReferenceIdeal [hInProj1ReferenceIdeal : Cert.InProj1ReferenceIdeal.Facts] : Prop :=
  ∀ (m : (ℓ : Loc Cert.InProj1ReferenceIdeal.nD Cert.InProj1ReferenceIdeal.τ Cert.InProj1ReferenceIdeal.sig) → Buf (Elt Ideal) ℓ) (g : Dev Cert.InProj1ReferenceIdeal.nD → PrngReg), Pre_InProj1ReferenceIdeal m →
    θ_run (Cert.InProj1ReferenceIdeal.defs (F := Ideal)) (onTc (τ := Cert.InProj1ReferenceIdeal.τ) (Cert.InProj1ReferenceIdeal.main (F := Ideal))) ⟨m, fun _ => 0, g⟩ (fun r => (∀ c : Dev Cert.InProj1ReferenceIdeal.nD,
      r.2.mem ((c.tc : Thread Cert.InProj1ReferenceIdeal.nD Cert.InProj1ReferenceIdeal.τ).loc Cert.InProj1ReferenceIdeal.main_arg0) = m ((c.tc : Thread Cert.InProj1ReferenceIdeal.nD Cert.InProj1ReferenceIdeal.τ).loc Cert.InProj1ReferenceIdeal.main_arg0)
      ∧ r.2.mem ((c.tc : Thread Cert.InProj1ReferenceIdeal.nD Cert.InProj1ReferenceIdeal.τ).loc Cert.InProj1ReferenceIdeal.main_arg1) = m ((c.tc : Thread Cert.InProj1ReferenceIdeal.nD Cert.InProj1ReferenceIdeal.τ).loc Cert.InProj1ReferenceIdeal.main_arg1)
      ∧ r.2.mem ((c.tc : Thread Cert.InProj1ReferenceIdeal.nD Cert.InProj1ReferenceIdeal.τ).loc Cert.InProj1ReferenceIdeal.main_arg2) = m ((c.tc : Thread Cert.InProj1ReferenceIdeal.nD Cert.InProj1ReferenceIdeal.τ).loc Cert.InProj1ReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
      ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
      ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4))
      ∧ r.2.sem = fun _ => 0)

def quiescent_Merge1ReferenceIdeal [hMerge1ReferenceIdeal : Cert.Merge1ReferenceIdeal.Facts] : Prop :=
  ∀ (m : (ℓ : Loc Cert.Merge1ReferenceIdeal.nD Cert.Merge1ReferenceIdeal.τ Cert.Merge1ReferenceIdeal.sig) → Buf (Elt Ideal) ℓ) (g : Dev Cert.Merge1ReferenceIdeal.nD → PrngReg), Pre_Merge1ReferenceIdeal m →
    θ_run (Cert.Merge1ReferenceIdeal.defs (F := Ideal)) (onTc (τ := Cert.Merge1ReferenceIdeal.τ) (Cert.Merge1ReferenceIdeal.main (F := Ideal))) ⟨m, fun _ => 0, g⟩ (fun r => (∀ c : Dev Cert.Merge1ReferenceIdeal.nD,
      r.2.mem ((c.tc : Thread Cert.Merge1ReferenceIdeal.nD Cert.Merge1ReferenceIdeal.τ).loc Cert.Merge1ReferenceIdeal.main_arg0) = m ((c.tc : Thread Cert.Merge1ReferenceIdeal.nD Cert.Merge1ReferenceIdeal.τ).loc Cert.Merge1ReferenceIdeal.main_arg0)
      ∧ r.2.mem ((c.tc : Thread Cert.Merge1ReferenceIdeal.nD Cert.Merge1ReferenceIdeal.τ).loc Cert.Merge1ReferenceIdeal.main_arg1) = m ((c.tc : Thread Cert.Merge1ReferenceIdeal.nD Cert.Merge1ReferenceIdeal.τ).loc Cert.Merge1ReferenceIdeal.main_arg1)
      ∧ r.2.mem ((c.tc : Thread Cert.Merge1ReferenceIdeal.nD Cert.Merge1ReferenceIdeal.τ).loc Cert.Merge1ReferenceIdeal.main_arg2) = m ((c.tc : Thread Cert.Merge1ReferenceIdeal.nD Cert.Merge1ReferenceIdeal.τ).loc Cert.Merge1ReferenceIdeal.main_arg2)
      ∧ r.2.mem ((c.tc : Thread Cert.Merge1ReferenceIdeal.nD Cert.Merge1ReferenceIdeal.τ).loc Cert.Merge1ReferenceIdeal.main_arg3) = m ((c.tc : Thread Cert.Merge1ReferenceIdeal.nD Cert.Merge1ReferenceIdeal.τ).loc Cert.Merge1ReferenceIdeal.main_arg3)
      ∧ r.2.mem ((c.tc : Thread Cert.Merge1ReferenceIdeal.nD Cert.Merge1ReferenceIdeal.τ).loc Cert.Merge1ReferenceIdeal.main_arg4) = m ((c.tc : Thread Cert.Merge1ReferenceIdeal.nD Cert.Merge1ReferenceIdeal.τ).loc Cert.Merge1ReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_OutProj1 [hOutProj1 : Cert.OutProj1.Facts] : Prop :=
  ∀ (m : (ℓ : Loc Cert.OutProj1.nD Cert.OutProj1.τ Cert.OutProj1.sig) → Buf (Elt Bits) ℓ) (g : Dev Cert.OutProj1.nD → PrngReg), Pre_OutProj1 m →
    θ_run (Cert.OutProj1.defs (F := Bits)) (onTc (τ := Cert.OutProj1.τ) (Cert.OutProj1.main (F := Bits))) ⟨m, fun _ => 0, g⟩ (fun r => (∀ c : Dev Cert.OutProj1.nD,
      r.2.mem ((c.tc : Thread Cert.OutProj1.nD Cert.OutProj1.τ).loc Cert.OutProj1.main_arg0) = m ((c.tc : Thread Cert.OutProj1.nD Cert.OutProj1.τ).loc Cert.OutProj1.main_arg0)
      ∧ r.2.mem ((c.tc : Thread Cert.OutProj1.nD Cert.OutProj1.τ).loc Cert.OutProj1.main_arg1) = m ((c.tc : Thread Cert.OutProj1.nD Cert.OutProj1.τ).loc Cert.OutProj1.main_arg1)
      ∧ r.2.mem ((c.tc : Thread Cert.OutProj1.nD Cert.OutProj1.τ).loc Cert.OutProj1.main_arg2) = m ((c.tc : Thread Cert.OutProj1.nD Cert.OutProj1.τ).loc Cert.OutProj1.main_arg2))
      ∧ r.2.sem = fun _ => 0)

def quiescent_OutProj1Ideal [hOutProj1Ideal : Cert.OutProj1Ideal.Facts] : Prop :=
  ∀ (m : (ℓ : Loc Cert.OutProj1Ideal.nD Cert.OutProj1Ideal.τ Cert.OutProj1Ideal.sig) → Buf (Elt Ideal) ℓ) (g : Dev Cert.OutProj1Ideal.nD → PrngReg), Pre_OutProj1Ideal m →
    θ_run (Cert.OutProj1Ideal.defs (F := Ideal)) (onTc (τ := Cert.OutProj1Ideal.τ) (Cert.OutProj1Ideal.main (F := Ideal))) ⟨m, fun _ => 0, g⟩ (fun r => (∀ c : Dev Cert.OutProj1Ideal.nD,
      r.2.mem ((c.tc : Thread Cert.OutProj1Ideal.nD Cert.OutProj1Ideal.τ).loc Cert.OutProj1Ideal.main_arg0) = m ((c.tc : Thread Cert.OutProj1Ideal.nD Cert.OutProj1Ideal.τ).loc Cert.OutProj1Ideal.main_arg0)
      ∧ r.2.mem ((c.tc : Thread Cert.OutProj1Ideal.nD Cert.OutProj1Ideal.τ).loc Cert.OutProj1Ideal.main_arg1) = m ((c.tc : Thread Cert.OutProj1Ideal.nD Cert.OutProj1Ideal.τ).loc Cert.OutProj1Ideal.main_arg1)
      ∧ r.2.mem ((c.tc : Thread Cert.OutProj1Ideal.nD Cert.OutProj1Ideal.τ).loc Cert.OutProj1Ideal.main_arg2) = m ((c.tc : Thread Cert.OutProj1Ideal.nD Cert.OutProj1Ideal.τ).loc Cert.OutProj1Ideal.main_arg2))
      ∧ r.2.sem = fun _ => 0)

def quiescent_OutProj1ReferenceIdeal [hOutProj1ReferenceIdeal : Cert.OutProj1ReferenceIdeal.Facts] : Prop :=
  ∀ (m : (ℓ : Loc Cert.OutProj1ReferenceIdeal.nD Cert.OutProj1ReferenceIdeal.τ Cert.OutProj1ReferenceIdeal.sig) → Buf (Elt Ideal) ℓ) (g : Dev Cert.OutProj1ReferenceIdeal.nD → PrngReg), Pre_OutProj1ReferenceIdeal m →
    θ_run (Cert.OutProj1ReferenceIdeal.defs (F := Ideal)) (onTc (τ := Cert.OutProj1ReferenceIdeal.τ) (Cert.OutProj1ReferenceIdeal.main (F := Ideal))) ⟨m, fun _ => 0, g⟩ (fun r => (∀ c : Dev Cert.OutProj1ReferenceIdeal.nD,
      r.2.mem ((c.tc : Thread Cert.OutProj1ReferenceIdeal.nD Cert.OutProj1ReferenceIdeal.τ).loc Cert.OutProj1ReferenceIdeal.main_arg0) = m ((c.tc : Thread Cert.OutProj1ReferenceIdeal.nD Cert.OutProj1ReferenceIdeal.τ).loc Cert.OutProj1ReferenceIdeal.main_arg0)
      ∧ r.2.mem ((c.tc : Thread Cert.OutProj1ReferenceIdeal.nD Cert.OutProj1ReferenceIdeal.τ).loc Cert.OutProj1ReferenceIdeal.main_arg1) = m ((c.tc : Thread Cert.OutProj1ReferenceIdeal.nD Cert.OutProj1ReferenceIdeal.τ).loc Cert.OutProj1ReferenceIdeal.main_arg1)
      ∧ r.2.mem ((c.tc : Thread Cert.OutProj1ReferenceIdeal.nD Cert.OutProj1ReferenceIdeal.τ).loc Cert.OutProj1ReferenceIdeal.main_arg2) = m ((c.tc : Thread Cert.OutProj1ReferenceIdeal.nD Cert.OutProj1ReferenceIdeal.τ).loc Cert.OutProj1ReferenceIdeal.main_arg2))
      ∧ r.2.sem = fun _ => 0)

def quiescent_DenseFfn [hDenseFfn : Cert.DenseFfn.Facts] : Prop :=
  ∀ (m : (ℓ : Loc Cert.DenseFfn.nD Cert.DenseFfn.τ Cert.DenseFfn.sig) → Buf (Elt Bits) ℓ) (g : Dev Cert.DenseFfn.nD → PrngReg), Pre_DenseFfn m →
    θ_run (Cert.DenseFfn.defs (F := Bits)) (onTc (τ := Cert.DenseFfn.τ) (Cert.DenseFfn.main (F := Bits))) ⟨m, fun _ => 0, g⟩ (fun r => (∀ c : Dev Cert.DenseFfn.nD,
      r.2.mem ((c.tc : Thread Cert.DenseFfn.nD Cert.DenseFfn.τ).loc Cert.DenseFfn.main_arg0) = m ((c.tc : Thread Cert.DenseFfn.nD Cert.DenseFfn.τ).loc Cert.DenseFfn.main_arg0)
      ∧ r.2.mem ((c.tc : Thread Cert.DenseFfn.nD Cert.DenseFfn.τ).loc Cert.DenseFfn.main_arg1) = m ((c.tc : Thread Cert.DenseFfn.nD Cert.DenseFfn.τ).loc Cert.DenseFfn.main_arg1)
      ∧ r.2.mem ((c.tc : Thread Cert.DenseFfn.nD Cert.DenseFfn.τ).loc Cert.DenseFfn.main_arg2) = m ((c.tc : Thread Cert.DenseFfn.nD Cert.DenseFfn.τ).loc Cert.DenseFfn.main_arg2)
      ∧ r.2.mem ((c.tc : Thread Cert.DenseFfn.nD Cert.DenseFfn.τ).loc Cert.DenseFfn.main_arg3) = m ((c.tc : Thread Cert.DenseFfn.nD Cert.DenseFfn.τ).loc Cert.DenseFfn.main_arg3)
      ∧ r.2.mem ((c.tc : Thread Cert.DenseFfn.nD Cert.DenseFfn.τ).loc Cert.DenseFfn.main_arg4) = m ((c.tc : Thread Cert.DenseFfn.nD Cert.DenseFfn.τ).loc Cert.DenseFfn.main_arg4))
      ∧ r.2.sem = fun _ => 0)

def quiescent_DenseFfnIdeal [hDenseFfnIdeal : Cert.DenseFfnIdeal.Facts] : Prop :=
  ∀ (m : (ℓ : Loc Cert.DenseFfnIdeal.nD Cert.DenseFfnIdeal.τ Cert.DenseFfnIdeal.sig) → Buf (Elt Ideal) ℓ) (g : Dev Cert.DenseFfnIdeal.nD → PrngReg), Pre_DenseFfnIdeal m →
    θ_run (Cert.DenseFfnIdeal.defs (F := Ideal)) (onTc (τ := Cert.DenseFfnIdeal.τ) (Cert.DenseFfnIdeal.main (F := Ideal))) ⟨m, fun _ => 0, g⟩ (fun r => (∀ c : Dev Cert.DenseFfnIdeal.nD,
      r.2.mem ((c.tc : Thread Cert.DenseFfnIdeal.nD Cert.DenseFfnIdeal.τ).loc Cert.DenseFfnIdeal.main_arg0) = m ((c.tc : Thread Cert.DenseFfnIdeal.nD Cert.DenseFfnIdeal.τ).loc Cert.DenseFfnIdeal.main_arg0)
      ∧ r.2.mem ((c.tc : Thread Cert.DenseFfnIdeal.nD Cert.DenseFfnIdeal.τ).loc Cert.DenseFfnIdeal.main_arg1) = m ((c.tc : Thread Cert.DenseFfnIdeal.nD Cert.DenseFfnIdeal.τ).loc Cert.DenseFfnIdeal.main_arg1)
      ∧ r.2.mem ((c.tc : Thread Cert.DenseFfnIdeal.nD Cert.DenseFfnIdeal.τ).loc Cert.DenseFfnIdeal.main_arg2) = m ((c.tc : Thread Cert.DenseFfnIdeal.nD Cert.DenseFfnIdeal.τ).loc Cert.DenseFfnIdeal.main_arg2)
      ∧ r.2.mem ((c.tc : Thread Cert.DenseFfnIdeal.nD Cert.DenseFfnIdeal.τ).loc Cert.DenseFfnIdeal.main_arg3) = m ((c.tc : Thread Cert.DenseFfnIdeal.nD Cert.DenseFfnIdeal.τ).loc Cert.DenseFfnIdeal.main_arg3)
      ∧ r.2.mem ((c.tc : Thread Cert.DenseFfnIdeal.nD Cert.DenseFfnIdeal.τ).loc Cert.DenseFfnIdeal.main_arg4) = m ((c.tc : Thread Cert.DenseFfnIdeal.nD Cert.DenseFfnIdeal.τ).loc Cert.DenseFfnIdeal.main_arg4))
      ∧ r.2.sem = fun _ => 0)

def quiescent_DenseFfnReferenceIdeal [hDenseFfnReferenceIdeal : Cert.DenseFfnReferenceIdeal.Facts] : Prop :=
  ∀ (m : (ℓ : Loc Cert.DenseFfnReferenceIdeal.nD Cert.DenseFfnReferenceIdeal.τ Cert.DenseFfnReferenceIdeal.sig) → Buf (Elt Ideal) ℓ) (g : Dev Cert.DenseFfnReferenceIdeal.nD → PrngReg), Pre_DenseFfnReferenceIdeal m →
    θ_run (Cert.DenseFfnReferenceIdeal.defs (F := Ideal)) (onTc (τ := Cert.DenseFfnReferenceIdeal.τ) (Cert.DenseFfnReferenceIdeal.main (F := Ideal))) ⟨m, fun _ => 0, g⟩ (fun r => (∀ c : Dev Cert.DenseFfnReferenceIdeal.nD,
      r.2.mem ((c.tc : Thread Cert.DenseFfnReferenceIdeal.nD Cert.DenseFfnReferenceIdeal.τ).loc Cert.DenseFfnReferenceIdeal.main_arg0) = m ((c.tc : Thread Cert.DenseFfnReferenceIdeal.nD Cert.DenseFfnReferenceIdeal.τ).loc Cert.DenseFfnReferenceIdeal.main_arg0)
      ∧ r.2.mem ((c.tc : Thread Cert.DenseFfnReferenceIdeal.nD Cert.DenseFfnReferenceIdeal.τ).loc Cert.DenseFfnReferenceIdeal.main_arg1) = m ((c.tc : Thread Cert.DenseFfnReferenceIdeal.nD Cert.DenseFfnReferenceIdeal.τ).loc Cert.DenseFfnReferenceIdeal.main_arg1)
      ∧ r.2.mem ((c.tc : Thread Cert.DenseFfnReferenceIdeal.nD Cert.DenseFfnReferenceIdeal.τ).loc Cert.DenseFfnReferenceIdeal.main_arg2) = m ((c.tc : Thread Cert.DenseFfnReferenceIdeal.nD Cert.DenseFfnReferenceIdeal.τ).loc Cert.DenseFfnReferenceIdeal.main_arg2)
      ∧ r.2.mem ((c.tc : Thread Cert.DenseFfnReferenceIdeal.nD Cert.DenseFfnReferenceIdeal.τ).loc Cert.DenseFfnReferenceIdeal.main_arg3) = m ((c.tc : Thread Cert.DenseFfnReferenceIdeal.nD Cert.DenseFfnReferenceIdeal.τ).loc Cert.DenseFfnReferenceIdeal.main_arg3)
      ∧ r.2.mem ((c.tc : Thread Cert.DenseFfnReferenceIdeal.nD Cert.DenseFfnReferenceIdeal.τ).loc Cert.DenseFfnReferenceIdeal.main_arg4) = m ((c.tc : Thread Cert.DenseFfnReferenceIdeal.nD Cert.DenseFfnReferenceIdeal.τ).loc Cert.DenseFfnReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v34) = v0 c
          ∧ r.2.mem ((c.tc : Thread Cert.InProjReferenceIdeal.nD Cert.InProjReferenceIdeal.τ).loc Cert.InProjReferenceIdeal.main_v33) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_InProj1_InProj1Ideal : Prop :=
  True

def algebraic_InProj1Ideal_InProj1ReferenceIdeal [hInProj1Ideal : Cert.InProj1Ideal.Facts] [hInProj1ReferenceIdeal : Cert.InProj1ReferenceIdeal.Facts] : Prop :=
  ∀ (m : (ℓ : Loc Cert.InProj1Ideal.nD Cert.InProj1Ideal.τ Cert.InProj1Ideal.sig) → Buf (Elt Ideal) ℓ) (g : Dev Cert.InProj1Ideal.nD → PrngReg)
    (m' : (ℓ : Loc Cert.InProj1ReferenceIdeal.nD Cert.InProj1ReferenceIdeal.τ Cert.InProj1ReferenceIdeal.sig) → Buf (Elt Ideal) ℓ) (g' : Dev Cert.InProj1ReferenceIdeal.nD → PrngReg), Pre_InProj1Ideal m →
    (∀ c : Dev Cert.InProj1Ideal.nD,
      m' ((c.tc : Thread Cert.InProj1ReferenceIdeal.nD Cert.InProj1ReferenceIdeal.τ).loc Cert.InProj1ReferenceIdeal.main_arg0) = m ((c.tc : Thread Cert.InProj1Ideal.nD Cert.InProj1Ideal.τ).loc Cert.InProj1Ideal.main_arg0)
      ∧ m' ((c.tc : Thread Cert.InProj1ReferenceIdeal.nD Cert.InProj1ReferenceIdeal.τ).loc Cert.InProj1ReferenceIdeal.main_arg1) = m ((c.tc : Thread Cert.InProj1Ideal.nD Cert.InProj1Ideal.τ).loc Cert.InProj1Ideal.main_arg1)
      ∧ m' ((c.tc : Thread Cert.InProj1ReferenceIdeal.nD Cert.InProj1ReferenceIdeal.τ).loc Cert.InProj1ReferenceIdeal.main_arg2) = m ((c.tc : Thread Cert.InProj1Ideal.nD Cert.InProj1Ideal.τ).loc Cert.InProj1Ideal.main_arg2)) →
    ∃ (v0 : (c : Dev Cert.InProj1Ideal.nD) → Buf (Elt Ideal) ((c.tc : Thread Cert.InProj1Ideal.nD Cert.InProj1Ideal.τ).loc Cert.InProj1Ideal.main_v11_0)) (v1 : (c : Dev Cert.InProj1Ideal.nD) → Buf (Elt Ideal) ((c.tc : Thread Cert.InProj1Ideal.nD Cert.InProj1Ideal.τ).loc Cert.InProj1Ideal.main_v11_1)),
      θ_run (Cert.InProj1Ideal.defs (F := Ideal)) (onTc (τ := Cert.InProj1Ideal.τ) (Cert.InProj1Ideal.main (F := Ideal))) ⟨m, fun _ => 0, g⟩ (fun r => ∀ c : Dev Cert.InProj1Ideal.nD,
          r.2.mem ((c.tc : Thread Cert.InProj1Ideal.nD Cert.InProj1Ideal.τ).loc Cert.InProj1Ideal.main_v11_0) = v0 c
          ∧ r.2.mem ((c.tc : Thread Cert.InProj1Ideal.nD Cert.InProj1Ideal.τ).loc Cert.InProj1Ideal.main_v11_1) = v1 c
          ∧ r.2.mem ((c.tc : Thread Cert.InProj1Ideal.nD Cert.InProj1Ideal.τ).loc Cert.InProj1Ideal.main_arg0) = m ((c.tc : Thread Cert.InProj1Ideal.nD Cert.InProj1Ideal.τ).loc Cert.InProj1Ideal.main_arg0)
          ∧ r.2.mem ((c.tc : Thread Cert.InProj1Ideal.nD Cert.InProj1Ideal.τ).loc Cert.InProj1Ideal.main_arg1) = m ((c.tc : Thread Cert.InProj1Ideal.nD Cert.InProj1Ideal.τ).loc Cert.InProj1Ideal.main_arg1)
          ∧ r.2.mem ((c.tc : Thread Cert.InProj1Ideal.nD Cert.InProj1Ideal.τ).loc Cert.InProj1Ideal.main_arg2) = m ((c.tc : Thread Cert.InProj1Ideal.nD Cert.InProj1Ideal.τ).loc Cert.InProj1Ideal.main_arg2))
      ∧ θ_run (Cert.InProj1ReferenceIdeal.defs (F := Ideal)) (onTc (τ := Cert.InProj1ReferenceIdeal.τ) (Cert.InProj1ReferenceIdeal.main (F := Ideal))) ⟨m', fun _ => 0, g'⟩ (fun r => ∀ c : Dev Cert.InProj1ReferenceIdeal.nD,
          r.2.mem ((c.tc : Thread Cert.InProj1ReferenceIdeal.nD Cert.InProj1ReferenceIdeal.τ).loc Cert.InProj1ReferenceIdeal.main_v34) = v0 c
          ∧ r.2.mem ((c.tc : Thread Cert.InProj1ReferenceIdeal.nD Cert.InProj1ReferenceIdeal.τ).loc Cert.InProj1ReferenceIdeal.main_v33) = v1 c
          ∧ r.2.mem ((c.tc : Thread Cert.InProj1ReferenceIdeal.nD Cert.InProj1ReferenceIdeal.τ).loc Cert.InProj1ReferenceIdeal.main_arg0) = m' ((c.tc : Thread Cert.InProj1ReferenceIdeal.nD Cert.InProj1ReferenceIdeal.τ).loc Cert.InProj1ReferenceIdeal.main_arg0)
          ∧ r.2.mem ((c.tc : Thread Cert.InProj1ReferenceIdeal.nD Cert.InProj1ReferenceIdeal.τ).loc Cert.InProj1ReferenceIdeal.main_arg1) = m' ((c.tc : Thread Cert.InProj1ReferenceIdeal.nD Cert.InProj1ReferenceIdeal.τ).loc Cert.InProj1ReferenceIdeal.main_arg1)
          ∧ r.2.mem ((c.tc : Thread Cert.InProj1ReferenceIdeal.nD Cert.InProj1ReferenceIdeal.τ).loc Cert.InProj1ReferenceIdeal.main_arg2) = m' ((c.tc : Thread Cert.InProj1ReferenceIdeal.nD Cert.InProj1ReferenceIdeal.τ).loc Cert.InProj1ReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)) (v2 : (c : Dev Cert.PrepIdeal.nD) → Buf (Elt Ideal) ((c.tc : Thread Cert.PrepIdeal.nD Cert.PrepIdeal.τ).loc Cert.PrepIdeal.main_v4_2)) (v3 : (c : Dev Cert.PrepIdeal.nD) → Buf (Elt Ideal) ((c.tc : Thread Cert.PrepIdeal.nD Cert.PrepIdeal.τ).loc Cert.PrepIdeal.main_v4_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_v4_2) = v2 c
          ∧ r.2.mem ((c.tc : Thread Cert.PrepIdeal.nD Cert.PrepIdeal.τ).loc Cert.PrepIdeal.main_v4_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v80) = v0 c
          ∧ r.2.mem ((c.tc : Thread Cert.PrepReferenceIdeal.nD Cert.PrepReferenceIdeal.τ).loc Cert.PrepReferenceIdeal.main_v82) = v1 c
          ∧ r.2.mem ((c.tc : Thread Cert.PrepReferenceIdeal.nD Cert.PrepReferenceIdeal.τ).loc Cert.PrepReferenceIdeal.main_v84) = v2 c
          ∧ r.2.mem ((c.tc : Thread Cert.PrepReferenceIdeal.nD Cert.PrepReferenceIdeal.τ).loc Cert.PrepReferenceIdeal.main_v85) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v27) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Merge1_Merge1Ideal : Prop :=
  True

def algebraic_Merge1Ideal_Merge1ReferenceIdeal [hMerge1Ideal : Cert.Merge1Ideal.Facts] [hMerge1ReferenceIdeal : Cert.Merge1ReferenceIdeal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.Merge1ReferenceIdeal.nD Cert.Merge1ReferenceIdeal.τ Cert.Merge1ReferenceIdeal.sig) → Buf (Elt Ideal) ℓ) (g' : Dev Cert.Merge1ReferenceIdeal.nD → PrngReg), Pre_Merge1Ideal m →
    (∀ c : Dev Cert.Merge1Ideal.nD,
      m' ((c.tc : Thread Cert.Merge1ReferenceIdeal.nD Cert.Merge1ReferenceIdeal.τ).loc Cert.Merge1ReferenceIdeal.main_arg0) = m ((c.tc : Thread Cert.Merge1Ideal.nD Cert.Merge1Ideal.τ).loc Cert.Merge1Ideal.main_arg0)
      ∧ m' ((c.tc : Thread Cert.Merge1ReferenceIdeal.nD Cert.Merge1ReferenceIdeal.τ).loc Cert.Merge1ReferenceIdeal.main_arg1) = m ((c.tc : Thread Cert.Merge1Ideal.nD Cert.Merge1Ideal.τ).loc Cert.Merge1Ideal.main_arg1)
      ∧ m' ((c.tc : Thread Cert.Merge1ReferenceIdeal.nD Cert.Merge1ReferenceIdeal.τ).loc Cert.Merge1ReferenceIdeal.main_arg2) = m ((c.tc : Thread Cert.Merge1Ideal.nD Cert.Merge1Ideal.τ).loc Cert.Merge1Ideal.main_arg2)
      ∧ m' ((c.tc : Thread Cert.Merge1ReferenceIdeal.nD Cert.Merge1ReferenceIdeal.τ).loc Cert.Merge1ReferenceIdeal.main_arg3) = m ((c.tc : Thread Cert.Merge1Ideal.nD Cert.Merge1Ideal.τ).loc Cert.Merge1Ideal.main_arg3)
      ∧ m' ((c.tc : Thread Cert.Merge1ReferenceIdeal.nD Cert.Merge1ReferenceIdeal.τ).loc Cert.Merge1ReferenceIdeal.main_arg4) = m ((c.tc : Thread Cert.Merge1Ideal.nD Cert.Merge1Ideal.τ).loc Cert.Merge1Ideal.main_arg4)) →
    ∃ (v0 : (c : Dev Cert.Merge1Ideal.nD) → Buf (Elt Ideal) ((c.tc : Thread Cert.Merge1Ideal.nD Cert.Merge1Ideal.τ).loc Cert.Merge1Ideal.main_v2)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v2) = v0 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
          ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
          ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4))
      ∧ θ_run (Cert.Merge1ReferenceIdeal.defs (F := Ideal)) (onTc (τ := Cert.Merge1ReferenceIdeal.τ) (Cert.Merge1ReferenceIdeal.main (F := Ideal))) ⟨m', fun _ => 0, g'⟩ (fun r => ∀ c : Dev Cert.Merge1ReferenceIdeal.nD,
          r.2.mem ((c.tc : Thread Cert.Merge1ReferenceIdeal.nD Cert.Merge1ReferenceIdeal.τ).loc Cert.Merge1ReferenceIdeal.main_v27) = v0 c
          ∧ r.2.mem ((c.tc : Thread Cert.Merge1ReferenceIdeal.nD Cert.Merge1ReferenceIdeal.τ).loc Cert.Merge1ReferenceIdeal.main_arg0) = m' ((c.tc : Thread Cert.Merge1ReferenceIdeal.nD Cert.Merge1ReferenceIdeal.τ).loc Cert.Merge1ReferenceIdeal.main_arg0)
          ∧ r.2.mem ((c.tc : Thread Cert.Merge1ReferenceIdeal.nD Cert.Merge1ReferenceIdeal.τ).loc Cert.Merge1ReferenceIdeal.main_arg1) = m' ((c.tc : Thread Cert.Merge1ReferenceIdeal.nD Cert.Merge1ReferenceIdeal.τ).loc Cert.Merge1ReferenceIdeal.main_arg1)
          ∧ r.2.mem ((c.tc : Thread Cert.Merge1ReferenceIdeal.nD Cert.Merge1ReferenceIdeal.τ).loc Cert.Merge1ReferenceIdeal.main_arg2) = m' ((c.tc : Thread Cert.Merge1ReferenceIdeal.nD Cert.Merge1ReferenceIdeal.τ).loc Cert.Merge1ReferenceIdeal.main_arg2)
          ∧ r.2.mem ((c.tc : Thread Cert.Merge1ReferenceIdeal.nD Cert.Merge1ReferenceIdeal.τ).loc Cert.Merge1ReferenceIdeal.main_arg3) = m' ((c.tc : Thread Cert.Merge1ReferenceIdeal.nD Cert.Merge1ReferenceIdeal.τ).loc Cert.Merge1ReferenceIdeal.main_arg3)
          ∧ r.2.mem ((c.tc : Thread Cert.Merge1ReferenceIdeal.nD Cert.Merge1ReferenceIdeal.τ).loc Cert.Merge1ReferenceIdeal.main_arg4) = m' ((c.tc : Thread Cert.Merge1ReferenceIdeal.nD Cert.Merge1ReferenceIdeal.τ).loc Cert.Merge1ReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_OutProj1_OutProj1Ideal : Prop :=
  True

def algebraic_OutProj1Ideal_OutProj1ReferenceIdeal [hOutProj1Ideal : Cert.OutProj1Ideal.Facts] [hOutProj1ReferenceIdeal : Cert.OutProj1ReferenceIdeal.Facts] : Prop :=
  ∀ (m : (ℓ : Loc Cert.OutProj1Ideal.nD Cert.OutProj1Ideal.τ Cert.OutProj1Ideal.sig) → Buf (Elt Ideal) ℓ) (g : Dev Cert.OutProj1Ideal.nD → PrngReg)
    (m' : (ℓ : Loc Cert.OutProj1ReferenceIdeal.nD Cert.OutProj1ReferenceIdeal.τ Cert.OutProj1ReferenceIdeal.sig) → Buf (Elt Ideal) ℓ) (g' : Dev Cert.OutProj1ReferenceIdeal.nD → PrngReg), Pre_OutProj1Ideal m →
    (∀ c : Dev Cert.OutProj1Ideal.nD,
      m' ((c.tc : Thread Cert.OutProj1ReferenceIdeal.nD Cert.OutProj1ReferenceIdeal.τ).loc Cert.OutProj1ReferenceIdeal.main_arg0) = m ((c.tc : Thread Cert.OutProj1Ideal.nD Cert.OutProj1Ideal.τ).loc Cert.OutProj1Ideal.main_arg0)
      ∧ m' ((c.tc : Thread Cert.OutProj1ReferenceIdeal.nD Cert.OutProj1ReferenceIdeal.τ).loc Cert.OutProj1ReferenceIdeal.main_arg1) = m ((c.tc : Thread Cert.OutProj1Ideal.nD Cert.OutProj1Ideal.τ).loc Cert.OutProj1Ideal.main_arg1)
      ∧ m' ((c.tc : Thread Cert.OutProj1ReferenceIdeal.nD Cert.OutProj1ReferenceIdeal.τ).loc Cert.OutProj1ReferenceIdeal.main_arg2) = m ((c.tc : Thread Cert.OutProj1Ideal.nD Cert.OutProj1Ideal.τ).loc Cert.OutProj1Ideal.main_arg2)) →
    ∃ (v0 : (c : Dev Cert.OutProj1Ideal.nD) → Buf (Elt Ideal) ((c.tc : Thread Cert.OutProj1Ideal.nD Cert.OutProj1Ideal.τ).loc Cert.OutProj1Ideal.main_v1)),
      θ_run (Cert.OutProj1Ideal.defs (F := Ideal)) (onTc (τ := Cert.OutProj1Ideal.τ) (Cert.OutProj1Ideal.main (F := Ideal))) ⟨m, fun _ => 0, g⟩ (fun r => ∀ c : Dev Cert.OutProj1Ideal.nD,
          r.2.mem ((c.tc : Thread Cert.OutProj1Ideal.nD Cert.OutProj1Ideal.τ).loc Cert.OutProj1Ideal.main_v1) = v0 c
          ∧ r.2.mem ((c.tc : Thread Cert.OutProj1Ideal.nD Cert.OutProj1Ideal.τ).loc Cert.OutProj1Ideal.main_arg0) = m ((c.tc : Thread Cert.OutProj1Ideal.nD Cert.OutProj1Ideal.τ).loc Cert.OutProj1Ideal.main_arg0)
          ∧ r.2.mem ((c.tc : Thread Cert.OutProj1Ideal.nD Cert.OutProj1Ideal.τ).loc Cert.OutProj1Ideal.main_arg1) = m ((c.tc : Thread Cert.OutProj1Ideal.nD Cert.OutProj1Ideal.τ).loc Cert.OutProj1Ideal.main_arg1)
          ∧ r.2.mem ((c.tc : Thread Cert.OutProj1Ideal.nD Cert.OutProj1Ideal.τ).loc Cert.OutProj1Ideal.main_arg2) = m ((c.tc : Thread Cert.OutProj1Ideal.nD Cert.OutProj1Ideal.τ).loc Cert.OutProj1Ideal.main_arg2))
      ∧ θ_run (Cert.OutProj1ReferenceIdeal.defs (F := Ideal)) (onTc (τ := Cert.OutProj1ReferenceIdeal.τ) (Cert.OutProj1ReferenceIdeal.main (F := Ideal))) ⟨m', fun _ => 0, g'⟩ (fun r => ∀ c : Dev Cert.OutProj1ReferenceIdeal.nD,
          r.2.mem ((c.tc : Thread Cert.OutProj1ReferenceIdeal.nD Cert.OutProj1ReferenceIdeal.τ).loc Cert.OutProj1ReferenceIdeal.main_v4) = v0 c
          ∧ r.2.mem ((c.tc : Thread Cert.OutProj1ReferenceIdeal.nD Cert.OutProj1ReferenceIdeal.τ).loc Cert.OutProj1ReferenceIdeal.main_arg0) = m' ((c.tc : Thread Cert.OutProj1ReferenceIdeal.nD Cert.OutProj1ReferenceIdeal.τ).loc Cert.OutProj1ReferenceIdeal.main_arg0)
          ∧ r.2.mem ((c.tc : Thread Cert.OutProj1ReferenceIdeal.nD Cert.OutProj1ReferenceIdeal.τ).loc Cert.OutProj1ReferenceIdeal.main_arg1) = m' ((c.tc : Thread Cert.OutProj1ReferenceIdeal.nD Cert.OutProj1ReferenceIdeal.τ).loc Cert.OutProj1ReferenceIdeal.main_arg1)
          ∧ r.2.mem ((c.tc : Thread Cert.OutProj1ReferenceIdeal.nD Cert.OutProj1ReferenceIdeal.τ).loc Cert.OutProj1ReferenceIdeal.main_arg2) = m' ((c.tc : Thread Cert.OutProj1ReferenceIdeal.nD Cert.OutProj1ReferenceIdeal.τ).loc Cert.OutProj1ReferenceIdeal.main_arg2))

def preserves_DenseFfn_DenseFfnIdeal : Prop :=
  True

def algebraic_DenseFfnIdeal_DenseFfnReferenceIdeal [hDenseFfnIdeal : Cert.DenseFfnIdeal.Facts] [hDenseFfnReferenceIdeal : Cert.DenseFfnReferenceIdeal.Facts] : Prop :=
  ∀ (m : (ℓ : Loc Cert.DenseFfnIdeal.nD Cert.DenseFfnIdeal.τ Cert.DenseFfnIdeal.sig) → Buf (Elt Ideal) ℓ) (g : Dev Cert.DenseFfnIdeal.nD → PrngReg)
    (m' : (ℓ : Loc Cert.DenseFfnReferenceIdeal.nD Cert.DenseFfnReferenceIdeal.τ Cert.DenseFfnReferenceIdeal.sig) → Buf (Elt Ideal) ℓ) (g' : Dev Cert.DenseFfnReferenceIdeal.nD → PrngReg), Pre_DenseFfnIdeal m →
    (∀ c : Dev Cert.DenseFfnIdeal.nD,
      m' ((c.tc : Thread Cert.DenseFfnReferenceIdeal.nD Cert.DenseFfnReferenceIdeal.τ).loc Cert.DenseFfnReferenceIdeal.main_arg0) = m ((c.tc : Thread Cert.DenseFfnIdeal.nD Cert.DenseFfnIdeal.τ).loc Cert.DenseFfnIdeal.main_arg0)
      ∧ m' ((c.tc : Thread Cert.DenseFfnReferenceIdeal.nD Cert.DenseFfnReferenceIdeal.τ).loc Cert.DenseFfnReferenceIdeal.main_arg1) = m ((c.tc : Thread Cert.DenseFfnIdeal.nD Cert.DenseFfnIdeal.τ).loc Cert.DenseFfnIdeal.main_arg1)
      ∧ m' ((c.tc : Thread Cert.DenseFfnReferenceIdeal.nD Cert.DenseFfnReferenceIdeal.τ).loc Cert.DenseFfnReferenceIdeal.main_arg2) = m ((c.tc : Thread Cert.DenseFfnIdeal.nD Cert.DenseFfnIdeal.τ).loc Cert.DenseFfnIdeal.main_arg2)
      ∧ m' ((c.tc : Thread Cert.DenseFfnReferenceIdeal.nD Cert.DenseFfnReferenceIdeal.τ).loc Cert.DenseFfnReferenceIdeal.main_arg3) = m ((c.tc : Thread Cert.DenseFfnIdeal.nD Cert.DenseFfnIdeal.τ).loc Cert.DenseFfnIdeal.main_arg3)
      ∧ m' ((c.tc : Thread Cert.DenseFfnReferenceIdeal.nD Cert.DenseFfnReferenceIdeal.τ).loc Cert.DenseFfnReferenceIdeal.main_arg4) = m ((c.tc : Thread Cert.DenseFfnIdeal.nD Cert.DenseFfnIdeal.τ).loc Cert.DenseFfnIdeal.main_arg4)) →
    ∃ (v0 : (c : Dev Cert.DenseFfnIdeal.nD) → Buf (Elt Ideal) ((c.tc : Thread Cert.DenseFfnIdeal.nD Cert.DenseFfnIdeal.τ).loc Cert.DenseFfnIdeal.main_v15)),
      θ_run (Cert.DenseFfnIdeal.defs (F := Ideal)) (onTc (τ := Cert.DenseFfnIdeal.τ) (Cert.DenseFfnIdeal.main (F := Ideal))) ⟨m, fun _ => 0, g⟩ (fun r => ∀ c : Dev Cert.DenseFfnIdeal.nD,
          r.2.mem ((c.tc : Thread Cert.DenseFfnIdeal.nD Cert.DenseFfnIdeal.τ).loc Cert.DenseFfnIdeal.main_v15) = v0 c
          ∧ r.2.mem ((c.tc : Thread Cert.DenseFfnIdeal.nD Cert.DenseFfnIdeal.τ).loc Cert.DenseFfnIdeal.main_arg0) = m ((c.tc : Thread Cert.DenseFfnIdeal.nD Cert.DenseFfnIdeal.τ).loc Cert.DenseFfnIdeal.main_arg0)
          ∧ r.2.mem ((c.tc : Thread Cert.DenseFfnIdeal.nD Cert.DenseFfnIdeal.τ).loc Cert.DenseFfnIdeal.main_arg1) = m ((c.tc : Thread Cert.DenseFfnIdeal.nD Cert.DenseFfnIdeal.τ).loc Cert.DenseFfnIdeal.main_arg1)
          ∧ r.2.mem ((c.tc : Thread Cert.DenseFfnIdeal.nD Cert.DenseFfnIdeal.τ).loc Cert.DenseFfnIdeal.main_arg2) = m ((c.tc : Thread Cert.DenseFfnIdeal.nD Cert.DenseFfnIdeal.τ).loc Cert.DenseFfnIdeal.main_arg2)
          ∧ r.2.mem ((c.tc : Thread Cert.DenseFfnIdeal.nD Cert.DenseFfnIdeal.τ).loc Cert.DenseFfnIdeal.main_arg3) = m ((c.tc : Thread Cert.DenseFfnIdeal.nD Cert.DenseFfnIdeal.τ).loc Cert.DenseFfnIdeal.main_arg3)
          ∧ r.2.mem ((c.tc : Thread Cert.DenseFfnIdeal.nD Cert.DenseFfnIdeal.τ).loc Cert.DenseFfnIdeal.main_arg4) = m ((c.tc : Thread Cert.DenseFfnIdeal.nD Cert.DenseFfnIdeal.τ).loc Cert.DenseFfnIdeal.main_arg4))
      ∧ θ_run (Cert.DenseFfnReferenceIdeal.defs (F := Ideal)) (onTc (τ := Cert.DenseFfnReferenceIdeal.τ) (Cert.DenseFfnReferenceIdeal.main (F := Ideal))) ⟨m', fun _ => 0, g'⟩ (fun r => ∀ c : Dev Cert.DenseFfnReferenceIdeal.nD,
          r.2.mem ((c.tc : Thread Cert.DenseFfnReferenceIdeal.nD Cert.DenseFfnReferenceIdeal.τ).loc Cert.DenseFfnReferenceIdeal.main_v23) = v0 c
          ∧ r.2.mem ((c.tc : Thread Cert.DenseFfnReferenceIdeal.nD Cert.DenseFfnReferenceIdeal.τ).loc Cert.DenseFfnReferenceIdeal.main_arg0) = m' ((c.tc : Thread Cert.DenseFfnReferenceIdeal.nD Cert.DenseFfnReferenceIdeal.τ).loc Cert.DenseFfnReferenceIdeal.main_arg0)
          ∧ r.2.mem ((c.tc : Thread Cert.DenseFfnReferenceIdeal.nD Cert.DenseFfnReferenceIdeal.τ).loc Cert.DenseFfnReferenceIdeal.main_arg1) = m' ((c.tc : Thread Cert.DenseFfnReferenceIdeal.nD Cert.DenseFfnReferenceIdeal.τ).loc Cert.DenseFfnReferenceIdeal.main_arg1)
          ∧ r.2.mem ((c.tc : Thread Cert.DenseFfnReferenceIdeal.nD Cert.DenseFfnReferenceIdeal.τ).loc Cert.DenseFfnReferenceIdeal.main_arg2) = m' ((c.tc : Thread Cert.DenseFfnReferenceIdeal.nD Cert.DenseFfnReferenceIdeal.τ).loc Cert.DenseFfnReferenceIdeal.main_arg2)
          ∧ r.2.mem ((c.tc : Thread Cert.DenseFfnReferenceIdeal.nD Cert.DenseFfnReferenceIdeal.τ).loc Cert.DenseFfnReferenceIdeal.main_arg3) = m' ((c.tc : Thread Cert.DenseFfnReferenceIdeal.nD Cert.DenseFfnReferenceIdeal.τ).loc Cert.DenseFfnReferenceIdeal.main_arg3)
          ∧ r.2.mem ((c.tc : Thread Cert.DenseFfnReferenceIdeal.nD Cert.DenseFfnReferenceIdeal.τ).loc Cert.DenseFfnReferenceIdeal.main_arg4) = m' ((c.tc : Thread Cert.DenseFfnReferenceIdeal.nD Cert.DenseFfnReferenceIdeal.τ).loc Cert.DenseFfnReferenceIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hInProj1 : Cert.InProj1.Facts) (hInProj1Ideal : Cert.InProj1Ideal.Facts) (hInProj1ReferenceIdeal : Cert.InProj1ReferenceIdeal.Facts) (hPrep : Cert.Prep.Facts) (hPrepIdeal : Cert.PrepIdeal.Facts) (hPrepReferenceIdeal : Cert.PrepReferenceIdeal.Facts) (hMerge : Cert.Merge.Facts) (hMergeIdeal : Cert.MergeIdeal.Facts) (hMergeReferenceIdeal : Cert.MergeReferenceIdeal.Facts) (hMerge1 : Cert.Merge1.Facts) (hMerge1Ideal : Cert.Merge1Ideal.Facts) (hMerge1ReferenceIdeal : Cert.Merge1ReferenceIdeal.Facts) (hOutProj : Cert.OutProj.Facts) (hOutProjIdeal : Cert.OutProjIdeal.Facts) (hOutProjReferenceIdeal : Cert.OutProjReferenceIdeal.Facts) (hOutProj1 : Cert.OutProj1.Facts) (hOutProj1Ideal : Cert.OutProj1Ideal.Facts) (hOutProj1ReferenceIdeal : Cert.OutProj1ReferenceIdeal.Facts) (hDenseFfn : Cert.DenseFfn.Facts) (hDenseFfnIdeal : Cert.DenseFfnIdeal.Facts) (hDenseFfnReferenceIdeal : Cert.DenseFfnReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_InProj (hInProj := hInProj)
    ∧ quiescent_InProjIdeal (hInProjIdeal := hInProjIdeal)
    ∧ quiescent_InProjReferenceIdeal (hInProjReferenceIdeal := hInProjReferenceIdeal)
    ∧ quiescent_InProj1 (hInProj1 := hInProj1)
    ∧ quiescent_InProj1Ideal (hInProj1Ideal := hInProj1Ideal)
    ∧ quiescent_InProj1ReferenceIdeal (hInProj1ReferenceIdeal := hInProj1ReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Merge1 (hMerge1 := hMerge1)
    ∧ quiescent_Merge1Ideal (hMerge1Ideal := hMerge1Ideal)
    ∧ quiescent_Merge1ReferenceIdeal (hMerge1ReferenceIdeal := hMerge1ReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OutProj1 (hOutProj1 := hOutProj1)
    ∧ quiescent_OutProj1Ideal (hOutProj1Ideal := hOutProj1Ideal)
    ∧ quiescent_OutProj1ReferenceIdeal (hOutProj1ReferenceIdeal := hOutProj1ReferenceIdeal)
    ∧ quiescent_DenseFfn (hDenseFfn := hDenseFfn)
    ∧ quiescent_DenseFfnIdeal (hDenseFfnIdeal := hDenseFfnIdeal)
    ∧ quiescent_DenseFfnReferenceIdeal (hDenseFfnReferenceIdeal := hDenseFfnReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_InProj_InProjIdeal
    ∧ algebraic_InProjIdeal_InProjReferenceIdeal (hInProjIdeal := hInProjIdeal) (hInProjReferenceIdeal := hInProjReferenceIdeal)
    ∧ preserves_InProj1_InProj1Ideal
    ∧ algebraic_InProj1Ideal_InProj1ReferenceIdeal (hInProj1Ideal := hInProj1Ideal) (hInProj1ReferenceIdeal := hInProj1ReferenceIdeal)
    ∧ preserves_Prep_PrepIdeal
    ∧ algebraic_PrepIdeal_PrepReferenceIdeal (hPrepIdeal := hPrepIdeal) (hPrepReferenceIdeal := hPrepReferenceIdeal)
    ∧ preserves_Merge_MergeIdeal
    ∧ algebraic_MergeIdeal_MergeReferenceIdeal (hMergeIdeal := hMergeIdeal) (hMergeReferenceIdeal := hMergeReferenceIdeal)
    ∧ preserves_Merge1_Merge1Ideal
    ∧ algebraic_Merge1Ideal_Merge1ReferenceIdeal (hMerge1Ideal := hMerge1Ideal) (hMerge1ReferenceIdeal := hMerge1ReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OutProj1_OutProj1Ideal
    ∧ algebraic_OutProj1Ideal_OutProj1ReferenceIdeal (hOutProj1Ideal := hOutProj1Ideal) (hOutProj1ReferenceIdeal := hOutProj1ReferenceIdeal)
    ∧ preserves_DenseFfn_DenseFfnIdeal
    ∧ algebraic_DenseFfnIdeal_DenseFfnReferenceIdeal (hDenseFfnIdeal := hDenseFfnIdeal) (hDenseFfnReferenceIdeal := hDenseFfnReferenceIdeal)
-- ==== Pre_finite_inputs.lean ====
abbrev S16384x12800 : Shape := ⟨2, ![16384, 12800]⟩
abbrev S32 : Shape := ⟨1, ![32]⟩
abbrev S32x32 : Shape := ⟨2, ![32, 32]⟩
abbrev S16384x2304 : Shape := ⟨2, ![16384, 2304]⟩
abbrev S_ : Shape := ⟨0, ![]⟩

class Facts : Prop where
  slices_S16384x12800_S16384x2304_0_6144 : S16384x12800.Slices ![0, 6144] S16384x2304
  bitsLt_bf16_f32 : FTy.bits .bf16 < FTy.bits .f32
  bcast_S_S16384x2304 : S_.BroadcastsInDim S16384x2304 (![] : Fin 0 → Fin S16384x2304.rank)
  reducesTo_S16384x2304_S_d0_1 : S16384x2304.ReducesTo [0, 1] S_
  h_S_ : 0 < S_.numel
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S16384x12800 .bf16) (main_arg1 : FVec F S32 .f32) (main_arg2 : FVec F S32x32 .f32) : IVec S_ 1 :=
  let main_v0 : FVec F S16384x2304 .bf16 := (extractStridedSlice S16384x2304 ![0, 6144] · slices_S16384x12800_S16384x2304_0_6144) main_arg0
  let main_v1 : FVec F S16384x2304 .f32 := (extf .f32 · bitsLt_bf16_f32) main_v0
  let main_v2 : FVec F S16384x2304 .f32 := Host.absf main_v1
  let main_cst : FVec F S_ .f32 := constant S_ .f32 0x7F800000#32
  let main_v3 : FVec F S16384x2304 .f32 := broadcastInDim S16384x2304 ![] bcast_S_S16384x2304 main_cst
  let main_v4 : IVec S16384x2304 1 := cmpf .olt main_v2 main_v3
  let main_c : IVec S_ 1 := constantI S_ 1 1#1
  let main_v5 : IVec S_ 1 := (fun x v => Host.reduce IntOp.andi x v reducesTo_S16384x2304_S_d0_1 h_S_) main_v4 main_c
  let main_v6 : FVec F S32 .f32 := Host.absf main_arg1
  let main_cst_0 : FVec F S_ .f32 := constant S_ .f32 0x7F800000#32
  let main_v7 : FVec F S32 .f32 := broadcastInDim S32 ![] bcast_S_S32 main_cst_0
  let main_v8 : IVec S32 1 := cmpf .olt main_v6 main_v7
  let main_c_1 : IVec S_ 1 := constantI S_ 1 1#1
  let main_v9 : IVec S_ 1 := (fun x v => Host.reduce IntOp.andi x v reducesTo_S32_S_d0 h_S_) main_v8 main_c_1
  let main_v10 : IVec S_ 1 := andi main_v5 main_v9
  let main_v11 : FVec F S32x32 .f32 := Host.absf main_arg2
  let main_cst_2 : FVec F S_ .f32 := constant S_ .f32 0x7F800000#32
  let main_v12 : FVec F S32x32 .f32 := broadcastInDim S32x32 ![] bcast_S_S32x32 main_cst_2
  let main_v13 : IVec S32x32 1 := cmpf .olt main_v11 main_v12
  let main_c_3 : IVec S_ 1 := constantI S_ 1 1#1
  let main_v14 : IVec S_ 1 := (fun x v => Host.reduce IntOp.andi x v reducesTo_S32x32_S_d0_1 h_S_) main_v13 main_c_3
  let main_v15 : IVec S_ 1 := andi main_v10 main_v14
  main_v15
-- ==== Kernel.lean ====
abbrev S16384x12800 : Shape := ⟨2, ![16384, 12800]⟩
abbrev S32 : Shape := ⟨1, ![32]⟩
abbrev S32x32 : Shape := ⟨2, ![32, 32]⟩
abbrev S128 : Shape := ⟨1, ![128]⟩
abbrev S_ : Shape := ⟨0, ![]⟩
abbrev S128x1 : Shape := ⟨2, ![128, 1]⟩
abbrev S128x32 : Shape := ⟨2, ![128, 32]⟩
abbrev S1x32 : Shape := ⟨2, ![1, 32]⟩
abbrev S255x32 : Shape := ⟨2, ![255, 32]⟩
abbrev S384x32 : Shape := ⟨2, ![384, 32]⟩
abbrev S32x384 : Shape := ⟨2, ![32, 384]⟩
abbrev S1x32x1x384 : Shape := ⟨4, ![1, 32, 1, 384]⟩
abbrev S1x32x128x384 : Shape := ⟨4, ![1, 32, 128, 384]⟩
abbrev S32x49152 : Shape := ⟨2, ![32, 49152]⟩
abbrev S32x49024 : Shape := ⟨2, ![32, 49024]⟩
abbrev S32x128x383 : Shape := ⟨3, ![32, 128, 383]⟩
abbrev S32x128x256 : Shape := ⟨3, ![32, 128, 256]⟩
abbrev S256 : Shape := ⟨1, ![256]⟩
abbrev S1x1x256 : Shape := ⟨3, ![1, 1, 256]⟩
abbrev S1x32x128x256 : Shape := ⟨4, ![1, 32, 128, 256]⟩
abbrev S2x32x128x256 : Shape := ⟨4, ![2, 32, 128, 256]⟩
abbrev S2x4x4x2x128x256 : Shape := ⟨6, ![2, 4, 4, 2, 128, 256]⟩
abbrev S2x4x4x128x2x256 : Shape := ⟨6, ![2, 4, 4, 128, 2, 256]⟩
abbrev S2x4x512x512 : Shape := ⟨4, ![2, 4, 512, 512]⟩
abbrev S4x4x2 : Shape := ⟨3, ![4, 4, 2]⟩
abbrev S4x2x4 : Shape := ⟨3, ![4, 2, 4]⟩
abbrev S4x2x4x1x1 : Shape := ⟨5, ![4, 2, 4, 1, 1]⟩
abbrev S4x2x4x128x128 : Shape := ⟨5, ![4, 2, 4, 128, 128]⟩
abbrev S4x2x512x128 : Shape := ⟨4, ![4, 2, 512, 128]⟩
abbrev S16384x2048 : Shape := ⟨2, ![16384, 2048]⟩
abbrev S128x2048 : Shape := ⟨2, ![128, 2048]⟩
abbrev S128x256 : Shape := ⟨2, ![128, 256]⟩
abbrev S1x4x512x512 : Shape := ⟨4, ![1, 4, 512, 512]⟩
abbrev S256x64 : Shape := ⟨2, ![256, 64]⟩
abbrev S1x128 : Shape := ⟨2, ![1, 128]⟩
abbrev S128x64 : Shape := ⟨2, ![128, 64]⟩
abbrev S256x128 : Shape := ⟨2, ![256, 128]⟩
abbrev S512x128 : Shape := ⟨2, ![512, 128]⟩
abbrev S128x128 : Shape := ⟨2, ![128, 128]⟩
abbrev S512x512 : Shape := ⟨2, ![512, 512]⟩
abbrev S1x1x512x512 : Shape := ⟨4, ![1, 1, 512, 512]⟩
abbrev S256x256 : Shape := ⟨2, ![256, 256]⟩
abbrev S512x256 : Shape := ⟨2, ![512, 256]⟩
abbrev S1x1x512x128 : Shape := ⟨4, ![1, 1, 512, 128]⟩
abbrev S512 : Shape := ⟨1, ![512]⟩
abbrev S512x1 : Shape := ⟨2, ![512, 1]⟩

abbrev nBuf : Space → Nat
  | .hbm => 73
  | .vmem => 15
  | .smem => 0
  | _ => 0

abbrev bufTy : (tb : Table) → Fin (tcTables nBuf tb) → BufTy
  | .hbm, ⟨0, _⟩ => ⟨S16384x12800, .bf16⟩
  | .hbm, ⟨1, _⟩ => ⟨S32, .f32⟩
  | .hbm, ⟨2, _⟩ => ⟨S32x32, .f32⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S128, .i32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S128x32, .f32⟩
  | .hbm, ⟨38, _⟩ => ⟨S_, .f32⟩
  | .hbm, ⟨39, _⟩ => ⟨S1x32, .f32⟩
  | .hbm, ⟨40, _⟩ => ⟨S128x32, .f32⟩
  | .hbm, ⟨41, _⟩ => ⟨S_, .f32⟩
  | .hbm, ⟨42, _⟩ => ⟨S255x32, .f32⟩
  | .hbm, ⟨43, _⟩ => ⟨S384x32, .f32⟩
  | .hbm, ⟨44, _⟩ => ⟨S32x384, .f32⟩
  | .hbm, ⟨45, _⟩ => ⟨S1x32x1x384, .f32⟩
  | .hbm, ⟨46, _⟩ => ⟨S1x32x128x384, .f32⟩
  | .hbm, ⟨47, _⟩ => ⟨S32x49152, .f32⟩
  | .hbm, ⟨48, _⟩ => ⟨S32x49024, .f32⟩
  | .hbm, ⟨49, _⟩ => ⟨S32x128x383, .f32⟩
  | .hbm, ⟨50, _⟩ => ⟨S32x128x256, .f32⟩
  | .hbm, ⟨51, _⟩ => ⟨S256, .i32⟩
  | .hbm, ⟨52, _⟩ => ⟨S1x1x256, .i32⟩
  | .hbm, ⟨53, _⟩ => ⟨S_, .i32⟩
  | .hbm, ⟨54, _⟩ => ⟨S1x1x256, .i32⟩
  | .hbm, ⟨55, _⟩ => ⟨S1x1x256, .i1⟩
  | .hbm, ⟨56, _⟩ => ⟨S_, .f32⟩
  | .hbm, ⟨57, _⟩ => ⟨S_, .f32⟩
  | .hbm, ⟨58, _⟩ => ⟨S32x128x256, .i1⟩
  | .hbm, ⟨59, _⟩ => ⟨S32x128x256, .f32⟩
  | .hbm, ⟨60, _⟩ => ⟨S32x128x256, .f32⟩
  | .hbm, ⟨61, _⟩ => ⟨S1x32x128x256, .f32⟩
  | .hbm, ⟨62, _⟩ => ⟨S1x32x128x256, .f32⟩
  | .hbm, ⟨63, _⟩ => ⟨S2x32x128x256, .f32⟩
  | .hbm, ⟨64, _⟩ => ⟨S2x4x4x2x128x256, .f32⟩
  | .hbm, ⟨65, _⟩ => ⟨S2x4x4x128x2x256, .f32⟩
  | .hbm, ⟨66, _⟩ => ⟨S2x4x512x512, .f32⟩
  | .hbm, ⟨67, _⟩ => ⟨S4x4x2, .f32⟩
  | .hbm, ⟨68, _⟩ => ⟨S4x2x4, .f32⟩
  | .hbm, ⟨69, _⟩ => ⟨S4x2x4x1x1, .f32⟩
  | .hbm, ⟨70, _⟩ => ⟨S4x2x4x128x128, .f32⟩
  | .hbm, ⟨71, _⟩ => ⟨S4x2x512x128, .f32⟩
  | .hbm, ⟨72, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S1x4x512x512, .f32⟩
  | .local _ .vmem, ⟨11, _⟩ => ⟨S1x4x512x512, .f32⟩
  | .local _ .vmem, ⟨12, _⟩ => ⟨S4x2x512x128, .f32⟩
  | .local _ .vmem, ⟨13, _⟩ => ⟨S128x2048, .bf16⟩
  | .local _ .vmem, ⟨14, _⟩ => ⟨S128x2048, .bf16⟩
  | _, _ => ⟨S16384x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c32_i32_0 : BitVec 32 := 32#32
  let c0_i32_1 : BitVec 32 := 0#32
  ![v3.toNat, c32_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c32_i32_0 : BitVec 32 := 32#32
  let c0_i32 : BitVec 32 := 0#32
  ![v1.toNat, c32_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c33_i32 : BitVec 32 := 33#32
  let c0_i32_0 : BitVec 32 := 0#32
  ![v3.toNat, c33_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c33_i32 : BitVec 32 := 33#32
  let c0_i32 : BitVec 32 := 0#32
  ![v1.toNat, c33_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x2x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x12800 : Shape := ⟨2, ![16384, 12800]⟩
abbrev S32 : Shape := ⟨1, ![32]⟩
abbrev S32x32 : Shape := ⟨2, ![32, 32]⟩
abbrev S16384x2048 : Shape := ⟨2, ![16384, 2048]⟩
abbrev S4x4096x32x64 : Shape := ⟨4, ![4, 4096, 32, 64]⟩
abbrev S16384x256 : Shape := ⟨2, ![16384, 256]⟩
abbrev S4x4096x4x64 : Shape := ⟨4, ![4, 4096, 4, 64]⟩
abbrev S4x32x128x4x8x64 : Shape := ⟨6, ![4, 32, 128, 4, 8, 64]⟩
abbrev S4x32x128x4x64 : Shape := ⟨5, ![4, 32, 128, 4, 64]⟩
abbrev S_ : Shape := ⟨0, ![]⟩
abbrev S4x4224x4x64 : Shape := ⟨4, ![4, 4224, 4, 64]⟩
abbrev S4x32x256x4x64 : Shape := ⟨5, ![4, 32, 256, 4, 64]⟩
abbrev S4x4x32x256x128x8 : Shape := ⟨6, ![4, 4, 32, 256, 128, 8]⟩
abbrev S4x4x8x32x128x256 : Shape := ⟨6, ![4, 4, 8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S128x256x1 : Shape := ⟨3, ![128, 256, 1]⟩
abbrev S128x256x32 : Shape := ⟨3, ![128, 256, 32]⟩
abbrev S4x8x1x128x256 : Shape := ⟨5, ![4, 8, 1, 128, 256]⟩
abbrev S1x4x8x1x128x256 : Shape := ⟨6, ![1, 4, 8, 1, 128, 256]⟩
abbrev S4x8x1x1x1 : Shape := ⟨5, ![4, 8, 1, 1, 1]⟩
abbrev S4x4x8x32x128 : Shape := ⟨5, ![4, 4, 8, 32, 128]⟩
abbrev S4x4x8x32x128x1 : Shape := ⟨6, ![4, 4, 8, 32, 128, 1]⟩
abbrev S1x4x8x1x1x1 : Shape := ⟨6, ![1, 4, 8, 1, 1, 1]⟩
abbrev S4x32x4x64x8x128 : Shape := ⟨6, ![4, 32, 4, 64, 8, 128]⟩
abbrev S4x4096x2048 : Shape := ⟨3, ![4, 4096, 2048]⟩

abbrev nBuf : Space → Nat
  | .hbm => 140
  | .vmem => 0
  | .smem => 0
  | _ => 0

abbrev hbmTy0_0 (i : Nat) : BufTy := match i % 128 with
  | 0 => ⟨S16384x12800, .bf16⟩
  | 1 => ⟨S32, .f32⟩
  | 2 => ⟨S32x32, .f32⟩
  | 3 => ⟨S16384x12800, .f32⟩
  | 4 => ⟨S16384x2048, .f32⟩
  | 5 => ⟨S4x4096x32x64, .f32⟩
  | 6 => ⟨S16384x256, .f32⟩
  | 7 => ⟨S4x4096x4x64, .f32⟩
  | 8 => ⟨S16384x256, .f32⟩
  | 9 => ⟨S4x4096x4x64, .f32⟩
  | 10 => ⟨S4x32x128x4x8x64, .f32⟩
  | 11 => ⟨S4x32x128x4x64, .f32⟩
  | 12 => ⟨S_, .i32⟩
  | 13 => ⟨S_, .f32⟩
  | 14 => ⟨S4x4224x4x64, .f32⟩
  | 15 => ⟨S4x4096x4x64, .f32⟩
  | 16 => ⟨S4x32x128x4x64, .f32⟩
  | 17 => ⟨S4x32x256x4x64, .f32⟩
  | 18 => ⟨S4x32x128x4x64, .f32⟩
  | 19 => ⟨S_, .i32⟩
  | 20 => ⟨S_, .f32⟩
  | 21 => ⟨S4x4224x4x64, .f32⟩
  | 22 => ⟨S4x4096x4x64, .f32⟩
  | 23 => ⟨S4x32x128x4x64, .f32⟩
  | 24 => ⟨S4x32x256x4x64, .f32⟩
  | 25 => ⟨S4x4x32x256x128x8, .f32⟩
  | 26 => ⟨S4x4x8x32x128x256, .f32⟩
  | 27 => ⟨S_, .f32⟩
  | 28 => ⟨S4x4x8x32x128x256, .f32⟩
  | 29 => ⟨S4x4x8x32x128x256, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S1x128x256, .i1⟩
  | 48 => ⟨S32, .i32⟩
  | 49 => ⟨S32x1x1, .i32⟩
  | 50 => ⟨S_, .i32⟩
  | 51 => ⟨S32x1x1, .i32⟩
  | 52 => ⟨S32x1x1, .i1⟩
  | 53 => ⟨S_, .i32⟩
  | 54 => ⟨S1x256, .i32⟩
  | 55 => ⟨S1x256, .i1⟩
  | 56 => ⟨S1x1x256, .i1⟩
  | 57 => ⟨S32x1x256, .i1⟩
  | 58 => ⟨S32x1x256, .i1⟩
  | 59 => ⟨S32x1x256, .i1⟩
  | 60 => ⟨S32x128x256, .i1⟩
  | 61 => ⟨S32x128x256, .i1⟩
  | 62 => ⟨S32x128x256, .i1⟩
  | 63 => ⟨S_, .i32⟩
  | 64 => ⟨S_, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i32⟩
  | 74 => ⟨S128x256, .f32⟩
  | 75 => ⟨S_, .f32⟩
  | 76 => ⟨S128x256, .f32⟩
  | 77 => ⟨S128x256, .f32⟩
  | 78 => ⟨S128x256, .f32⟩
  | 79 => ⟨S_, .f32⟩
  | 80 => ⟨S128x256, .f32⟩
  | 81 => ⟨S128x256, .f32⟩
  | 82 => ⟨S_, .f32⟩
  | 83 => ⟨S128x256, .f32⟩
  | 84 => ⟨S128x256, .f32⟩
  | 85 => ⟨S128x256, .i32⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i32⟩
  | 92 => ⟨S_, .i32⟩
  | 93 => ⟨S128x256, .i32⟩
  | 94 => ⟨S128x256, .i1⟩
  | 95 => ⟨S128x256, .i32⟩
  | 96 => ⟨S_, .i32⟩
  | 97 => ⟨S128x256, .i32⟩
  | 98 => ⟨S128x256, .i1⟩
  | 99 => ⟨S_, .i32⟩
  | 100 => ⟨S128x256, .i32⟩
  | 101 => ⟨S128x256, .i32⟩
  | 102 => ⟨S128x256, .i32⟩
  | 103 => ⟨S128x256x1, .i32⟩
  | 104 => ⟨S128x256x32, .f32⟩
  | 105 => ⟨S32x128x256, .f32⟩
  | 106 => ⟨S4x8x1x128x256, .f32⟩
  | 107 => ⟨S1x4x8x1x128x256, .f32⟩
  | 108 => ⟨S4x4x8x32x128x256, .f32⟩
  | 109 => ⟨S4x4x8x32x128x256, .f32⟩
  | 110 => ⟨S_, .f32⟩
  | 111 => ⟨S_, .f32⟩
  | 112 => ⟨S4x4x8x32x128x256, .i1⟩
  | 113 => ⟨S4x4x8x32x128x256, .f32⟩
  | 114 => ⟨S4x4x8x32x128x256, .f32⟩
  | 115 => ⟨S4x8x1x1x1, .f32⟩
  | 116 => ⟨S_, .f32⟩
  | 117 => ⟨S4x4x8x32x128, .f32⟩
  | 118 => ⟨S4x4x8x32x128x1, .f32⟩
  | 119 => ⟨S1x4x8x1x1x1, .f32⟩
  | 120 => ⟨S4x4x8x32x128x1, .f32⟩
  | 121 => ⟨S4x4x8x32x128x1, .f32⟩
  | 122 => ⟨S4x4x8x32x128x256, .f32⟩
  | 123 => ⟨S4x4x8x32x128x256, .f32⟩
  | 124 => ⟨S4x4x8x32x128x256, .f32⟩
  | 125 => ⟨S_, .f32⟩
  | 126 => ⟨S4x4x8x32x128, .f32⟩
  | 127 => ⟨S4x4x8x32x128x1, .f32⟩
  | _ => ⟨S16384x12800, .bf16⟩

abbrev hbmTy0_1 (i : Nat) : BufTy := match i % 128 with
  | 0 => ⟨S1x4x8x1x1x1, .f32⟩
  | 1 => ⟨S4x4x8x32x128x1, .f32⟩
  | 2 => ⟨S4x4x8x32x128x1, .f32⟩
  | 3 => ⟨S4x4x8x32x128x1, .f32⟩
  | 4 => ⟨S4x4x8x32x128x1, .f32⟩
  | 5 => ⟨S4x4x8x32x128x256, .f32⟩
  | 6 => ⟨S4x4x8x32x128x256, .f32⟩
  | 7 => ⟨S4x32x4x64x8x128, .f32⟩
  | 8 => ⟨S4x32x128x4x8x64, .f32⟩
  | 9 => ⟨S4x4096x2048, .f32⟩
  | 10 => ⟨S16384x2048, .f32⟩
  | 11 => ⟨S16384x2048, .bf16⟩
  | _ => ⟨S16384x12800, .bf16⟩

abbrev hbmTy (i : Nat) : BufTy := match i / 128 with
  | 0 => hbmTy0_0 i
  | 1 => hbmTy0_1 i
  | _ => ⟨S16384x12800, .bf16⟩

abbrev bufTy : (tb : Table) → Fin (tcTables nBuf tb) → BufTy
  | .hbm, ⟨i, _⟩ => hbmTy i
  | _, _ => ⟨S16384x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_6 : Ref sig .tc := ⟨.hbm, 63, rfl⟩
abbrev main_c_7 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]
-- ==== InProj.lean ====
abbrev S4x4096x2048 : Shape := ⟨3, ![4, 4096, 2048]⟩
abbrev S2x2048 : Shape := ⟨2, ![2, 2048]⟩
abbrev S2x2048x12832 : Shape := ⟨3, ![2, 2048, 12832]⟩
abbrev S16384x2048 : Shape := ⟨2, ![16384, 2048]⟩
abbrev S2x2048x6144 : Shape := ⟨3, ![2, 2048, 6144]⟩
abbrev S2x2048x6656 : Shape := ⟨3, ![2, 2048, 6656]⟩
abbrev S2x2048x12800 : Shape := ⟨3, ![2, 2048, 12800]⟩
abbrev S2x2048x32 : Shape := ⟨3, ![2, 2048, 32]⟩
abbrev S_ : Shape := ⟨0, ![]⟩
abbrev S2x2048x128 : Shape := ⟨3, ![2, 2048, 128]⟩
abbrev S1x2048 : Shape := ⟨2, ![1, 2048]⟩
abbrev S2048 : Shape := ⟨1, ![2048]⟩
abbrev S16384x12800 : Shape := ⟨2, ![16384, 12800]⟩
abbrev S16384x128 : Shape := ⟨2, ![16384, 128]⟩
abbrev S1024x2048 : Shape := ⟨2, ![1024, 2048]⟩
abbrev S1x2048x1280 : Shape := ⟨3, ![1, 2048, 1280]⟩
abbrev S1x2048x128 : Shape := ⟨3, ![1, 2048, 128]⟩
abbrev S1024x1280 : Shape := ⟨2, ![1024, 1280]⟩
abbrev S1024x128 : Shape := ⟨2, ![1024, 128]⟩
abbrev S1024 : Shape := ⟨1, ![1024]⟩
abbrev S1024x1 : Shape := ⟨2, ![1024, 1]⟩
abbrev S2048x128 : Shape := ⟨2, ![2048, 128]⟩
abbrev S2048x1280 : Shape := ⟨2, ![2048, 1280]⟩

abbrev nBuf : Space → Nat
  | .hbm => 18
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x12832, .f32⟩
  | .hbm, ⟨3, _⟩ => ⟨S16384x2048, .f32⟩
  | .hbm, ⟨4, _⟩ => ⟨S2x2048x6144, .f32⟩
  | .hbm, ⟨5, _⟩ => ⟨S2x2048x6656, .f32⟩
  | .hbm, ⟨6, _⟩ => ⟨S2x2048x12800, .f32⟩
  | .hbm, ⟨7, _⟩ => ⟨S2x2048x12800, .bf16⟩
  | .hbm, ⟨8, _⟩ => ⟨S2x2048x32, .f32⟩
  | .hbm, ⟨9, _⟩ => ⟨S_, .i32⟩
  | .hbm, ⟨10, _⟩ => ⟨S_, .f32⟩
  | .hbm, ⟨11, _⟩ => ⟨S2x2048x128, .f32⟩
  | .hbm, ⟨12, _⟩ => ⟨S2x2048x128, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S16384x12800, .bf16⟩
  | .hbm, ⟨17, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1280, .bf16⟩
  | .local _ .vmem, ⟨4, _⟩ => ⟨S1x2048x1280, .bf16⟩
  | .local _ .vmem, ⟨5, _⟩ => ⟨S1x2048x128, .bf16⟩
  | .local _ .vmem, ⟨6, _⟩ => ⟨S1024x1280, .bf16⟩
  | .local _ .vmem, ⟨7, _⟩ => ⟨S1024x1280, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjReferenceIdeal.lean ====
abbrev S4x4096x2048 : Shape := ⟨3, ![4, 4096, 2048]⟩
abbrev S2x2048 : Shape := ⟨2, ![2, 2048]⟩
abbrev S2x2048x12832 : Shape := ⟨3, ![2, 2048, 12832]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x12832 : Shape := ⟨3, ![1, 2048, 12832]⟩
abbrev S2048x12832 : Shape := ⟨2, ![2048, 12832]⟩
abbrev S4x4096x12832 : Shape := ⟨3, ![4, 4096, 12832]⟩
abbrev S4x4096x1024 : Shape := ⟨3, ![4, 4096, 1024]⟩
abbrev S4x4096x16 : Shape := ⟨3, ![4, 4096, 16]⟩
abbrev S4x4096x256 : Shape := ⟨3, ![4, 4096, 256]⟩
abbrev S4x4096x12800 : Shape := ⟨3, ![4, 4096, 12800]⟩
abbrev S16384x12800 : Shape := ⟨2, ![16384, 12800]⟩
abbrev S4x4096x96 : Shape := ⟨3, ![4, 4096, 96]⟩
abbrev S4x4096x128 : Shape := ⟨3, ![4, 4096, 128]⟩
abbrev S16384x128 : Shape := ⟨2, ![16384, 128]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x12832, .f32⟩
  | .hbm, ⟨3, _⟩ => ⟨S1x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S1x2048x12832, .f32⟩
  | .hbm, ⟨22, _⟩ => ⟨S2048x12832, .f32⟩
  | .hbm, ⟨23, _⟩ => ⟨S4x4096x12832, .f32⟩
  | .hbm, ⟨24, _⟩ => ⟨S4x4096x1024, .f32⟩
  | .hbm, ⟨25, _⟩ => ⟨S4x4096x1024, .f32⟩
  | .hbm, ⟨26, _⟩ => ⟨S4x4096x2048, .f32⟩
  | .hbm, ⟨27, _⟩ => ⟨S4x4096x2048, .f32⟩
  | .hbm, ⟨28, _⟩ => ⟨S4x4096x16, .f32⟩
  | .hbm, ⟨29, _⟩ => ⟨S4x4096x16, .f32⟩
  | .hbm, ⟨30, _⟩ => ⟨S4x4096x2048, .f32⟩
  | .hbm, ⟨31, _⟩ => ⟨S4x4096x256, .f32⟩
  | .hbm, ⟨32, _⟩ => ⟨S4x4096x256, .f32⟩
  | .hbm, ⟨33, _⟩ => ⟨S4x4096x2048, .f32⟩
  | .hbm, ⟨34, _⟩ => ⟨S4x4096x2048, .f32⟩
  | .hbm, ⟨35, _⟩ => ⟨S4x4096x12800, .f32⟩
  | .hbm, ⟨36, _⟩ => ⟨S16384x12800, .f32⟩
  | .hbm, ⟨37, _⟩ => ⟨S_, .f32⟩
  | .hbm, ⟨38, _⟩ => ⟨S4x4096x96, .f32⟩
  | .hbm, ⟨39, _⟩ => ⟨S4x4096x128, .f32⟩
  | .hbm, ⟨40, _⟩ => ⟨S16384x128, .f32⟩
  | .hbm, ⟨41, _⟩ => ⟨S16384x12800, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== InProj1.lean ====
abbrev S4x4096x2048 : Shape := ⟨3, ![4, 4096, 2048]⟩
abbrev S2x2048 : Shape := ⟨2, ![2, 2048]⟩
abbrev S2x2048x12832 : Shape := ⟨3, ![2, 2048, 12832]⟩
abbrev S16384x2048 : Shape := ⟨2, ![16384, 2048]⟩
abbrev S2x2048x6144 : Shape := ⟨3, ![2, 2048, 6144]⟩
abbrev S2x2048x6656 : Shape := ⟨3, ![2, 2048, 6656]⟩
abbrev S2x2048x12800 : Shape := ⟨3, ![2, 2048, 12800]⟩
abbrev S2x2048x32 : Shape := ⟨3, ![2, 2048, 32]⟩
abbrev S_ : Shape := ⟨0, ![]⟩
abbrev S2x2048x128 : Shape := ⟨3, ![2, 2048, 128]⟩
abbrev S1x2048 : Shape := ⟨2, ![1, 2048]⟩
abbrev S2048 : Shape := ⟨1, ![2048]⟩
abbrev S16384x12800 : Shape := ⟨2, ![16384, 12800]⟩
abbrev S16384x128 : Shape := ⟨2, ![16384, 128]⟩
abbrev S1024x2048 : Shape := ⟨2, ![1024, 2048]⟩
abbrev S1x2048x1280 : Shape := ⟨3, ![1, 2048, 1280]⟩
abbrev S1x2048x128 : Shape := ⟨3, ![1, 2048, 128]⟩
abbrev S1024x1280 : Shape := ⟨2, ![1024, 1280]⟩
abbrev S1024x128 : Shape := ⟨2, ![1024, 128]⟩
abbrev S1024 : Shape := ⟨1, ![1024]⟩
abbrev S1024x1 : Shape := ⟨2, ![1024, 1]⟩
abbrev S2048x128 : Shape := ⟨2, ![2048, 128]⟩
abbrev S2048x1280 : Shape := ⟨2, ![2048, 1280]⟩

abbrev nBuf : Space → Nat
  | .hbm => 18
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x12832, .f32⟩
  | .hbm, ⟨3, _⟩ => ⟨S16384x2048, .f32⟩
  | .hbm, ⟨4, _⟩ => ⟨S2x2048x6144, .f32⟩
  | .hbm, ⟨5, _⟩ => ⟨S2x2048x6656, .f32⟩
  | .hbm, ⟨6, _⟩ => ⟨S2x2048x12800, .f32⟩
  | .hbm, ⟨7, _⟩ => ⟨S2x2048x12800, .bf16⟩
  | .hbm, ⟨8, _⟩ => ⟨S2x2048x32, .f32⟩
  | .hbm, ⟨9, _⟩ => ⟨S_, .i32⟩
  | .hbm, ⟨10, _⟩ => ⟨S_, .f32⟩
  | .hbm, ⟨11, _⟩ => ⟨S2x2048x128, .f32⟩
  | .hbm, ⟨12, _⟩ => ⟨S2x2048x128, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S16384x12800, .bf16⟩
  | .hbm, ⟨17, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1280, .bf16⟩
  | .local _ .vmem, ⟨4, _⟩ => ⟨S1x2048x1280, .bf16⟩
  | .local _ .vmem, ⟨5, _⟩ => ⟨S1x2048x128, .bf16⟩
  | .local _ .vmem, ⟨6, _⟩ => ⟨S1024x1280, .bf16⟩
  | .local _ .vmem, ⟨7, _⟩ => ⟨S1024x1280, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProj1ReferenceIdeal.lean ====
abbrev S4x4096x2048 : Shape := ⟨3, ![4, 4096, 2048]⟩
abbrev S2x2048 : Shape := ⟨2, ![2, 2048]⟩
abbrev S2x2048x12832 : Shape := ⟨3, ![2, 2048, 12832]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x12832 : Shape := ⟨3, ![1, 2048, 12832]⟩
abbrev S2048x12832 : Shape := ⟨2, ![2048, 12832]⟩
abbrev S4x4096x12832 : Shape := ⟨3, ![4, 4096, 12832]⟩
abbrev S4x4096x1024 : Shape := ⟨3, ![4, 4096, 1024]⟩
abbrev S4x4096x16 : Shape := ⟨3, ![4, 4096, 16]⟩
abbrev S4x4096x256 : Shape := ⟨3, ![4, 4096, 256]⟩
abbrev S4x4096x12800 : Shape := ⟨3, ![4, 4096, 12800]⟩
abbrev S16384x12800 : Shape := ⟨2, ![16384, 12800]⟩
abbrev S4x4096x96 : Shape := ⟨3, ![4, 4096, 96]⟩
abbrev S4x4096x128 : Shape := ⟨3, ![4, 4096, 128]⟩
abbrev S16384x128 : Shape := ⟨2, ![16384, 128]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x12832, .f32⟩
  | .hbm, ⟨3, _⟩ => ⟨S1x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S1x2048x12832, .f32⟩
  | .hbm, ⟨22, _⟩ => ⟨S2048x12832, .f32⟩
  | .hbm, ⟨23, _⟩ => ⟨S4x4096x12832, .f32⟩
  | .hbm, ⟨24, _⟩ => ⟨S4x4096x1024, .f32⟩
  | .hbm, ⟨25, _⟩ => ⟨S4x4096x1024, .f32⟩
  | .hbm, ⟨26, _⟩ => ⟨S4x4096x2048, .f32⟩
  | .hbm, ⟨27, _⟩ => ⟨S4x4096x2048, .f32⟩
  | .hbm, ⟨28, _⟩ => ⟨S4x4096x16, .f32⟩
  | .hbm, ⟨29, _⟩ => ⟨S4x4096x16, .f32⟩
  | .hbm, ⟨30, _⟩ => ⟨S4x4096x2048, .f32⟩
  | .hbm, ⟨31, _⟩ => ⟨S4x4096x256, .f32⟩
  | .hbm, ⟨32, _⟩ => ⟨S4x4096x256, .f32⟩
  | .hbm, ⟨33, _⟩ => ⟨S4x4096x2048, .f32⟩
  | .hbm, ⟨34, _⟩ => ⟨S4x4096x2048, .f32⟩
  | .hbm, ⟨35, _⟩ => ⟨S4x4096x12800, .f32⟩
  | .hbm, ⟨36, _⟩ => ⟨S16384x12800, .f32⟩
  | .hbm, ⟨37, _⟩ => ⟨S_, .f32⟩
  | .hbm, ⟨38, _⟩ => ⟨S4x4096x96, .f32⟩
  | .hbm, ⟨39, _⟩ => ⟨S4x4096x128, .f32⟩
  | .hbm, ⟨40, _⟩ => ⟨S16384x128, .f32⟩
  | .hbm, ⟨41, _⟩ => ⟨S16384x12800, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Prep.lean ====
abbrev S16384x12800 : Shape := ⟨2, ![16384, 12800]⟩
abbrev S16384x128 : Shape := ⟨2, ![16384, 128]⟩
abbrev S4x4096 : Shape := ⟨2, ![4, 4096]⟩
abbrev S16 : Shape := ⟨1, ![16]⟩
abbrev S_ : Shape := ⟨0, ![]⟩
abbrev S128 : Shape := ⟨1, ![128]⟩
abbrev S1x128 : Shape := ⟨2, ![1, 128]⟩
abbrev S16384x1024 : Shape := ⟨2, ![16384, 1024]⟩
abbrev S16384x2048 : Shape := ⟨2, ![16384, 2048]⟩
abbrev S256x4096 : Shape := ⟨2, ![256, 4096]⟩
abbrev S16x4096 : Shape := ⟨2, ![16, 4096]⟩
abbrev S256x128 : Shape := ⟨2, ![256, 128]⟩
abbrev S256x1024 : Shape := ⟨2, ![256, 1024]⟩
abbrev S256x2048 : Shape := ⟨2, ![256, 2048]⟩
abbrev S8x128 : Shape := ⟨2, ![8, 128]⟩
abbrev S264x128 : Shape := ⟨2, ![264, 128]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S16384x12800, .bf16⟩
  | .hbm, ⟨1, _⟩ => ⟨S16384x128, .f32⟩
  | .hbm, ⟨2, _⟩ => ⟨S4x4096, .f32⟩
  | .hbm, ⟨3, _⟩ => ⟨S16, .f32⟩
  | .hbm, ⟨4, _⟩ => ⟨S16, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S16384x1024, .bf16⟩
  | .hbm, ⟨14, _⟩ => ⟨S16384x1024, .bf16⟩
  | .hbm, ⟨15, _⟩ => ⟨S16384x2048, .bf16⟩
  | .hbm, ⟨16, _⟩ => ⟨S16384x128, .f32⟩
  | .local _ .vmem, ⟨0, _⟩ => ⟨S256x4096, .bf16⟩
  | .local _ .vmem, ⟨1, _⟩ => ⟨S256x4096, .bf16⟩
  | .local _ .vmem, ⟨2, _⟩ => ⟨S16x4096, .bf16⟩
  | .local _ .vmem, ⟨3, _⟩ => ⟨S16x4096, .bf16⟩
  | .local _ .vmem, ⟨4, _⟩ => ⟨S4x4096, .f32⟩
  | .local _ .vmem, ⟨5, _⟩ => ⟨S256x128, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x2048, .bf16⟩
  | .local _ .vmem, ⟨14, _⟩ => ⟨S256x2048, .bf16⟩
  | .local _ .vmem, ⟨15, _⟩ => ⟨S256x128, .f32⟩
  | .local _ .vmem, ⟨16, _⟩ => ⟨S256x128, .f32⟩
  | _, _ => ⟨S16384x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrepReferenceIdeal.lean ====
abbrev S16384x12800 : Shape := ⟨2, ![16384, 12800]⟩
abbrev S16384x128 : Shape := ⟨2, ![16384, 128]⟩
abbrev S4x4096 : Shape := ⟨2, ![4, 4096]⟩
abbrev S16 : Shape := ⟨1, ![16]⟩
abbrev S16384x4096 : Shape := ⟨2, ![16384, 4096]⟩
abbrev S4x4096x4096 : Shape := ⟨3, ![4, 4096, 4096]⟩
abbrev S16384x16 : Shape := ⟨2, ![16384, 16]⟩
abbrev S4x4096x16 : Shape := ⟨3, ![4, 4096, 16]⟩
abbrev S_ : Shape := ⟨0, ![]⟩
abbrev S4x4099x4096 : Shape := ⟨3, ![4, 4099, 4096]⟩
abbrev S1x4096 : Shape := ⟨2, ![1, 4096]⟩
abbrev S4096 : Shape := ⟨1, ![4096]⟩
abbrev S1x1x4096 : Shape := ⟨3, ![1, 1, 4096]⟩
abbrev S4x4096x1024 : Shape := ⟨3, ![4, 4096, 1024]⟩
abbrev S4x4096x2048 : Shape := ⟨3, ![4, 4096, 2048]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x16 : Shape := ⟨3, ![1, 1, 16]⟩
abbrev S4x64x64x16 : Shape := ⟨4, ![4, 64, 64, 16]⟩
abbrev S4x4096x96 : Shape := ⟨3, ![4, 4096, 96]⟩
abbrev S4x4096x128 : Shape := ⟨3, ![4, 4096, 128]⟩
abbrev S16384x1024 : Shape := ⟨2, ![16384, 1024]⟩
abbrev S16384x2048 : Shape := ⟨2, ![16384, 2048]⟩

abbrev nBuf : Space → Nat
  | .hbm => 124
  | .vmem => 0
  | .smem => 0
  | _ => 0

abbrev bufTy : (tb : Table) → Fin (tcTables nBuf tb) → BufTy
  | .hbm, ⟨0, _⟩ => ⟨S16384x12800, .bf16⟩
  | .hbm, ⟨1, _⟩ => ⟨S16384x128, .f32⟩
  | .hbm, ⟨2, _⟩ => ⟨S4x4096, .f32⟩
  | .hbm, ⟨3, _⟩ => ⟨S16, .f32⟩
  | .hbm, ⟨4, _⟩ => ⟨S16, .f32⟩
  | .hbm, ⟨5, _⟩ => ⟨S16384x4096, .bf16⟩
  | .hbm, ⟨6, _⟩ => ⟨S16384x4096, .f32⟩
  | .hbm, ⟨7, _⟩ => ⟨S4x4096x4096, .f32⟩
  | .hbm, ⟨8, _⟩ => ⟨S16384x16, .f32⟩
  | .hbm, ⟨9, _⟩ => ⟨S4x4096x16, .f32⟩
  | .hbm, ⟨10, _⟩ => ⟨S16384x16, .f32⟩
  | .hbm, ⟨11, _⟩ => ⟨S4x4096x16, .f32⟩
  | .hbm, ⟨12, _⟩ => ⟨S_, .i32⟩
  | .hbm, ⟨13, _⟩ => ⟨S_, .f32⟩
  | .hbm, ⟨14, _⟩ => ⟨S4x4099x4096, .f32⟩
  | .hbm, ⟨15, _⟩ => ⟨S4x4096x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S1x4096, .f32⟩
  | .hbm, ⟨23, _⟩ => ⟨S4096, .f32⟩
  | .hbm, ⟨24, _⟩ => ⟨S1x1x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S1x4096, .f32⟩
  | .hbm, ⟨30, _⟩ => ⟨S4096, .f32⟩
  | .hbm, ⟨31, _⟩ => ⟨S1x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S1x4096, .f32⟩
  | .hbm, ⟨37, _⟩ => ⟨S4096, .f32⟩
  | .hbm, ⟨38, _⟩ => ⟨S1x1x4096, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S_, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x1024, .f32⟩
  | .hbm, ⟨52, _⟩ => ⟨S4x4096x1024, .f32⟩
  | .hbm, ⟨53, _⟩ => ⟨S4x4096x2048, .f32⟩
  | .hbm, ⟨54, _⟩ => ⟨S4x4096x8x128, .f32⟩
  | .hbm, ⟨55, _⟩ => ⟨S4x4096x8x128, .f32⟩
  | .hbm, ⟨56, _⟩ => ⟨S_, .f32⟩
  | .hbm, ⟨57, _⟩ => ⟨S4x4096x8, .f32⟩
  | .hbm, ⟨58, _⟩ => ⟨S4x4096x8x1, .f32⟩
  | .hbm, ⟨59, _⟩ => ⟨S_, .f32⟩
  | .hbm, ⟨60, _⟩ => ⟨S4x4096x8x1, .f32⟩
  | .hbm, ⟨61, _⟩ => ⟨S4x4096x8x1, .f32⟩
  | .hbm, ⟨62, _⟩ => ⟨S4x4096x8x1, .f32⟩
  | .hbm, ⟨63, _⟩ => ⟨S4x4096x8x128, .f32⟩
  | .hbm, ⟨64, _⟩ => ⟨S4x4096x8x128, .f32⟩
  | .hbm, ⟨65, _⟩ => ⟨S_, .f32⟩
  | .hbm, ⟨66, _⟩ => ⟨S4x4096x8x128, .f32⟩
  | .hbm, ⟨67, _⟩ => ⟨S4x4096x8x128, .f32⟩
  | .hbm, ⟨68, _⟩ => ⟨S4x4096x8x128, .f32⟩
  | .hbm, ⟨69, _⟩ => ⟨S4x4096x8x128, .f32⟩
  | .hbm, ⟨70, _⟩ => ⟨S_, .f32⟩
  | .hbm, ⟨71, _⟩ => ⟨S4x4096x8, .f32⟩
  | .hbm, ⟨72, _⟩ => ⟨S4x4096x8x1, .f32⟩
  | .hbm, ⟨73, _⟩ => ⟨S_, .f32⟩
  | .hbm, ⟨74, _⟩ => ⟨S4x4096x8x1, .f32⟩
  | .hbm, ⟨75, _⟩ => ⟨S4x4096x8x1, .f32⟩
  | .hbm, ⟨76, _⟩ => ⟨S4x4096x8x1, .f32⟩
  | .hbm, ⟨77, _⟩ => ⟨S4x4096x8x128, .f32⟩
  | .hbm, ⟨78, _⟩ => ⟨S4x4096x8x128, .f32⟩
  | .hbm, ⟨79, _⟩ => ⟨S4x4096x16, .f32⟩
  | .hbm, ⟨80, _⟩ => ⟨S4x4096x16, .f32⟩
  | .hbm, ⟨81, _⟩ => ⟨S_, .f32⟩
  | .hbm, ⟨82, _⟩ => ⟨S4x4096x16, .f32⟩
  | .hbm, ⟨83, _⟩ => ⟨S4x4096x16, .f32⟩
  | .hbm, ⟨84, _⟩ => ⟨S_, .f32⟩
  | .hbm, ⟨85, _⟩ => ⟨S4x4096x16, .f32⟩
  | .hbm, ⟨86, _⟩ => ⟨S4x4096x16, .f32⟩
  | .hbm, ⟨87, _⟩ => ⟨S16, .f32⟩
  | .hbm, ⟨88, _⟩ => ⟨S16, .f32⟩
  | .hbm, ⟨89, _⟩ => ⟨S1x1x16, .f32⟩
  | .hbm, ⟨90, _⟩ => ⟨S4x4096x16, .f32⟩
  | .hbm, ⟨91, _⟩ => ⟨S4x4096x16, .f32⟩
  | .hbm, ⟨92, _⟩ => ⟨S_, .f32⟩
  | .hbm, ⟨93, _⟩ => ⟨S4x4096x16, .f32⟩
  | .hbm, ⟨94, _⟩ => ⟨S4x4096x16, .f32⟩
  | .hbm, ⟨95, _⟩ => ⟨S4x4096x16, .f32⟩
  | .hbm, ⟨96, _⟩ => ⟨S4x4096x16, .f32⟩
  | .hbm, ⟨97, _⟩ => ⟨S4x4096x16, .i1⟩
  | .hbm, ⟨98, _⟩ => ⟨S4x4096x16, .f32⟩
  | .hbm, ⟨99, _⟩ => ⟨S4x4096x16, .f32⟩
  | .hbm, ⟨100, _⟩ => ⟨S4x4096x16, .f32⟩
  | .hbm, ⟨101, _⟩ => ⟨S4x4096x16, .f32⟩
  | .hbm, ⟨102, _⟩ => ⟨S4x4096x16, .f32⟩
  | .hbm, ⟨103, _⟩ => ⟨S4x4096x16, .f32⟩
  | .hbm, ⟨104, _⟩ => ⟨S4x4096x16, .f32⟩
  | .hbm, ⟨105, _⟩ => ⟨S4x4096x16, .f32⟩
  | .hbm, ⟨106, _⟩ => ⟨S1x1x16, .f32⟩
  | .hbm, ⟨107, _⟩ => ⟨S4x4096x16, .f32⟩
  | .hbm, ⟨108, _⟩ => ⟨S4x4096x16, .f32⟩
  | .hbm, ⟨109, _⟩ => ⟨S4x64x64x16, .f32⟩
  | .hbm, ⟨110, _⟩ => ⟨S_, .f32⟩
  | .hbm, ⟨111, _⟩ => ⟨S_, .f32⟩
  | .hbm, ⟨112, _⟩ => ⟨S4x64x64x16, .f32⟩
  | .hbm, ⟨113, _⟩ => ⟨S4x4096x16, .f32⟩
  | .hbm, ⟨114, _⟩ => ⟨S_, .f32⟩
  | .hbm, ⟨115, _⟩ => ⟨S4x4096x96, .f32⟩
  | .hbm, ⟨116, _⟩ => ⟨S4x4096x128, .f32⟩
  | .hbm, ⟨117, _⟩ => ⟨S16384x1024, .f32⟩
  | .hbm, ⟨118, _⟩ => ⟨S16384x1024, .bf16⟩
  | .hbm, ⟨119, _⟩ => ⟨S16384x1024, .f32⟩
  | .hbm, ⟨120, _⟩ => ⟨S16384x1024, .bf16⟩
  | .hbm, ⟨121, _⟩ => ⟨S16384x2048, .f32⟩
  | .hbm, ⟨122, _⟩ => ⟨S16384x2048, .bf16⟩
  | .hbm, ⟨123, _⟩ => ⟨S16384x128, .f32⟩
  | _, _ => ⟨S16384x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst : Ref sig .tc := ⟨.hbm, 56, rfl⟩
abbrev main_v41 : Ref sig .tc := ⟨.hbm, 57, rfl⟩
abbrev main_v42 : Ref sig .tc := ⟨.hbm, 58, rfl⟩
abbrev main_cst_0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_1 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_2 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_4 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call3_call0_cst : Ref sig .tc := ⟨.hbm, 110, rfl⟩
abbrev main_call3_call0_v0 : Ref sig .tc := ⟨.hbm, 111, rfl⟩
abbrev main_v75 : Ref sig .tc := ⟨.hbm, 112, rfl⟩
abbrev main_v76 : Ref sig .tc := ⟨.hbm, 113, rfl⟩
abbrev main_cst_6 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩

abbrev nD : Nat := 1
abbrev τ : Topo := Topo.v7x

variable {F : FTy → Type} [FloatOps F]
-- ==== Merge.lean ====
abbrev S16384x2048 : Shape := ⟨2, ![16384, 2048]⟩
abbrev S16384x12800 : Shape := ⟨2, ![16384, 12800]⟩
abbrev S2x2048x2048 : Shape := ⟨3, ![2, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x12800, .bf16⟩
  | .hbm, ⟨3, _⟩ => ⟨S2x2048x2048, .f32⟩
  | .hbm, ⟨4, _⟩ => ⟨S2x2048x2048, .f32⟩
  | .hbm, ⟨5, _⟩ => ⟨S2x2048x2048, .bf16⟩
  | .hbm, ⟨6, _⟩ => ⟨S2x2048x2048, .bf16⟩
  | .hbm, ⟨7, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x2048 : Shape := ⟨2, ![16384, 2048]⟩
abbrev S16384x12800 : Shape := ⟨2, ![16384, 12800]⟩
abbrev S2x2048x2048 : Shape := ⟨3, ![2, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x12800, .bf16⟩
  | .hbm, ⟨3, _⟩ => ⟨S2x2048x2048, .f32⟩
  | .hbm, ⟨4, _⟩ => ⟨S2x2048x2048, .f32⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S1x2048x2048, .f32⟩
  | .hbm, ⟨19, _⟩ => ⟨S2048x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S1x2048x2048, .f32⟩
  | .hbm, ⟨32, _⟩ => ⟨S2048x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Merge1.lean ====
abbrev S16384x2048 : Shape := ⟨2, ![16384, 2048]⟩
abbrev S16384x12800 : Shape := ⟨2, ![16384, 12800]⟩
abbrev S2x2048x2048 : Shape := ⟨3, ![2, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x12800, .bf16⟩
  | .hbm, ⟨3, _⟩ => ⟨S2x2048x2048, .f32⟩
  | .hbm, ⟨4, _⟩ => ⟨S2x2048x2048, .f32⟩
  | .hbm, ⟨5, _⟩ => ⟨S2x2048x2048, .bf16⟩
  | .hbm, ⟨6, _⟩ => ⟨S2x2048x2048, .bf16⟩
  | .hbm, ⟨7, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Merge1ReferenceIdeal.lean ====
abbrev S16384x2048 : Shape := ⟨2, ![16384, 2048]⟩
abbrev S16384x12800 : Shape := ⟨2, ![16384, 12800]⟩
abbrev S2x2048x2048 : Shape := ⟨3, ![2, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x12800, .bf16⟩
  | .hbm, ⟨3, _⟩ => ⟨S2x2048x2048, .f32⟩
  | .hbm, ⟨4, _⟩ => ⟨S2x2048x2048, .f32⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S1x2048x2048, .f32⟩
  | .hbm, ⟨19, _⟩ => ⟨S2048x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S1x2048x2048, .f32⟩
  | .hbm, ⟨32, _⟩ => ⟨S2048x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== OutProj.lean ====
abbrev S16384x2048 : Shape := ⟨2, ![16384, 2048]⟩
abbrev S2x2048x2048 : Shape := ⟨3, ![2, 2048, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2x2048x2048, .f32⟩
  | .hbm, ⟨3, _⟩ => ⟨S2x2048x2048, .bf16⟩
  | .hbm, ⟨4, _⟩ => ⟨S16384x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S16384x2048 : Shape := ⟨2, ![16384, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2x2048x2048, .f32⟩
  | .hbm, ⟨3, _⟩ => ⟨S16384x2048, .f32⟩
  | .hbm, ⟨4, _⟩ => ⟨S1x2048x2048, .f32⟩
  | .hbm, ⟨5, _⟩ => ⟨S2048x2048, .f32⟩
  | .hbm, ⟨6, _⟩ => ⟨S16384x2048, .f32⟩
  | .hbm, ⟨7, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj1.lean ====
abbrev S16384x2048 : Shape := ⟨2, ![16384, 2048]⟩
abbrev S2x2048x2048 : Shape := ⟨3, ![2, 2048, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2x2048x2048, .f32⟩
  | .hbm, ⟨3, _⟩ => ⟨S2x2048x2048, .bf16⟩
  | .hbm, ⟨4, _⟩ => ⟨S16384x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProj1ReferenceIdeal.lean ====
abbrev S16384x2048 : Shape := ⟨2, ![16384, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2x2048x2048, .f32⟩
  | .hbm, ⟨3, _⟩ => ⟨S16384x2048, .f32⟩
  | .hbm, ⟨4, _⟩ => ⟨S1x2048x2048, .f32⟩
  | .hbm, ⟨5, _⟩ => ⟨S2048x2048, .f32⟩
  | .hbm, ⟨6, _⟩ => ⟨S16384x2048, .f32⟩
  | .hbm, ⟨7, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DenseFfn.lean ====
abbrev S16384x2048 : Shape := ⟨2, ![16384, 2048]⟩
abbrev S2x2048 : Shape := ⟨2, ![2, 2048]⟩
abbrev S1x2048x5504 : Shape := ⟨3, ![1, 2048, 5504]⟩
abbrev S1x5504x2048 : Shape := ⟨3, ![1, 5504, 2048]⟩
abbrev S2048x5504 : Shape := ⟨2, ![2048, 5504]⟩
abbrev S_ : Shape := ⟨0, ![]⟩
abbrev S2048x128 : Shape := ⟨2, ![2048, 128]⟩
abbrev S2048x5632 : Shape := ⟨2, ![2048, 5632]⟩
abbrev S5504x2048 : Shape := ⟨2, ![5504, 2048]⟩
abbrev S128x2048 : Shape := ⟨2, ![128, 2048]⟩
abbrev S5632x2048 : Shape := ⟨2, ![5632, 2048]⟩
abbrev S1x2048 : Shape := ⟨2, ![1, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 24
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S2048x5504, .f32⟩
  | .hbm, ⟨6, _⟩ => ⟨S2048x5504, .bf16⟩
  | .hbm, ⟨7, _⟩ => ⟨S_, .bf16⟩
  | .hbm, ⟨8, _⟩ => ⟨S2048x128, .bf16⟩
  | .hbm, ⟨9, _⟩ => ⟨S2048x5632, .bf16⟩
  | .hbm, ⟨10, _⟩ => ⟨S2048x5504, .f32⟩
  | .hbm, ⟨11, _⟩ => ⟨S2048x5504, .bf16⟩
  | .hbm, ⟨12, _⟩ => ⟨S_, .bf16⟩
  | .hbm, ⟨13, _⟩ => ⟨S2048x128, .bf16⟩
  | .hbm, ⟨14, _⟩ => ⟨S2048x5632, .bf16⟩
  | .hbm, ⟨15, _⟩ => ⟨S5504x2048, .f32⟩
  | .hbm, ⟨16, _⟩ => ⟨S5504x2048, .bf16⟩
  | .hbm, ⟨17, _⟩ => ⟨S_, .bf16⟩
  | .hbm, ⟨18, _⟩ => ⟨S128x2048, .bf16⟩
  | .hbm, ⟨19, _⟩ => ⟨S5632x2048, .bf16⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseFfnReferenceIdeal.lean ====
abbrev S16384x2048 : Shape := ⟨2, ![16384, 2048]⟩
abbrev S2x2048 : Shape := ⟨2, ![2, 2048]⟩
abbrev S1x2048x5504 : Shape := ⟨3, ![1, 2048, 5504]⟩
abbrev S1x5504x2048 : Shape := ⟨3, ![1, 5504, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5504 : Shape := ⟨2, ![2048, 5504]⟩
abbrev S5504x2048 : Shape := ⟨2, ![5504, 2048]⟩
abbrev S16384x5504 : Shape := ⟨2, ![16384, 5504]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S1x2048x5504, .f32⟩
  | .hbm, ⟨3, _⟩ => ⟨S1x2048x5504, .f32⟩
  | .hbm, ⟨4, _⟩ => ⟨S1x5504x2048, .f32⟩
  | .hbm, ⟨5, _⟩ => ⟨S1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5504, .f32⟩
  | .hbm, ⟨24, _⟩ => ⟨S2048x5504, .f32⟩
  | .hbm, ⟨25, _⟩ => ⟨S5504x2048, .f32⟩
  | .hbm, ⟨26, _⟩ => ⟨S16384x5504, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S_, .f32⟩
  | .hbm, ⟨33, _⟩ => ⟨S16384x5504, .f32⟩
  | .hbm, ⟨34, _⟩ => ⟨S16384x5504, .f32⟩
  | .hbm, ⟨35, _⟩ => ⟨S16384x5504, .f32⟩
  | .hbm, ⟨36, _⟩ => ⟨S16384x5504, .f32⟩
  | .hbm, ⟨37, _⟩ => ⟨S16384x5504, .f32⟩
  | .hbm, ⟨38, _⟩ => ⟨S16384x2048, .f32⟩
  | .hbm, ⟨39, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.Swa.Softmax.lean ====
/-
  Softmax with a sink, over one row of 256 masked logits, as both programs are read.

  `attend ℓ v s` is the kernel's order: the exponentials are summed against the values first and the sum is divided
  by the denominator afterwards. `attendRef` is the reference's order: every exponential is divided first. They are
  equal when the row's maximum is a real number (`attend_eq_attendRef`): the denominator is then a positive real.
  Without that both denominators are 0, and the two orders of dividing by 0 differ.
-/
module

public import Idealize.ShloMosaic.Lib.Pointwise

@[expose] public section

noncomputable section

namespace Cert.Swa

open Idealize.ShloMosaic

/-- The maximum of a row of logits and its sink. -/
def rowMax (ℓ : Fin 256 → EReal) (s : EReal) : EReal := max (Finset.univ.sup ℓ) s

/-- One output of the kernel: the weighted sum of the values, over the sum of the weights and the sink's weight. -/
def attend (ℓ v : Fin 256 → EReal) (s : EReal) : EReal :=
  Ideal.div (∑ j, Ideal.exp (ℓ j - rowMax ℓ s) * v j)
    ((∑ j, Ideal.exp (ℓ j - rowMax ℓ s)) + Ideal.exp (s - rowMax ℓ s))

/-- One output of the reference: the values weighted by the normalised weights. -/
def attendRef (ℓ v : Fin 256 → EReal) (s : EReal) : EReal :=
  ∑ j, Ideal.div (Ideal.exp (ℓ j - rowMax ℓ s))
    ((∑ j, Ideal.exp (ℓ j - rowMax ℓ s)) + Ideal.exp (s - rowMax ℓ s)) * v j

theorem ofBits_negInf : Ideal.ofBits .f32 0xFF800000#32 = ⊥ := by
  simp [Ideal.ofBits, Ideal.ieee]

theorem exp_bot : Ideal.exp ⊥ = 0 := rfl
theorem exp_top : Ideal.exp ⊤ = ⊤ := rfl
theorem exp_coe (r : ℝ) : Ideal.exp (r : EReal) = (Real.exp r : EReal) := rfl

theorem exp_nonneg (x : EReal) : 0 ≤ Ideal.exp x := by
  induction x using EReal.rec with
  | bot => rw [exp_bot]
  | top => rw [exp_top]; exact le_top
  | coe r => rw [exp_coe]; exact_mod_cast Real.exp_nonneg r

/-- A masked logit has weight 0. -/
theorem exp_bot_sub (m : EReal) : Ideal.exp (⊥ - m) = 0 := by
  rw [sub_eq_add_neg, EReal.bot_add, exp_bot]

/-- A sum of extended reals times a nonnegative real. -/
theorem sum_mul_coe {ι : Type*} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

/-- The maximum over 128 lanes of (a low logit, a high logit, the sink) is the row's maximum. -/
theorem fold_max_eq (ℓ : Fin 256 → EReal) (s : EReal) :
    Finset.fold max (⊥ : EReal)
      (fun x : Fin 128 => max (max (ℓ ⟨x.val, by omega⟩) (ℓ ⟨128 + x.val, by omega⟩)) s) Finset.univ = rowMax ℓ s := by
  apply le_antisymm
  · refine (Finset.fold_max_le _).mpr ⟨bot_le, fun x _ => max_le (max_le ?_ ?_) (le_max_right _ _)⟩
    · exact (Finset.le_sup (f := ℓ) (Finset.mem_univ _)).trans (le_max_left _ _)
    · exact (Finset.le_sup (f := ℓ) (Finset.mem_univ _)).trans (le_max_left _ _)
  · refine max_le (Finset.sup_le fun j _ => ?_) ?_
    · refine (Finset.le_fold_max _).mpr (.inr ?_)
      by_cases hj : j.val < 128
      · exact ⟨⟨j.val, hj⟩, Finset.mem_univ _, le_max_of_le_left (le_max_of_le_left le_rfl)⟩
      · refine ⟨⟨j.val - 128, by omega⟩, Finset.mem_univ _, le_max_of_le_left (le_max_of_le_right (le_of_eq ?_))⟩
        exact congrArg ℓ (Fin.ext (by simp; omega))
    · exact (Finset.le_fold_max _).mpr (.inr ⟨0, Finset.mem_univ _, le_max_right _ _⟩)

theorem fold_sup (ℓ : Fin 256 → EReal) : Finset.fold max (⊥ : EReal) ℓ Finset.univ = Finset.univ.sup ℓ := rfl

/-- Where the maximum is a real number, a weight is a real number between 0 and 1. -/
theorem weight_le (x m : EReal) (h : x ≤ m) : Ideal.exp (x - m) ≤ 1 := by
  have h01 : (0 : EReal) ≤ 1 := by exact_mod_cast zero_le_one (α := ℝ)
  have htop : ∀ y : EReal, Ideal.exp (y - ⊤) ≤ 1 := fun y => by
    rw [sub_eq_add_neg, EReal.neg_top, EReal.add_bot, exp_bot]; exact h01
  induction x using EReal.rec with
  | bot => rw [exp_bot_sub]; exact h01
  | top => rw [top_le_iff.mp h]; exact htop _
  | coe x =>
    induction m using EReal.rec with
    | bot => simp at h
    | top => exact htop _
    | coe m =>
      rw [← EReal.coe_sub, exp_coe]
      have : x ≤ m := by exact_mod_cast h
      exact_mod_cast Real.exp_le_one_iff.mpr (by linarith)

theorem attend_eq_attendRef (ℓ v : Fin 256 → EReal) (s : EReal) (htop : ∀ j, ℓ j ≠ ⊤) (hs : s ≠ ⊤) (hs' : s ≠ ⊥) :
    attend ℓ v s = attendRef ℓ v s := by
  unfold attend attendRef
  set m := rowMax ℓ s with hm
  have hmtop : m ≠ ⊤ := by
    have : m < ⊤ := max_lt ((Finset.sup_lt_iff (lt_top_iff_ne_top.mpr (by simp))).mpr fun j _ => lt_top_iff_ne_top.mpr (htop j))
      (lt_top_iff_ne_top.mpr hs)
    exact this.ne
  have hmbot : m ≠ ⊥ := fun h => hs' (le_bot_iff.mp (h ▸ le_max_right _ _))
  set w := fun j => Ideal.exp (ℓ j - m) with hw
  have hw0 : ∀ j, 0 ≤ w j := fun j => exp_nonneg _
  have hw1 : ∀ j, w j ≤ 1 := fun j =>
    weight_le _ _ ((Finset.le_sup (f := ℓ) (Finset.mem_univ _)).trans (le_max_left _ _))
  have hsum0 : 0 ≤ ∑ j, w j := Finset.sum_nonneg fun j _ => hw0 j
  have hs1 : Ideal.exp (s - m) ≤ 1 := weight_le _ _ (le_max_right _ _)
  have hden_pos : 0 < (∑ j, w j) + Ideal.exp (s - m) := by
    have hpos : ∀ x : EReal, x ≠ ⊥ → x ≠ ⊤ → 0 < Ideal.exp (x - m) := by
      intro x h1 h2
      lift x to ℝ using ⟨h2, h1⟩
      obtain ⟨μ, hμ⟩ : ∃ μ : ℝ, m = (μ : EReal) := ⟨m.toReal, (EReal.coe_toReal hmtop hmbot).symm⟩
      rw [hμ, ← EReal.coe_sub, exp_coe]
      exact_mod_cast Real.exp_pos _
    exact lt_of_lt_of_le (hpos s hs' hs) (le_add_of_nonneg_left hsum0)
  have hden_top : (∑ j, w j) + Ideal.exp (s - m) ≠ ⊤ := by
    have h1 : ∑ j, w j ≤ ∑ _j : Fin 256, (1 : EReal) := Finset.sum_le_sum fun j _ => hw1 j
    have h2 : (∑ _j : Fin 256, (1 : EReal)) = ((256 : ℝ) : EReal) := by
      rw [Finset.sum_const, Finset.card_univ, Fintype.card_fin, nsmul_one]; rfl
    have h3 : (∑ j, w j) + Ideal.exp (s - m) ≤ ((256 : ℝ) : EReal) + ((1 : ℝ) : EReal) :=
      add_le_add (h2 ▸ h1) hs1
    rw [← EReal.coe_add] at h3
    exact (lt_of_le_of_lt h3 (EReal.coe_lt_top _)).ne
  obtain ⟨D, hD⟩ : ∃ D : ℝ, (∑ j, w j) + Ideal.exp (s - m) = (D : EReal) := by
    exact ⟨_, (EReal.coe_toReal hden_top (ne_bot_of_gt hden_pos)).symm⟩
  show Ideal.div (∑ j, w j * v j) ((∑ j, w j) + Ideal.exp (s - m)) = ∑ j, Ideal.div (w j) ((∑ j, w j) + Ideal.exp (s - m)) * v j
  rw [hD] at hden_pos ⊢
  have hDpos : 0 < D := by exact_mod_cast hden_pos
  have hinv : ∀ x : EReal, Ideal.div x (D : EReal) = x * ((D⁻¹ : ℝ) : EReal) := by
    intro x
    rw [Ideal.div, if_neg (by exact_mod_cast hDpos.ne'), EReal.coe_inv]
  simp only [hinv]
  rw [sum_mul_coe _ _ _ (inv_nonneg.mpr hDpos.le)]
  exact Finset.sum_congr rfl fun j _ => mul_right_comm _ _ _

end Cert.Swa

end
-- ==== Proof.Swa.Head.lean ====
/-
  What one grid point of the attention kernel computes for one key/value head, read at an index.

  The body stacks four 128-row pieces of queries on top of each other (512 rows, two query heads side by side in the
  128 lanes of a row) and contracts them with a block matrix that holds the 256 keys twice, once against each half of
  the lanes: columns 0–255 of the logits belong to the low query head, columns 256–511 to the high one. The second
  matrix product has the values twice in the same way and, beside them, ones, so that it also sums the weights.
-/
module

public import proofs.«01_k».proof.Proof.Gen.KernelIdeal.Value
public import proofs.«01_k».proof.Proof.Swa.Softmax

@[expose] public section

set_option maxRecDepth 16384

noncomputable section

namespace Cert.Swa

open Cert.KernelIdeal Cert.KernelIdeal.Gen Idealize.ShloMosaic

/-- Four pieces of 128 query rows on top of each other. -/
def qRows (q0 q1 q2 q3 : FVec Ideal S128x128 .bf16) : FVec Ideal S512x128 .bf16 :=
  concatenate S512x128 0 [⟨S128x128, q0⟩, ⟨S128x128, q1⟩, ⟨S128x128, q2⟩, ⟨S128x128, q3⟩]
    concatenates_S128x128_S128x128_S128x128_S128x128_S512x128_d0

/-- The previous block of keys (or values) followed by the current one. -/
def band (a b : FVec Ideal S128x64 .bf16) : FVec Ideal S256x64 .bf16 :=
  concatenate S256x64 0 [⟨S128x64, a⟩, ⟨S128x64, b⟩] concatenates_S128x64_S128x64_S256x64_d0

/-- The keys twice: against the low lanes in rows 0–255, against the high lanes in rows 256–511. -/
def keysTwice (K : FVec Ideal S256x64 .bf16) : FVec Ideal S512x128 .bf16 :=
  concatenate S512x128 0
    [⟨S256x128, concatenate S256x128 1 [⟨S256x64, K⟩, ⟨S256x64, k0_pay2 (F := Ideal)⟩]
      concatenates_S256x64_S256x64_S256x128_d1⟩,
     ⟨S256x128, concatenate S256x128 1 [⟨S256x64, k0_pay2 (F := Ideal)⟩, ⟨S256x64, K⟩]
      concatenates_S256x64_S256x64_S256x128_d1⟩]
    concatenates_S256x128_S256x128_S512x128_d0

/-- The values twice, and beside each copy a block of ones. -/
def valuesTwice (V : FVec Ideal S256x64 .bf16) : FVec Ideal S512x256 .bf16 :=
  concatenate S512x256 0
    [⟨S256x256, concatenate S256x256 1 [⟨S256x64, V⟩, ⟨S256x64, k0_pay2 (F := Ideal)⟩,
        ⟨S256x64, k0_pay3 (F := Ideal)⟩, ⟨S256x64, k0_pay2 (F := Ideal)⟩]
      concatenates_S256x64_S256x64_S256x64_S256x64_S256x256_d1⟩,
     ⟨S256x256, concatenate S256x256 1 [⟨S256x64, k0_pay2 (F := Ideal)⟩, ⟨S256x64, V⟩,
        ⟨S256x64, k0_pay2 (F := Ideal)⟩, ⟨S256x64, k0_pay3 (F := Ideal)⟩]
      concatenates_S256x64_S256x64_S256x64_S256x64_S256x256_d1⟩]
    concatenates_S256x256_S256x256_S512x256_d0

/-- The logits of the eight query heads of one key/value head. -/
def logits (Q : FVec Ideal S512x128 .bf16) (K : FVec Ideal S256x64 .bf16) (b : FVec Ideal S1x1x512x512 .f32) :
    FVec Ideal S512x512 .f32 :=
  addf (matmul dot_S512x128_S512x128_S512x512_1_1_0_0_n_n none
      (mulf Q (broadcast S512x128 (Scalar.ofBits .bf16 0x3E00#16))) (keysTwice K)
      (constant S512x512 .f32 0x00000000#32))
    (shapeCast S512x512 b shapeCasts_S1x1x512x512_S512x512)

/-- The attention output of those eight heads, before it is rounded and stored. -/
def headOut (L : FVec Ideal S512x512 .f32) (V : FVec Ideal S256x64 .bf16)
    (s0 s1 : FVec Ideal S1x1x512x128 .f32) : FVec Ideal S512x128 .f32 :=
  k0_pay56 (k0_pay19 L (valuesTwice V) (k0_pay14 L s0) s1) (k0_pay20 k0_pay4 L (k0_pay15 L s0) s1)

theorem qRows_apply (q0 q1 q2 q3 : FVec Ideal S128x128 .bf16) (p : Fin 4) (i l : Fin 128) :
    qRows q0 q1 q2 q3 (ix2 ⟨p.val * 128 + i.val, by omega⟩ l) = (![q0, q1, q2, q3] p) (ix2 i l) := by
  have hi := i.isLt
  fin_cases p
  · pointwise [qRows]
  · pointwise [qRows]
  · pointwise [qRows]
    rw [dif_neg (by omega), dif_neg (by omega), dif_pos (by omega)]
    exact congrArg (fun k => q2 (ix2 k l)) (Fin.ext (by simp; omega))
  · pointwise [qRows]
    rw [dif_neg (by omega), dif_neg (by omega), dif_neg (by omega)]
    exact congrArg (fun k => q3 (ix2 k l)) (Fin.ext (by simp; omega))

theorem band_lo (a b : FVec Ideal S128x64 .bf16) (j : Fin 256) (d : Fin 64) (h : j.val < 128) :
    band a b (ix2 j d) = a (ix2 ⟨j.val, h⟩ d) := by
  pointwise [band]
  rw [dif_pos h]

theorem band_hi (a b : FVec Ideal S128x64 .bf16) (j : Fin 256) (d : Fin 64) (h : ¬ j.val < 128) :
    band a b (ix2 j d) = b (ix2 ⟨j.val - 128, by omega⟩ d) := by
  pointwise [band]
  rw [dif_neg h]

/-- A logit of the low query head. -/
theorem logits_lo (Q : FVec Ideal S512x128 .bf16) (K : FVec Ideal S256x64 .bf16) (b : FVec Ideal S1x1x512x512 .f32)
    (r : Fin 512) (j : Fin 256) :
    logits Q K b (ix2 r ⟨j.val, by omega⟩)
      = (∑ d : Fin 64, Q (ix2 r ⟨d.val, by omega⟩) * Ideal.ofBits .bf16 0x3E00#16 * K (ix2 j d))
        + b (ix4 0 0 r ⟨j.val, by omega⟩) := by
  pointwise [logits, keysTwice, k0_pay2]
  simp only [mul_zero, Finset.sum_const_zero, add_zero]

/-- A logit of the high query head. -/
theorem logits_hi (Q : FVec Ideal S512x128 .bf16) (K : FVec Ideal S256x64 .bf16) (b : FVec Ideal S1x1x512x512 .f32)
    (r : Fin 512) (j : Fin 256) :
    logits Q K b (ix2 r ⟨256 + j.val, by omega⟩)
      = (∑ d : Fin 64, Q (ix2 r ⟨64 + d.val, by omega⟩) * Ideal.ofBits .bf16 0x3E00#16 * K (ix2 j d))
        + b (ix4 0 0 r ⟨256 + j.val, by omega⟩) := by
  pointwise [logits, keysTwice, k0_pay2]
  simp only [mul_zero, Finset.sum_const_zero, zero_add]

/-- The low query head's row maximum, where its sink's tile row is one number. -/
theorem max_lo (L : FVec Ideal S512x512 .f32) (s : FVec Ideal S1x1x512x128 .f32) (r : Fin 512) (σ : EReal)
    (hs : ∀ x : Fin 128, s (ix4 0 0 r x) = σ) :
    k0_pay13 L s (ix2 r 0) = rowMax (fun j => L (ix2 r ⟨j.val, by omega⟩)) σ := by
  rw [← fold_max_eq]
  pointwise [k0_pay13, k0_pay11, k0_pay12]
  simp only [hs, ofBits_negInf]

/-- The high query head's row maximum. -/
theorem max_hi (L : FVec Ideal S512x512 .f32) (s : FVec Ideal S1x1x512x128 .f32) (r : Fin 512) (σ : EReal)
    (hs : ∀ x : Fin 128, s (ix4 0 0 r x) = σ) :
    k0_pay18 L s (ix2 r 0) = rowMax (fun j => L (ix2 r ⟨256 + j.val, by omega⟩)) σ := by
  rw [← fold_max_eq]
  pointwise [k0_pay18, k0_pay16, k0_pay17]
  simp only [hs, ofBits_negInf]

theorem lane_low (d : Fin 64) (a b : EReal) :
    Scalar.select (IntOp.cmpi .slt (BitVec.ofNat 32 d.val) 64#32) a b = a := by
  have : IntOp.cmpi .slt (BitVec.ofNat 32 d.val) 64#32 = 1#1 := by revert d; decide
  rw [this]; rfl

theorem lane_high (d : Fin 64) (a b : EReal) :
    Scalar.select (IntOp.cmpi .slt (BitVec.ofNat 32 (64 + d.val)) 64#32) a b = b := by
  have : IntOp.cmpi .slt (BitVec.ofNat 32 (64 + d.val)) 64#32 = 0#1 := by revert d; decide
  rw [this]; rfl

/-- One output of the low query head. -/
theorem headOut_lo (L : FVec Ideal S512x512 .f32) (V : FVec Ideal S256x64 .bf16)
    (s0 s1 : FVec Ideal S1x1x512x128 .f32) (r : Fin 512) (d : Fin 64) (σ : EReal)
    (hs : ∀ x : Fin 128, s0 (ix4 0 0 r x) = σ) :
    headOut L V s0 s1 (ix2 r ⟨d.val, by omega⟩)
      = attend (fun j => L (ix2 r ⟨j.val, by omega⟩)) (fun j => V (ix2 j d)) σ := by
  have h0 : d.val < 64 := d.isLt
  have h1 : ¬ 128 + d.val < 64 := by omega
  have h2 : ¬ 128 + d.val - 64 < 64 := by omega
  have h3 : 128 + d.val - 64 - 64 < 64 := by omega
  pointwise [headOut, k0_pay56, k0_pay19, valuesTwice, k0_pay2, k0_pay3, k0_pay14, k0_pay15, k0_pay20, k0_pay4,
    k0_pay11, k0_pay12, k0_pay16, k0_pay17]
  simp only [dif_neg h1, dif_neg h2, dif_pos h3, lane_low, hs, max_lo L s0 r σ hs, mul_zero, mul_one,
    Finset.sum_const_zero, add_zero]
  rfl

/-- One output of the high query head. -/
theorem headOut_hi (L : FVec Ideal S512x512 .f32) (V : FVec Ideal S256x64 .bf16)
    (s0 s1 : FVec Ideal S1x1x512x128 .f32) (r : Fin 512) (d : Fin 64) (σ : EReal)
    (hs : ∀ x : Fin 128, s1 (ix4 0 0 r x) = σ) :
    headOut L V s0 s1 (ix2 r ⟨64 + d.val, by omega⟩)
      = attend (fun j => L (ix2 r ⟨256 + j.val, by omega⟩)) (fun j => V (ix2 j d)) σ := by
  have h0 : d.val < 64 := d.isLt
  have h1 : ¬ 128 + (64 + d.val) < 64 := by omega
  have h2 : ¬ 128 + (64 + d.val) - 64 < 64 := by omega
  have h3 : ¬ 128 + (64 + d.val) - 64 - 64 < 64 := by omega
  pointwise [headOut, k0_pay56, k0_pay19, valuesTwice, k0_pay2, k0_pay3, k0_pay14, k0_pay15, k0_pay20, k0_pay4,
    k0_pay11, k0_pay12, k0_pay16, k0_pay17]
  simp only [dif_neg h1, dif_neg h2, dif_neg h3, lane_high, hs, max_hi L s1 r σ hs, mul_zero, mul_one,
    Finset.sum_const_zero, zero_add]
  rfl

end Cert.Swa

end
-- ==== Proof.Swa.Bucket.lean ====
/-
  The relative-position bias: the bucket of a distance as one function of a 32-bit word, and a gather of table rows at
  such words, for the two shapes in which the programs spell it.
-/
module

public import proofs.«01_k».proof.Proof.Gen.KernelIdeal.Value
public import proofs.«01_k».proof.Proof.Gen.ReferenceIdeal.Run
public import Idealize.ShloMosaic.Lib.Pointwise

@[expose] public section

set_option maxRecDepth 16384

noncomputable section

namespace Cert.Swa

open Idealize.ShloMosaic

/-- The bucket of a distance: itself below 16, logarithmically spaced from there to 128, 31 at most. -/
def bucket (w : BitVec 32) : BitVec 32 :=
  Scalar.select (IntOp.cmpi .slt w 16#32) w
    (IntOp.minsi (IntOp.addi 16#32 (FloatOps.fptosi (F := Ideal) 32
      (FloatOps.mulf (F := Ideal) (φ := .f32) (FloatOps.hostDivf (F := Ideal) (FloatOps.hostUnary (F := Ideal) .log
        (FloatOps.hostDivf (F := Ideal) (FloatOps.sitofp (F := Ideal) .f32 (IntOp.maxsi w 1#32))
          (FloatOps.ofBits .f32 0x41800000#32)))
        (FloatOps.ofBits .f32 0x40051592#32)) (FloatOps.ofBits .f32 0x41800000#32)))) 31#32)

/-- The row that an index word names in a table of 32 rows: read signed, clamped. -/
def row (w : BitVec 32) : Fin 32 := ⟨min w.toInt.toNat 31, by omega⟩

/-- The bias table's row of a distance; a negative bucket would count from the table's end. -/
def biasRow (w : BitVec 32) : Fin 32 :=
  row (Scalar.select (IntOp.cmpi .slt (bucket w) 0#32) (IntOp.addi (bucket w) 32#32) (bucket w))

theorem gather_rows {α : Type} [Cert.KernelIdeal.Facts] (x : Cert.KernelIdeal.S32x32.Idx → α) (idx : IVec Cert.KernelIdeal.S128x1 32)
    (i : Fin 128) (h : Fin 32) :
    Host.gather Cert.KernelIdeal.gather_S32x32_S128x1_S128x32_1_0_n_n_0_1_132 x idx (ix2 i h)
      = x (ix2 (row (idx (ix2 i 0))) h) := by
  unfold Host.gather
  refine congrArg x (funext fun a => Fin.ext ?_)
  have hs : Cert.KernelIdeal.gather_S32x32_S128x1_S128x32_1_0_n_n_0_1_132.siIdx (ix2 i h) ⟨0, by decide⟩ = ix2 i 0 := by
    funext b; fin_cases b <;> rfl
  fin_cases a
  · show min (idx (Cert.KernelIdeal.gather_S32x32_S128x1_S128x32_1_0_n_n_0_1_132.siIdx (ix2 i h) ⟨0, by decide⟩)).toInt.toNat 31 + 0 + 0 = _
    rw [hs]; rfl
  · show 0 + 0 + h.val = h.val
    omega

theorem gather_rows_ref {α : Type} [Cert.ReferenceIdeal.Facts] (x : Cert.ReferenceIdeal.S32x32.Idx → α) (idx : IVec Cert.ReferenceIdeal.S128x256x1 32)
    (i : Fin 128) (j : Fin 256) (h : Fin 32) :
    Host.gather Cert.ReferenceIdeal.gather_S32x32_S128x256x1_S128x256x32_2_0_n_n_0_2_132 x idx (ix3 i j h)
      = x (ix2 (row (idx (ix3 i j 0))) h) := by
  unfold Host.gather
  refine congrArg x (funext fun a => Fin.ext ?_)
  have hs : Cert.ReferenceIdeal.gather_S32x32_S128x256x1_S128x256x32_2_0_n_n_0_2_132.siIdx (ix3 i j h) ⟨0, by decide⟩ = ix3 i j 0 := by
    funext b; fin_cases b <;> rfl
  fin_cases a
  · show min (idx (Cert.ReferenceIdeal.gather_S32x32_S128x256x1_S128x256x32_2_0_n_n_0_2_132.siIdx (ix3 i j h) ⟨0, by decide⟩)).toInt.toNat 31 + 0 + 0 = _
    rw [hs]; rfl
  · show 0 + 0 + h.val = h.val
    omega

end Cert.Swa

end
-- ==== Proof.Swa.Tables.lean ====
/-
  The two tables that the host prepares for the attention kernel, read at an index.

  `main_v47` holds, for each key/value head, the bias of every (query row, key column) of a block, −∞ where the key is
  not visible: one copy for a sequence's first block, which has no keys before it, and one for all others. `main_v52`
  holds each head's sink, repeated over a tile.
-/
module

public import proofs.«01_k».proof.Proof.Swa.Bucket
public import proofs.«01_k».proof.Proof.Swa.Softmax
public import Idealize.ShloMosaic.Lib.StableHlo.ReadAt

@[expose] public section

set_option maxRecDepth 16384
set_option maxHeartbeats 4000000

noncomputable section

namespace Cert.Swa

open Cert.KernelIdeal Cert.KernelIdeal.Gen Idealize.ShloMosaic Idealize.ShloMosaic.TcCoe

/-- The bias of local query row `i` against window column `j`: the key lies `i + 128 - j` positions before the query and
    is visible from 0 to 127 of them. -/
def biasAt (T : S32x32.Idx → EReal) (h : Fin 32) (i : Fin 128) (j : Fin 256) : EReal :=
  if i.val < j.val ∧ j.val ≤ i.val + 128 then T (ix2 (biasRow (BitVec.ofNat 32 (i.val + 128 - j.val))) h) else ⊥

/-- The same in a sequence's block `n`: its first block sees none of the 128 columns before it. -/
def tableAt (T : S32x32.Idx → EReal) (n : ℕ) (h : Fin 32) (i : Fin 128) (j : Fin 256) : EReal :=
  if n = 0 ∧ j.val < 128 then ⊥ else biasAt T h i j

variable (m : (ℓ : Loc nD τ sig) → Buf (Elt Ideal) ℓ)

/-- The sink of each head, at every entry of its tile. -/
theorem sinks_at (c : Dev nD) (hk : Fin 4) (cc : Fin 2) (p : Fin 4) (i x : Fin 128) :
    (V m c main_v52 (ix4 hk cc ⟨p.val * 128 + i.val, by omega⟩ x) : EReal)
      = m ((c : Thread nD τ).loc main_arg1) (ix1 ⟨hk.val * 8 + p.val * 2 + cc.val, by omega⟩) := by
  unfold V
  after_reads_at

/-- The first padding row of the line of biases. -/
theorem pad_before (c : Dev nD) (k : Fin 1) (h : Fin 32) :
    (StableHlo.upto (List.flatten [hostOps0, hostOps0_1, hostOps0_2, hostOps0_3, hostOps0_4]) (fun b => m (c, b)) 40
      (Proc.tc.devRef main_v26) (ix2 k h) : EReal) = (⊥ : EReal) := by
  after_reads_at
  exact ofBits_negInf

/-- The padding rows behind the line of biases. -/
theorem pad_after (c : Dev nD) (k : Fin 255) (h : Fin 32) :
    (StableHlo.upto (List.flatten [hostOps0, hostOps0_1, hostOps0_2, hostOps0_3, hostOps0_4]) (fun b => m (c, b)) 40
      (Proc.tc.devRef main_v28) (ix2 k h) : EReal) = (⊥ : EReal) := by
  after_reads_at
  exact ofBits_negInf

/-- The biases of the distances 127 down to 0. -/
theorem bias_line (c : Dev nD) (k : Fin 128) (h : Fin 32) :
    (StableHlo.upto (List.flatten [hostOps0, hostOps0_1, hostOps0_2, hostOps0_3, hostOps0_4]) (fun b => m (c, b)) 40
      (Proc.tc.devRef main_v27) (ix2 k h) : EReal)
      = m ((c : Thread nD τ).loc main_arg2) (ix2 (biasRow (BitVec.ofNat 32 (127 - k.val))) h) := by
  after_reads_at
  refine (gather_rows _ _ _ _).trans ?_
  pointwise
  have hk : (k.rev : ℕ) = 127 - k.val := by rw [Fin.val_rev]; omega
  rw [← hk]
  rfl

/-- The line of biases between its padding, 384 entries, repeated and cut into rows of 383: row `i` starts `i` entries
    before the line's start. -/
theorem line_at (c : Dev nD) (h : Fin 32) (i j : ℕ) (hi : i < 128) (hj : j < 256) :
    (if h1 : (i * 383 + j) % 384 < 1 then
      (StableHlo.upto (List.flatten [hostOps0, hostOps0_1, hostOps0_2, hostOps0_3, hostOps0_4]) (fun b => m (c, b)) 40
        (Proc.tc.devRef main_v26) (ix2 ⟨(i * 383 + j) % 384, h1⟩ h))
    else if h2 : (i * 383 + j) % 384 - 1 < 128 then
      (StableHlo.upto (List.flatten [hostOps0, hostOps0_1, hostOps0_2, hostOps0_3, hostOps0_4]) (fun b => m (c, b)) 40
        (Proc.tc.devRef main_v27) (ix2 ⟨(i * 383 + j) % 384 - 1, h2⟩ h))
    else
      (StableHlo.upto (List.flatten [hostOps0, hostOps0_1, hostOps0_2, hostOps0_3, hostOps0_4]) (fun b => m (c, b)) 40
        (Proc.tc.devRef main_v28) (ix2 ⟨(i * 383 + j) % 384 - 1 - 128, by omega⟩ h)))
      = biasAt (fun i => m ((c : Thread nD τ).loc main_arg2) i) h ⟨i, hi⟩ ⟨j, hj⟩ := by
  have hm : (i * 383 + j) % 384 = if j < i then 384 + j - i else j - i := by split <;> omega
  by_cases h1 : (i * 383 + j) % 384 < 1
  · rw [dif_pos h1, pad_before]
    exact (if_neg (fun h => by dsimp only at h; split at hm <;> omega)).symm
  · by_cases h2 : (i * 383 + j) % 384 - 1 < 128
    · rw [dif_neg h1, dif_pos h2, bias_line]
      have e : 127 - ((i * 383 + j) % 384 - 1) = i + 128 - j := by split at hm <;> omega
      have hc : i < j ∧ j ≤ i + 128 := by split at hm <;> omega
      refine Eq.trans ?_ (if_pos hc).symm
      dsimp only
      rw [e]
    · rw [dif_neg h1, dif_neg h2, pad_after]
      exact (if_neg (fun h => by dsimp only at h; split at hm <;> omega)).symm

theorem below (y : Fin 256) : IntOp.cmpi .slt (BitVec.ofNat 32 y.val) 128#32 = if y.val < 128 then 1#1 else 0#1 := by
  revert y; decide +kernel

theorem select_one {α : Type} (a b : α) : Scalar.select 1#1 a b = a := rfl

theorem select_zero {α : Type} (a b : α) : Scalar.select 0#1 a b = b := rfl

/-- A sequence's first block sees no key before it. -/
theorem table_hidden (c : Dev nD) (hk : Fin 4) (r x : Fin 512) (hx : x.val % 256 < 128) :
    V m c main_v47 (ix4 0 hk r x) = (⊥ : EReal) := by
  have hb := below ⟨x.val % 256, by omega⟩
  rw [if_pos hx] at hb
  dsimp only at hb
  have he := ofBits_negInf
  generalize (⊥ : EReal) = e at he ⊢
  unfold V
  after_reads_at
  after_reads_at
  refine (congrArg (fun w => Scalar.select w _ _) hb).trans ((select_one _ _).trans ?_)
  exact he

/-- A sequence's first block sees itself as any other block does. -/
theorem table_own (c : Dev nD) (hk : Fin 4) (r x : Fin 512) (hx : ¬ x.val % 256 < 128) :
    V m c main_v47 (ix4 0 hk r x)
      = biasAt (fun i => m ((c : Thread nD τ).loc main_arg2) i) ⟨hk.val * 8 + r.val / 128 * 2 + x.val / 256, by omega⟩
          ⟨r.val % 128, by omega⟩ ⟨x.val % 256, by omega⟩ := by
  have hb := below ⟨x.val % 256, by omega⟩
  rw [if_neg hx] at hb
  dsimp only at hb
  have hl := line_at m c ⟨hk.val * 8 + r.val / 128 * 2 + x.val / 256, by omega⟩ (r.val % 128) (x.val % 256) (by omega) (by omega)
  generalize biasAt _ _ _ _ = e at hl ⊢
  unfold V
  after_reads_at
  after_reads_at
  refine (congrArg (fun w => Scalar.select w _ _) hb).trans ((select_zero _ _).trans ?_)
  exact hl

/-- Every other block. -/
theorem table_later (c : Dev nD) (hk : Fin 4) (r x : Fin 512) :
    V m c main_v47 (ix4 1 hk r x)
      = biasAt (fun i => m ((c : Thread nD τ).loc main_arg2) i) ⟨hk.val * 8 + r.val / 128 * 2 + x.val / 256, by omega⟩
          ⟨r.val % 128, by omega⟩ ⟨x.val % 256, by omega⟩ := by
  have hl := line_at m c ⟨hk.val * 8 + r.val / 128 * 2 + x.val / 256, by omega⟩ (r.val % 128) (x.val % 256) (by omega) (by omega)
  generalize biasAt _ _ _ _ = e at hl ⊢
  unfold V
  after_reads_at
  after_reads_at
  exact hl

theorem table_at (c : Dev nD) (n : Fin 2) (hk : Fin 4) (p : Fin 4) (cc : Fin 2) (i : Fin 128) (j : Fin 256) :
    V m c main_v47 (ix4 n hk ⟨p.val * 128 + i.val, by omega⟩ ⟨cc.val * 256 + j.val, by omega⟩)
      = tableAt (fun i => m ((c : Thread nD τ).loc main_arg2) i) n.val ⟨hk.val * 8 + p.val * 2 + cc.val, by omega⟩ i j := by
  have hh : hk.val * 8 + (p.val * 128 + i.val) / 128 * 2 + (cc.val * 256 + j.val) / 256 = hk.val * 8 + p.val * 2 + cc.val := by omega
  have hi : (p.val * 128 + i.val) % 128 = i.val := by omega
  have hj : (cc.val * 256 + j.val) % 256 = j.val := by omega
  have hn := n.isLt
  unfold tableAt
  by_cases h0 : n = 0
  · subst h0
    by_cases hx : j.val < 128
    · refine (table_hidden m c hk _ _ (by dsimp only; omega)).trans (if_pos ⟨rfl, hx⟩).symm
    · refine (table_own m c hk _ _ (by dsimp only; omega)).trans (Eq.trans ?_ (if_neg fun h => hx h.2).symm)
      simp only [hh, hi, hj]
  · have h1 : n = 1 := Fin.ext (by have : n.val ≠ 0 := fun h => h0 (Fin.ext h); show n.val = 1; omega)
    subst h1
    refine (table_later m c hk _ _).trans (Eq.trans ?_ (if_neg fun h => absurd h.1 (by decide)).symm)
    simp only [hh, hi, hj]

end Cert.Swa

end
-- ==== Proof.Swa.Blocks.lean ====
/-
  What the windows of a grid point hold: its 128 rows of queries, the 128 rows before it and its own 128 rows of keys
  and of values, all columns of one array, and the two tables.
-/
module

public import proofs.«01_k».proof.Proof.Gen.KernelIdeal.Value
public import Idealize.ShloMosaic.Lib.Pointwise
public import Idealize.ShloMosaic.Lib.Pipeline.ValueKit

@[expose] public section

set_option maxRecDepth 16384
set_option maxHeartbeats 4000000

noncomputable section

namespace Cert.Swa

open Cert.KernelIdeal Cert.KernelIdeal.Gen Idealize.ShloMosaic Idealize.ShloMosaic.TcCoe

variable (m : (ℓ : Loc nD τ sig) → Buf (Elt Ideal) ℓ)

theorem index0 : ∀ t : Fin cfg0.N, (cfg0.win 0).index t = ![t.val, 3] := by decide +kernel
theorem index1 : ∀ t : Fin cfg0.N, (cfg0.win 1).index t = ![t.val - 1, 32] := by decide +kernel
theorem index2 : ∀ t : Fin cfg0.N, (cfg0.win 2).index t = ![t.val, 32] := by decide +kernel
theorem index3 : ∀ t : Fin cfg0.N, (cfg0.win 3).index t = ![t.val - 1, 33] := by decide +kernel
theorem index4 : ∀ t : Fin cfg0.N, (cfg0.win 4).index t = ![t.val, 33] := by decide +kernel
theorem index5 : ∀ t : Fin cfg0.N, (cfg0.win 5).index t = ![min (t.val % 32) 1, 0, 0, 0] := by decide +kernel
theorem index6 : ∀ t : Fin cfg0.N, (cfg0.win 6).index t = ![0, 0, 0, 0] := by decide +kernel

/-- The array of queries, keys and values that a run starts from. -/
abbrev proj (c : Dev nD) : S16384x12800.Idx → EReal := fun i => m ((c : Thread nD τ).loc main_arg0) i

theorem tlt (t : Fin cfg0.N) : t.val < 128 := t.isLt

theorem queries (c : Dev nD) (t : Fin cfg0.N) (i : Fin 128) (x : Fin 2048) :
    X0_0 m c t (ix2 i x) = proj m c (ix2 ⟨t.val * 128 + i.val, by have := tlt t; omega⟩ ⟨6144 + x.val, by omega⟩) := by
  have := tlt t
  unfold proj
  rw [← V_main_arg0 m c]
  unfold X0_0 Pipeline.Window.fill
  rw [dif_pos (moved0_0 t _)]
  unfold iblk
  change _ = V m c (Pipeline.arrRef spec0 0) _
  generalize V m c (Pipeline.arrRef spec0 0) = W
  blk_simp [index0 t]
  refine congrArg W (funext fun a => Fin.ext ?_)
  fin_cases a <;> blk_simp [index0 t]
  · rfl
  · show 3 * 2048 + x.val = 6144 + x.val
    omega

theorem keys_before (c : Dev nD) (t : Fin cfg0.N) (j : Fin 128) (x : Fin 256) :
    iblk m c 1 t (ix2 j x) = proj m c (ix2 ⟨(t.val - 1) * 128 + j.val, by have := tlt t; omega⟩ ⟨8192 + x.val, by omega⟩) := by
  have := tlt t
  unfold proj
  rw [← V_main_arg0 m c]
  blk_ext [iblk, index1 t]

theorem keys_own (c : Dev nD) (t : Fin cfg0.N) (j : Fin 128) (x : Fin 256) :
    iblk m c 2 t (ix2 j x) = proj m c (ix2 ⟨t.val * 128 + j.val, by have := tlt t; omega⟩ ⟨8192 + x.val, by omega⟩) := by
  have := tlt t
  unfold proj
  rw [← V_main_arg0 m c]
  blk_ext [iblk, index2 t]

theorem values_before (c : Dev nD) (t : Fin cfg0.N) (j : Fin 128) (x : Fin 256) :
    iblk m c 3 t (ix2 j x) = proj m c (ix2 ⟨(t.val - 1) * 128 + j.val, by have := tlt t; omega⟩ ⟨8448 + x.val, by omega⟩) := by
  have := tlt t
  unfold proj
  rw [← V_main_arg0 m c]
  blk_ext [iblk, index3 t]

theorem values_own (c : Dev nD) (t : Fin cfg0.N) (j : Fin 128) (x : Fin 256) :
    iblk m c 4 t (ix2 j x) = proj m c (ix2 ⟨t.val * 128 + j.val, by have := tlt t; omega⟩ ⟨8448 + x.val, by omega⟩) := by
  have := tlt t
  unfold proj
  rw [← V_main_arg0 m c]
  blk_ext [iblk, index4 t]

/-- The table's block of a point: its first copy for a sequence's first block, its second for all others. -/
theorem read5 (t : Fin cfg0.N) (W : S2x4x512x512.Idx → EReal) (n : Fin 2) (hn : n.val = min (t.val % 32) 1) (hk : Fin 4) (r x : Fin 512) :
    (((cfg0.win 5).blk t).view.read (Elt Ideal) W (ix4 0 hk r x) : EReal) = W (ix4 n hk r x) := by
  have hi := index5 t
  rw [← hn] at hi
  refine congrArg W (funext fun a => Fin.ext ?_)
  refine (Pipeline.Window.rect_emb_val _ _ _ _ rfl).trans ?_
  rw [hi]
  fin_cases a
  · show n.val * 1 + 0 = n.val
    omega
  · show 0 * 4 + hk.val = hk.val
    omega
  · show 0 * 512 + r.val = r.val
    omega
  · show 0 * 512 + x.val = x.val
    omega

theorem table_blk (c : Dev nD) (t : Fin cfg0.N) (n : Fin 2) (hn : n.val = min (t.val % 32) 1) (hk : Fin 4) (r x : Fin 512) :
    iblk m c 5 t (ix4 0 hk r x) = V m c main_v47 (ix4 n hk r x) :=
  read5 t (V m c (Pipeline.arrRef spec0 5)) n hn hk r x

theorem sinks_blk (c : Dev nD) (t : Fin cfg0.N) (hk : Fin 4) (cc : Fin 2) (r : Fin 512) (x : Fin 128) :
    iblk m c 6 t (ix4 hk cc r x) = V m c main_v52 (ix4 hk cc r x) := by
  unfold iblk
  change _ = V m c (Pipeline.arrRef spec0 6) (ix4 hk cc r x)
  generalize V m c (Pipeline.arrRef spec0 6) = W
  blk_ext [index6 t]

end Cert.Swa

end
-- ==== Proof.Swa.Point.lean ====
/-
  What one grid point writes: every output of its 128 rows is the sink softmax of the row's masked logits against the
  256 keys of the window, over the window's values.
-/
module

public import proofs.«01_k».proof.Proof.Swa.Head
public import proofs.«01_k».proof.Proof.Swa.Tables
public import proofs.«01_k».proof.Proof.Swa.Blocks

@[expose] public section

set_option maxRecDepth 16384
set_option maxHeartbeats 4000000

noncomputable section

namespace Cert.Swa

open Cert.KernelIdeal Cert.KernelIdeal.Gen Idealize.ShloMosaic Idealize.ShloMosaic.TcCoe

/-- The row of the array that window position `j` of block `t` names: the block before, then the block itself. The first
    block of all names itself twice. -/
def windowRow (t : Fin 128) (j : Fin 256) : Fin 16384 :=
  if h : j.val < 128 then ⟨(t.val - 1) * 128 + j.val, by omega⟩ else ⟨t.val * 128 + (j.val - 128), by omega⟩

/-- The logit of query head `h`, row `i` of block `t`, against window position `j`. -/
def logitAt (X : S16384x12800.Idx → EReal) (T : S32x32.Idx → EReal) (t : Fin 128) (h : Fin 32) (i : Fin 128) (j : Fin 256) : EReal :=
  (∑ d : Fin 64, X (ix2 ⟨t.val * 128 + i.val, by omega⟩ ⟨6144 + (h.val * 64 + d.val), by omega⟩)
      * Ideal.ofBits .bf16 0x3E00#16 * X (ix2 (windowRow t j) ⟨8192 + (h.val / 8 * 64 + d.val), by omega⟩))
    + tableAt T (t.val % 32) h i j

/-- The output of head `h`, column `d`, row `i` of block `t`. -/
def outAt (X : S16384x12800.Idx → EReal) (S : S32.Idx → EReal) (T : S32x32.Idx → EReal) (t : Fin 128) (h : Fin 32) (i : Fin 128)
    (d : Fin 64) : EReal :=
  attend (logitAt X T t h i) (fun j => X (ix2 (windowRow t j) ⟨8448 + (h.val / 8 * 64 + d.val), by omega⟩)) (S (ix1 h))

theorem tableAt_min (T : S32x32.Idx → EReal) (n : ℕ) (h : Fin 32) (i : Fin 128) (j : Fin 256) :
    tableAt T (min n 1) h i j = tableAt T n h i j := by
  unfold tableAt
  have : min n 1 = 0 ↔ n = 0 := by omega
  simp only [this]

variable (m : (ℓ : Loc nD τ sig) → Buf (Elt Ideal) ℓ)

/-- The sinks and the bias table that a run starts from. -/
abbrev sinks (c : Dev nD) : S32.Idx → EReal := fun i => m ((c : Thread nD τ).loc main_arg1) i
abbrev biases (c : Dev nD) : S32x32.Idx → EReal := fun i => m ((c : Thread nD τ).loc main_arg2) i

/-- One key/value head of a point: its eight query heads' outputs, given what the loads hold. -/
theorem head_val (c : Dev nD) (t : Fin cfg0.N) (hk : Fin 4) (q0 q1 q2 q3 : FVec Ideal S128x128 .bf16)
    (ka kb va vb : FVec Ideal S128x64 .bf16) (b : FVec Ideal S1x1x512x512 .f32) (s0 s1 : FVec Ideal S1x1x512x128 .f32)
    (hq : ∀ (p : Fin 4) (i l : Fin 128), (![q0, q1, q2, q3] p) (ix2 i l) = X0_0 m c t (ix2 i ⟨(hk.val * 4 + p.val) * 128 + l.val, by omega⟩))
    (hka : ∀ (j : Fin 128) (d : Fin 64), ka (ix2 j d) = iblk m c 1 t (ix2 j ⟨hk.val * 64 + d.val, by omega⟩))
    (hkb : ∀ (j : Fin 128) (d : Fin 64), kb (ix2 j d) = iblk m c 2 t (ix2 j ⟨hk.val * 64 + d.val, by omega⟩))
    (hva : ∀ (j : Fin 128) (d : Fin 64), va (ix2 j d) = iblk m c 3 t (ix2 j ⟨hk.val * 64 + d.val, by omega⟩))
    (hvb : ∀ (j : Fin 128) (d : Fin 64), vb (ix2 j d) = iblk m c 4 t (ix2 j ⟨hk.val * 64 + d.val, by omega⟩))
    (hb : ∀ r x : Fin 512, b (ix4 0 0 r x) = iblk m c 5 t (ix4 0 hk r x))
    (hs0 : ∀ (r : Fin 512) (x : Fin 128), s0 (ix4 0 0 r x) = iblk m c 6 t (ix4 hk 0 r x))
    (hs1 : ∀ (r : Fin 512) (x : Fin 128), s1 (ix4 0 0 r x) = iblk m c 6 t (ix4 hk 1 r x))
    (p : Fin 4) (cc : Fin 2) (i : Fin 128) (d : Fin 64) :
    headOut (logits (qRows q0 q1 q2 q3) (band ka kb) b) (band va vb) s0 s1 (ix2 ⟨p.val * 128 + i.val, by omega⟩ ⟨cc.val * 64 + d.val, by omega⟩)
      = outAt (proj m c) (sinks m c) (biases m c) t ⟨hk.val * 8 + p.val * 2 + cc.val, by omega⟩ i d := by
  have ht := tlt t
  have hh : (hk.val * 8 + p.val * 2 + cc.val) / 8 = hk.val := by omega
  have hval : ∀ j : Fin 256, band va vb (ix2 j d) = proj m c (ix2 (windowRow t j) ⟨8448 + (hk.val * 64 + d.val), by omega⟩) := by
    intro j
    unfold windowRow
    by_cases hj : j.val < 128
    · rw [band_lo _ _ _ _ hj, hva, values_before, dif_pos hj]
    · rw [band_hi _ _ _ _ hj, hvb, values_own, dif_neg hj]
  have hkey : ∀ (j : Fin 256) (e : Fin 64), band ka kb (ix2 j e) = proj m c (ix2 (windowRow t j) ⟨8192 + (hk.val * 64 + e.val), by omega⟩) := by
    intro j e
    unfold windowRow
    by_cases hj : j.val < 128
    · rw [band_lo _ _ _ _ hj, hka, keys_before, dif_pos hj]
    · rw [band_hi _ _ _ _ hj, hkb, keys_own, dif_neg hj]
  have hqv : ∀ (e : Fin 64) (l : Fin 128), l.val = cc.val * 64 + e.val → qRows q0 q1 q2 q3 (ix2 ⟨p.val * 128 + i.val, by omega⟩ l)
      = proj m c (ix2 ⟨t.val * 128 + i.val, by omega⟩ ⟨6144 + ((hk.val * 8 + p.val * 2 + cc.val) * 64 + e.val), by omega⟩) := by
    intro e l hl
    refine (qRows_apply q0 q1 q2 q3 p i l).trans ?_
    rw [hq, queries]
    congr 2
    apply Fin.ext
    simp only
    omega
  have htab : ∀ (j : Fin 256) (x : Fin 512), x.val = cc.val * 256 + j.val → b (ix4 0 0 ⟨p.val * 128 + i.val, by omega⟩ x)
      = tableAt (biases m c) (t.val % 32) ⟨hk.val * 8 + p.val * 2 + cc.val, by omega⟩ i j := by
    intro j x hx
    have hlt : cc.val * 256 + j.val < 512 := by omega
    have hx' : x = ⟨cc.val * 256 + j.val, hlt⟩ := Fin.ext hx
    rw [hx', hb, table_blk m c t ⟨min (t.val % 32) 1, by omega⟩ rfl]
    exact (table_at m c _ hk p cc i j).trans (tableAt_min _ _ _ _ _)
  have hsink : ∀ x : Fin 128, iblk m c 6 t (ix4 hk cc ⟨p.val * 128 + i.val, by omega⟩ x)
      = sinks m c (ix1 ⟨hk.val * 8 + p.val * 2 + cc.val, by omega⟩) := by
    intro x
    rw [sinks_blk]
    exact sinks_at m c hk cc p i x
  have hlogit : ∀ (j : Fin 256) (e : EReal) (x : Fin 512) (l : Fin 64 → Fin 128), x.val = cc.val * 256 + j.val →
      (∀ d, (l d).val = cc.val * 64 + d.val) →
      e = (∑ d : Fin 64, qRows q0 q1 q2 q3 (ix2 ⟨p.val * 128 + i.val, by omega⟩ (l d)) * Ideal.ofBits .bf16 0x3E00#16 * band ka kb (ix2 j d))
        + b (ix4 0 0 ⟨p.val * 128 + i.val, by omega⟩ x) →
      e = logitAt (proj m c) (biases m c) t ⟨hk.val * 8 + p.val * 2 + cc.val, by omega⟩ i j := by
    intro j e x l hx hl he
    rw [he, htab j x hx]
    unfold logitAt
    simp only [hh]
    congr 1
    exact Finset.sum_congr rfl fun d _ => by rw [hqv d _ (hl d), hkey j d]
  unfold outAt
  simp only [hh]
  obtain rfl | rfl : cc = 0 ∨ cc = 1 := by omega
  · refine (congrArg _ (congrArg (ix2 _) (Fin.ext ?_))).trans
      ((headOut_lo _ _ s0 s1 ⟨p.val * 128 + i.val, by omega⟩ d _ (fun x => (hs0 _ x).trans (hsink x))).trans ?_)
    · show 0 * 64 + d.val = d.val
      omega
    · refine congrArg₂ (fun ℓ v => attend ℓ v _) (funext fun j => ?_) (funext hval)
      exact hlogit j _ _ _ (by show j.val = 0 * 256 + j.val; omega) (fun d => by show d.val = 0 * 64 + d.val; omega)
        (logits_lo _ _ _ _ j)
  · refine (congrArg _ (congrArg (ix2 _) (Fin.ext ?_))).trans
      ((headOut_hi _ _ s0 s1 ⟨p.val * 128 + i.val, by omega⟩ d _ (fun x => (hs1 _ x).trans (hsink x))).trans ?_)
    · show 1 * 64 + d.val = 64 + d.val
      omega
    · refine congrArg₂ (fun ℓ v => attend ℓ v _) (funext fun j => ?_) (funext hval)
      exact hlogit j _ _ _ (by show 256 + j.val = 1 * 256 + j.val; omega) (fun d => by show 64 + d.val = 1 * 64 + d.val; omega)
        (logits_hi _ _ _ _ j)

/-- Rows `o` to `o + 127` of a head's outputs, rounded to the array's type: the tile that is stored. -/
def tileOf (o : ℕ) (H : FVec Ideal S512x128 .f32) (hs : S512x128.Slices ![o, 0] S128x128) : FVec Ideal S128x128 .bf16 :=
  truncf .bf16 (extractStridedSlice S128x128 ![o, 0] H hs) bitsLt_bf16_f32

theorem tileOf_apply (p : Fin 4) (H : FVec Ideal S512x128 .f32) (hs : S512x128.Slices ![p.val * 128, 0] S128x128) (r l : Fin 128) :
    tileOf (p.val * 128) H hs (ix2 r l) = H (ix2 ⟨p.val * 128 + r.val, by omega⟩ l) := by
  obtain ⟨p, hp⟩ := p
  obtain rfl | rfl | rfl | rfl : p = 0 ∨ p = 1 ∨ p = 2 ∨ p = 3 := by omega
  all_goals pointwise [tileOf]

/-- A stored tile holds the outputs of the array's columns that it covers. -/
theorem tile_val (c : Dev nD) (t : Fin cfg0.N) (hk p : Fin 4) (H : FVec Ideal S512x128 .f32) (hs : S512x128.Slices ![p.val * 128, 0] S128x128)
    (hH : ∀ (p : Fin 4) (cc : Fin 2) (i : Fin 128) (d : Fin 64),
      H (ix2 ⟨p.val * 128 + i.val, by omega⟩ ⟨cc.val * 64 + d.val, by omega⟩)
        = outAt (proj m c) (sinks m c) (biases m c) t ⟨hk.val * 8 + p.val * 2 + cc.val, by omega⟩ i d)
    (x : S128x128.Idx) (i : Fin 128) (y : Fin 2048) (h0 : i.val = (x 0).val) (h1 : y.val = (hk.val * 4 + p.val) * 128 + (x 1).val) :
    tileOf (p.val * 128) H hs x = outAt (proj m c) (sinks m c) (biases m c) t ⟨y.val / 64, by omega⟩ i ⟨y.val % 64, by omega⟩ := by
  have b1 : (x 1).val < 128 := (x 1).isLt
  have hx : x = ix2 i ⟨(x 1).val, b1⟩ := by
    funext a
    fin_cases a
    · exact Fin.ext h0.symm
    · rfl
  have hl : (⟨(x 1).val, b1⟩ : Fin 128)
      = ⟨(⟨(x 1).val / 64, by omega⟩ : Fin 2).val * 64 + (⟨(x 1).val % 64, by omega⟩ : Fin 64).val, by dsimp only; omega⟩ :=
    Fin.ext (by dsimp only; omega)
  refine ((congrArg _ hx).trans (tileOf_apply p H hs i _)).trans ?_
  refine (congrArg (fun k => H (ix2 _ k)) hl).trans ((hH p _ i _).trans ?_)
  exact congrArg₂ (fun a b => outAt (proj m c) (sinks m c) (biases m c) t a i b) (Fin.ext (by dsimp only; omega)) (Fin.ext (by dsimp only; omega))

/-- Key/value head 0 of point `t`, from the point's blocks. -/
def head0 (c : Dev nD) (t : Fin cfg0.N) : FVec Ideal S512x128 .f32 :=
  headOut (logits (qRows
      (View.ld (X0_0 m c t) (Rect.unit ![0, 0] ![128, 128] inb_S128x2048_S128x128_0_0))
      (View.ld (X0_0 m c t) (Rect.unit ![0, 128] ![128, 128] inb_S128x2048_S128x128_0_128))
      (View.ld (X0_0 m c t) (Rect.unit ![0, 256] ![128, 128] inb_S128x2048_S128x128_0_256))
      (View.ld (X0_0 m c t) (Rect.unit ![0, 384] ![128, 128] inb_S128x2048_S128x128_0_384)))
      (band (View.ld (iblk m c 1 t) (Rect.unit ![0, 0] ![128, 64] inb_S128x256_S128x64_0_0))
        (View.ld (iblk m c 2 t) (Rect.unit ![0, 0] ![128, 64] inb_S128x256_S128x64_0_0)))
      (View.ld (iblk m c 5 t) (Rect.unit ![0, 0, 0, 0] ![1, 1, 512, 512] inb_S1x4x512x512_S1x1x512x512_0_0_0_0)))
    (band (View.ld (iblk m c 3 t) (Rect.unit ![0, 0] ![128, 64] inb_S128x256_S128x64_0_0))
      (View.ld (iblk m c 4 t) (Rect.unit ![0, 0] ![128, 64] inb_S128x256_S128x64_0_0)))
    (View.ld (iblk m c 6 t) (Rect.unit ![0, 0, 0, 0] ![1, 1, 512, 128] inb_S4x2x512x128_S1x1x512x128_0_0_0_0))
    (View.ld (iblk m c 6 t) (Rect.unit ![0, 1, 0, 0] ![1, 1, 512, 128] inb_S4x2x512x128_S1x1x512x128_0_1_0_0))

theorem head0_val (c : Dev nD) (t : Fin cfg0.N) (p : Fin 4) (cc : Fin 2) (i : Fin 128) (d : Fin 64) :
    head0 m c t (ix2 ⟨p.val * 128 + i.val, by omega⟩ ⟨cc.val * 64 + d.val, by omega⟩)
      = outAt (proj m c) (sinks m c) (biases m c) t ⟨(0 : Fin 4).val * 8 + p.val * 2 + cc.val, by show 0 * 8 + p.val * 2 + cc.val < 32; omega⟩ i d := by
  unfold head0
  refine head_val m c t 0 _ _ _ _ _ _ _ _ _ _ _ ?_ ?_ ?_ ?_ ?_ ?_ ?_ ?_ p cc i d
  · intro p i l
    have hl := l.isLt
    obtain rfl | rfl | rfl | rfl : p = 0 ∨ p = 1 ∨ p = 2 ∨ p = 3 := by omega
    all_goals
      refine Eq.trans (b := View.ld (X0_0 m c t) (Rect.unit _ _ _) (ix2 i l)) rfl ?_
      pointwise []
  · intro j d
    pointwise []
  · intro j d
    pointwise []
  · intro j d
    pointwise []
  · intro j d
    pointwise []
  · intro r x
    pointwise []
  · intro r x
    pointwise []
  · intro r x
    pointwise []

/-- Key/value head 1 of point `t`, from the point's blocks. -/
def head1 (c : Dev nD) (t : Fin cfg0.N) : FVec Ideal S512x128 .f32 :=
  headOut (logits (qRows
      (View.ld (X0_0 m c t) (Rect.unit ![0, 512] ![128, 128] inb_S128x2048_S128x128_0_512))
      (View.ld (X0_0 m c t) (Rect.unit ![0, 640] ![128, 128] inb_S128x2048_S128x128_0_640))
      (View.ld (X0_0 m c t) (Rect.unit ![0, 768] ![128, 128] inb_S128x2048_S128x128_0_768))
      (View.ld (X0_0 m c t) (Rect.unit ![0, 896] ![128, 128] inb_S128x2048_S128x128_0_896)))
      (band (View.ld (iblk m c 1 t) (Rect.unit ![0, 64] ![128, 64] inb_S128x256_S128x64_0_64))
        (View.ld (iblk m c 2 t) (Rect.unit ![0, 64] ![128, 64] inb_S128x256_S128x64_0_64)))
      (View.ld (iblk m c 5 t) (Rect.unit ![0, 1, 0, 0] ![1, 1, 512, 512] inb_S1x4x512x512_S1x1x512x512_0_1_0_0)))
    (band (View.ld (iblk m c 3 t) (Rect.unit ![0, 64] ![128, 64] inb_S128x256_S128x64_0_64))
      (View.ld (iblk m c 4 t) (Rect.unit ![0, 64] ![128, 64] inb_S128x256_S128x64_0_64)))
    (View.ld (iblk m c 6 t) (Rect.unit ![1, 0, 0, 0] ![1, 1, 512, 128] inb_S4x2x512x128_S1x1x512x128_1_0_0_0))
    (View.ld (iblk m c 6 t) (Rect.unit ![1, 1, 0, 0] ![1, 1, 512, 128] inb_S4x2x512x128_S1x1x512x128_1_1_0_0))

theorem head1_val (c : Dev nD) (t : Fin cfg0.N) (p : Fin 4) (cc : Fin 2) (i : Fin 128) (d : Fin 64) :
    head1 m c t (ix2 ⟨p.val * 128 + i.val, by omega⟩ ⟨cc.val * 64 + d.val, by omega⟩)
      = outAt (proj m c) (sinks m c) (biases m c) t ⟨(1 : Fin 4).val * 8 + p.val * 2 + cc.val, by show 1 * 8 + p.val * 2 + cc.val < 32; omega⟩ i d := by
  unfold head1
  refine head_val m c t 1 _ _ _ _ _ _ _ _ _ _ _ ?_ ?_ ?_ ?_ ?_ ?_ ?_ ?_ p cc i d
  · intro p i l
    have hl := l.isLt
    obtain rfl | rfl | rfl | rfl : p = 0 ∨ p = 1 ∨ p = 2 ∨ p = 3 := by omega
    all_goals
      refine Eq.trans (b := View.ld (X0_0 m c t) (Rect.unit _ _ _) (ix2 i l)) rfl ?_
      pointwise []
  · intro j d
    pointwise []
  · intro j d
    pointwise []
  · intro j d
    pointwise []
  · intro j d
    pointwise []
  · intro r x
    pointwise []
  · intro r x
    pointwise []
  · intro r x
    pointwise []

/-- Key/value head 2 of point `t`, from the point's blocks. -/
def head2 (c : Dev nD) (t : Fin cfg0.N) : FVec Ideal S512x128 .f32 :=
  headOut (logits (qRows
      (View.ld (X0_0 m c t) (Rect.unit ![0, 1024] ![128, 128] inb_S128x2048_S128x128_0_1024))
      (View.ld (X0_0 m c t) (Rect.unit ![0, 1152] ![128, 128] inb_S128x2048_S128x128_0_1152))
      (View.ld (X0_0 m c t) (Rect.unit ![0, 1280] ![128, 128] inb_S128x2048_S128x128_0_1280))
      (View.ld (X0_0 m c t) (Rect.unit ![0, 1408] ![128, 128] inb_S128x2048_S128x128_0_1408)))
      (band (View.ld (iblk m c 1 t) (Rect.unit ![0, 128] ![128, 64] inb_S128x256_S128x64_0_128))
        (View.ld (iblk m c 2 t) (Rect.unit ![0, 128] ![128, 64] inb_S128x256_S128x64_0_128)))
      (View.ld (iblk m c 5 t) (Rect.unit ![0, 2, 0, 0] ![1, 1, 512, 512] inb_S1x4x512x512_S1x1x512x512_0_2_0_0)))
    (band (View.ld (iblk m c 3 t) (Rect.unit ![0, 128] ![128, 64] inb_S128x256_S128x64_0_128))
      (View.ld (iblk m c 4 t) (Rect.unit ![0, 128] ![128, 64] inb_S128x256_S128x64_0_128)))
    (View.ld (iblk m c 6 t) (Rect.unit ![2, 0, 0, 0] ![1, 1, 512, 128] inb_S4x2x512x128_S1x1x512x128_2_0_0_0))
    (View.ld (iblk m c 6 t) (Rect.unit ![2, 1, 0, 0] ![1, 1, 512, 128] inb_S4x2x512x128_S1x1x512x128_2_1_0_0))

theorem head2_val (c : Dev nD) (t : Fin cfg0.N) (p : Fin 4) (cc : Fin 2) (i : Fin 128) (d : Fin 64) :
    head2 m c t (ix2 ⟨p.val * 128 + i.val, by omega⟩ ⟨cc.val * 64 + d.val, by omega⟩)
      = outAt (proj m c) (sinks m c) (biases m c) t ⟨(2 : Fin 4).val * 8 + p.val * 2 + cc.val, by show 2 * 8 + p.val * 2 + cc.val < 32; omega⟩ i d := by
  unfold head2
  refine head_val m c t 2 _ _ _ _ _ _ _ _ _ _ _ ?_ ?_ ?_ ?_ ?_ ?_ ?_ ?_ p cc i d
  · intro p i l
    have hl := l.isLt
    obtain rfl | rfl | rfl | rfl : p = 0 ∨ p = 1 ∨ p = 2 ∨ p = 3 := by omega
    all_goals
      refine Eq.trans (b := View.ld (X0_0 m c t) (Rect.unit _ _ _) (ix2 i l)) rfl ?_
      pointwise []
  · intro j d
    pointwise []
  · intro j d
    pointwise []
  · intro j d
    pointwise []
  · intro j d
    pointwise []
  · intro r x
    pointwise []
  · intro r x
    pointwise []
  · intro r x
    pointwise []

/-- Key/value head 3 of point `t`, from the point's blocks. -/
def head3 (c : Dev nD) (t : Fin cfg0.N) : FVec Ideal S512x128 .f32 :=
  headOut (logits (qRows
      (View.ld (X0_0 m c t) (Rect.unit ![0, 1536] ![128, 128] inb_S128x2048_S128x128_0_1536))
      (View.ld (X0_0 m c t) (Rect.unit ![0, 1664] ![128, 128] inb_S128x2048_S128x128_0_1664))
      (View.ld (X0_0 m c t) (Rect.unit ![0, 1792] ![128, 128] inb_S128x2048_S128x128_0_1792))
      (View.ld (X0_0 m c t) (Rect.unit ![0, 1920] ![128, 128] inb_S128x2048_S128x128_0_1920)))
      (band (View.ld (iblk m c 1 t) (Rect.unit ![0, 192] ![128, 64] inb_S128x256_S128x64_0_192))
        (View.ld (iblk m c 2 t) (Rect.unit ![0, 192] ![128, 64] inb_S128x256_S128x64_0_192)))
      (View.ld (iblk m c 5 t) (Rect.unit ![0, 3, 0, 0] ![1, 1, 512, 512] inb_S1x4x512x512_S1x1x512x512_0_3_0_0)))
    (band (View.ld (iblk m c 3 t) (Rect.unit ![0, 192] ![128, 64] inb_S128x256_S128x64_0_192))
      (View.ld (iblk m c 4 t) (Rect.unit ![0, 192] ![128, 64] inb_S128x256_S128x64_0_192)))
    (View.ld (iblk m c 6 t) (Rect.unit ![3, 0, 0, 0] ![1, 1, 512, 128] inb_S4x2x512x128_S1x1x512x128_3_0_0_0))
    (View.ld (iblk m c 6 t) (Rect.unit ![3, 1, 0, 0] ![1, 1, 512, 128] inb_S4x2x512x128_S1x1x512x128_3_1_0_0))

theorem head3_val (c : Dev nD) (t : Fin cfg0.N) (p : Fin 4) (cc : Fin 2) (i : Fin 128) (d : Fin 64) :
    head3 m c t (ix2 ⟨p.val * 128 + i.val, by omega⟩ ⟨cc.val * 64 + d.val, by omega⟩)
      = outAt (proj m c) (sinks m c) (biases m c) t ⟨(3 : Fin 4).val * 8 + p.val * 2 + cc.val, by show 3 * 8 + p.val * 2 + cc.val < 32; omega⟩ i d := by
  unfold head3
  refine head_val m c t 3 _ _ _ _ _ _ _ _ _ _ _ ?_ ?_ ?_ ?_ ?_ ?_ ?_ ?_ p cc i d
  · intro p i l
    have hl := l.isLt
    obtain rfl | rfl | rfl | rfl : p = 0 ∨ p = 1 ∨ p = 2 ∨ p = 3 := by omega
    all_goals
      refine Eq.trans (b := View.ld (X0_0 m c t) (Rect.unit _ _ _) (ix2 i l)) rfl ?_
      pointwise []
  · intro j d
    pointwise []
  · intro j d
    pointwise []
  · intro j d
    pointwise []
  · intro j d
    pointwise []
  · intro r x
    pointwise []
  · intro r x
    pointwise []
  · intro r x
    pointwise []

/-- What a point leaves in its output block, column by column. -/
theorem outs_val (c : Dev nD) (t : Fin cfg0.N) (i : Fin 128) (y : Fin 2048) :
    outsAt0 m c t (ix2 i y) = outAt (proj m c) (sinks m c) (biases m c) t ⟨y.val / 64, by omega⟩ i ⟨y.val % 64, by omega⟩ := by
  unfold outsAt0
  frame_out
  canon_tiles x h
  case piece15 =>
    exact Eq.trans (b := tileOf 0 (head0 m c t) (by decide +kernel) x) rfl
      (tile_val m c t 0 0 (head0 m c t) _ (head0_val m c t) x i y
        (by have : i.val = _ := h0; omega) (by have : y.val = _ := h1; show y.val = 0 * 128 + _; omega))
  case piece14 =>
    exact Eq.trans (b := tileOf 128 (head0 m c t) (by decide +kernel) x) rfl
      (tile_val m c t 0 1 (head0 m c t) _ (head0_val m c t) x i y
        (by have : i.val = _ := h0; omega) (by have : y.val = _ := h1; show y.val = 1 * 128 + _; omega))
  case piece13 =>
    exact Eq.trans (b := tileOf 256 (head0 m c t) (by decide +kernel) x) rfl
      (tile_val m c t 0 2 (head0 m c t) _ (head0_val m c t) x i y
        (by have : i.val = _ := h0; omega) (by have : y.val = _ := h1; show y.val = 2 * 128 + _; omega))
  case piece12 =>
    exact Eq.trans (b := tileOf 384 (head0 m c t) (by decide +kernel) x) rfl
      (tile_val m c t 0 3 (head0 m c t) _ (head0_val m c t) x i y
        (by have : i.val = _ := h0; omega) (by have : y.val = _ := h1; show y.val = 3 * 128 + _; omega))
  case piece11 =>
    exact Eq.trans (b := tileOf 0 (head1 m c t) (by decide +kernel) x) rfl
      (tile_val m c t 1 0 (head1 m c t) _ (head1_val m c t) x i y
        (by have : i.val = _ := h0; omega) (by have : y.val = _ := h1; show y.val = 4 * 128 + _; omega))
  case piece10 =>
    exact Eq.trans (b := tileOf 128 (head1 m c t) (by decide +kernel) x) rfl
      (tile_val m c t 1 1 (head1 m c t) _ (head1_val m c t) x i y
        (by have : i.val = _ := h0; omega) (by have : y.val = _ := h1; show y.val = 5 * 128 + _; omega))
  case piece9 =>
    exact Eq.trans (b := tileOf 256 (head1 m c t) (by decide +kernel) x) rfl
      (tile_val m c t 1 2 (head1 m c t) _ (head1_val m c t) x i y
        (by have : i.val = _ := h0; omega) (by have : y.val = _ := h1; show y.val = 6 * 128 + _; omega))
  case piece8 =>
    exact Eq.trans (b := tileOf 384 (head1 m c t) (by decide +kernel) x) rfl
      (tile_val m c t 1 3 (head1 m c t) _ (head1_val m c t) x i y
        (by have : i.val = _ := h0; omega) (by have : y.val = _ := h1; show y.val = 7 * 128 + _; omega))
  case piece7 =>
    exact Eq.trans (b := tileOf 0 (head2 m c t) (by decide +kernel) x) rfl
      (tile_val m c t 2 0 (head2 m c t) _ (head2_val m c t) x i y
        (by have : i.val = _ := h0; omega) (by have : y.val = _ := h1; show y.val = 8 * 128 + _; omega))
  case piece6 =>
    exact Eq.trans (b := tileOf 128 (head2 m c t) (by decide +kernel) x) rfl
      (tile_val m c t 2 1 (head2 m c t) _ (head2_val m c t) x i y
        (by have : i.val = _ := h0; omega) (by have : y.val = _ := h1; show y.val = 9 * 128 + _; omega))
  case piece5 =>
    exact Eq.trans (b := tileOf 256 (head2 m c t) (by decide +kernel) x) rfl
      (tile_val m c t 2 2 (head2 m c t) _ (head2_val m c t) x i y
        (by have : i.val = _ := h0; omega) (by have : y.val = _ := h1; show y.val = 10 * 128 + _; omega))
  case piece4 =>
    exact Eq.trans (b := tileOf 384 (head2 m c t) (by decide +kernel) x) rfl
      (tile_val m c t 2 3 (head2 m c t) _ (head2_val m c t) x i y
        (by have : i.val = _ := h0; omega) (by have : y.val = _ := h1; show y.val = 11 * 128 + _; omega))
  case piece3 =>
    exact Eq.trans (b := tileOf 0 (head3 m c t) (by decide +kernel) x) rfl
      (tile_val m c t 3 0 (head3 m c t) _ (head3_val m c t) x i y
        (by have : i.val = _ := h0; omega) (by have : y.val = _ := h1; show y.val = 12 * 128 + _; omega))
  case piece2 =>
    exact Eq.trans (b := tileOf 128 (head3 m c t) (by decide +kernel) x) rfl
      (tile_val m c t 3 1 (head3 m c t) _ (head3_val m c t) x i y
        (by have : i.val = _ := h0; omega) (by have : y.val = _ := h1; show y.val = 13 * 128 + _; omega))
  case piece1 =>
    exact Eq.trans (b := tileOf 256 (head3 m c t) (by decide +kernel) x) rfl
      (tile_val m c t 3 2 (head3 m c t) _ (head3_val m c t) x i y
        (by have : i.val = _ := h0; omega) (by have : y.val = _ := h1; show y.val = 14 * 128 + _; omega))
  case piece0 =>
    exact Eq.trans (b := tileOf 384 (head3 m c t) (by decide +kernel) x) rfl
      (tile_val m c t 3 3 (head3 m c t) _ (head3_val m c t) x i y
        (by have : i.val = _ := h0; omega) (by have : y.val = _ := h1; show y.val = 15 * 128 + _; omega))

end Cert.Swa

end
-- ==== Proof.Swa.Array.lean ====
/-
  The whole array the kernel leaves: the blocks of the 128 points tile it.
-/
module

public import proofs.«01_k».proof.Proof.Swa.Point

@[expose] public section

set_option maxRecDepth 16384
set_option maxHeartbeats 4000000

noncomputable section

namespace Cert.Swa

open Cert.KernelIdeal Cert.KernelIdeal.Gen Idealize.ShloMosaic Idealize.ShloMosaic.TcCoe

/-- The array of all outputs: row `R` is row `R % 128` of block `R / 128`, column `y` is column `y % 64` of head `y / 64`. -/
def outArray (X : S16384x12800.Idx → EReal) (S : S32.Idx → EReal) (T : S32x32.Idx → EReal) : S16384x2048.Idx → EReal := fun q =>
  outAt X S T ⟨(q 0).val / 128, Nat.div_lt_of_lt_mul (q 0).isLt⟩ ⟨(q 1).val / 64, Nat.div_lt_of_lt_mul (q 1).isLt⟩
    ⟨(q 0).val % 128, Nat.mod_lt _ (by decide)⟩ ⟨(q 1).val % 64, Nat.mod_lt _ (by decide)⟩

variable (m : (ℓ : Loc nD τ sig) → Buf (Elt Ideal) ℓ)

theorem index7 : ∀ t : Fin cfg0.N, (cfg0.win 7).index t = ![t.val, 0] := by decide +kernel

theorem after7_at (c : Dev nD) (t : Fin cfg0.N) (i : Fin 128) (y : Fin 2048) (q : S16384x2048.Idx) (h0 : (q 0).val = t.val * 128 + i.val)
    (h1 : (q 1).val = y.val) :
    outsAt0 m c t (ix2 i y) = outArray (proj m c) (sinks m c) (biases m c) q := by
  have ht := tlt t
  rw [outs_val]
  unfold outArray
  have e0 : (⟨(q 0).val / 128, Nat.div_lt_of_lt_mul (q 0).isLt⟩ : Fin 128) = t := Fin.ext (by show (q 0).val / 128 = t.val; omega)
  have e1 : (⟨(q 0).val % 128, Nat.mod_lt _ (by decide)⟩ : Fin 128) = i := Fin.ext (by show (q 0).val % 128 = i.val; omega)
  rw [e0, e1]
  simp only [h1]

theorem array_val (c : Dev nD) : (dats m 0 c).arrAt 7 cfg0.N = outArray (proj m c) (sinks m c) (biases m c) := by
  refine (dats m 0 c).arrAt_eq_of_covers 7 _ (by decide +kernel) fun t hf y => ?_
  have ht := tlt t
  let y' : S128x2048.Idx := y
  have hy : y' = ix2 (y' 0) (y' 1) := by
    funext a
    fin_cases a <;> rfl
  blk_simp
  refine Eq.trans (b := outsAt0 m c t (ix2 (y' 0) (y' 1))) (congrArg (outsAt0 m c t) hy) (after7_at m c t (y' 0) (y' 1) _ ?_ ?_)
  · blk_simp [index7 t]
    rfl
  · blk_simp [index7 t]
    rfl

end Cert.Swa

end
-- ==== Proof.Swa.Reference.lean ====
/-
  The reference read at an index: its queries, its keys and values in windows, its biases, its mask and its softmax.
-/
module

public import proofs.«01_k».proof.Proof.Gen.ReferenceIdeal.Read
public import proofs.«01_k».proof.Proof.Swa.Softmax
public import proofs.«01_k».proof.Proof.Swa.Bucket
public import Idealize.ShloMosaic.Lib.Pointwise
public import Idealize.ShloMosaic.Lib.ValueIdxRank6

@[expose] public section

set_option maxRecDepth 16384
set_option maxHeartbeats 4000000

noncomputable section

namespace Cert.Swa

open Cert.ReferenceIdeal Cert.ReferenceIdeal.Gen Cert.ReferenceIdeal.Read Idealize.ShloMosaic

variable (X : S16384x12800.Idx → EReal) (T : S32x32.Idx → EReal) (S : S32.Idx → EReal)

theorem ref_q (b : Fin 4) (n : Fin 32) (i : Fin 128) (hk : Fin 4) (g : Fin 8) (d : Fin 64) :
    val_main_v7 (F := Ideal) X (ix6 b n i hk g d)
      = X (ix2 ⟨(b.val * 32 + n.val) * 128 + i.val, by omega⟩ ⟨6144 + ((hk.val * 8 + g.val) * 64 + d.val), by omega⟩) := by
  pointwise [val_main_v7, val_main_v2, val_main_v1, val_main_v0]
  exact congrArg (fun r => X (ix2 r _)) (Fin.ext (by dsimp only; omega))

/-- The row of the array that window position `j` of block `t` names, for a window that does not reach before its sequence. -/
theorem ref_k (b : Fin 4) (n : Fin 32) (j : Fin 256) (hk : Fin 4) (d : Fin 64) (r : Fin 16384) (hn : ¬ (n.val = 0 ∧ j.val < 128))
    (hr : r.val + 128 = (b.val * 32 + n.val) * 128 + j.val) :
    val_main_v12 (F := Ideal) X (ix5 b n j hk d) = X (ix2 r ⟨8192 + (hk.val * 64 + d.val), by omega⟩) := by
  pointwise [val_main_v12]
  by_cases hj : j.val < 128
  · rw [dif_pos hj]
    pointwise [val_main_v11, val_main_v10, val_main_v9]
    rw [dif_pos (by omega)]
    pointwise [val_main_v4, val_main_v3, val_main_v0]
    exact congrArg (fun r => X (ix2 r _)) (Fin.ext (by dsimp only; omega))
  · rw [dif_neg hj]
    pointwise [val_main_v8, val_main_v4, val_main_v3, val_main_v0]
    exact congrArg (fun r => X (ix2 r _)) (Fin.ext (by dsimp only; omega))

theorem ref_v (b : Fin 4) (n : Fin 32) (j : Fin 256) (hk : Fin 4) (d : Fin 64) (r : Fin 16384) (hn : ¬ (n.val = 0 ∧ j.val < 128))
    (hr : r.val + 128 = (b.val * 32 + n.val) * 128 + j.val) :
    val_main_v17 (F := Ideal) X (ix5 b n j hk d) = X (ix2 r ⟨8448 + (hk.val * 64 + d.val), by omega⟩) := by
  pointwise [val_main_v17]
  by_cases hj : j.val < 128
  · rw [dif_pos hj]
    pointwise [val_main_v16, val_main_v15, val_main_v14]
    rw [dif_pos (by omega)]
    pointwise [val_main_v6, val_main_v5, val_main_v0]
    exact congrArg (fun r => X (ix2 r _)) (Fin.ext (by dsimp only; omega))
  · rw [dif_neg hj]
    pointwise [val_main_v13, val_main_v6, val_main_v5, val_main_v0]
    exact congrArg (fun r => X (ix2 r _)) (Fin.ext (by dsimp only; omega))

/-- The word of the signed distance of window position `j` from row `i`. -/
theorem dist_word (i : Fin 128) (j : Fin 256) (k : Fin 384) (hk : k.val + j.val = i.val + 255) :
    IntOp.subi (IntOp.addi (BitVec.ofNat 32 i.val) 128#32) (BitVec.ofNat 32 j.val) = BitVec.ofNat 32 k.val - 127#32 := by
  apply BitVec.eq_of_toNat_eq
  simp [IntOp.subi, IntOp.addi]
  omega

theorem window_bits : ∀ k : Fin 384,
    IntOp.andi (IntOp.cmpi .sge (BitVec.ofNat 32 k.val - 127#32) 0#32) (IntOp.cmpi .slt (BitVec.ofNat 32 k.val - 127#32) 128#32)
      = if 127 ≤ k.val ∧ k.val < 255 then 1#1 else 0#1 := by
  decide +kernel

theorem clip_word : ∀ k : Fin 384, 127 ≤ k.val ∧ k.val < 255 →
    IntOp.minsi 127#32 (IntOp.maxsi 0#32 (BitVec.ofNat 32 k.val - 127#32)) = BitVec.ofNat 32 (k.val - 127) := by
  decide +kernel

/-- The bits of the two comparisons with the window. -/
theorem dist_bits (i : Fin 128) (j : Fin 256) :
    IntOp.andi (IntOp.cmpi .sge (IntOp.subi (IntOp.addi (BitVec.ofNat 32 i.val) 128#32) (BitVec.ofNat 32 j.val)) 0#32)
      (IntOp.cmpi .slt (IntOp.subi (IntOp.addi (BitVec.ofNat 32 i.val) 128#32) (BitVec.ofNat 32 j.val)) 128#32)
      = if i.val < j.val ∧ j.val ≤ i.val + 128 then 1#1 else 0#1 := by
  rw [dist_word i j ⟨i.val + 255 - j.val, by omega⟩ (by dsimp only; omega), window_bits]
  dsimp only
  exact if_congr (by omega) rfl rfl

/-- A visible position's distance, clipped to 0 to 127, is the distance. -/
theorem dist_clip (i : Fin 128) (j : Fin 256) (h : i.val < j.val ∧ j.val ≤ i.val + 128) :
    IntOp.minsi 127#32 (IntOp.maxsi 0#32 (IntOp.subi (IntOp.addi (BitVec.ofNat 32 i.val) 128#32) (BitVec.ofNat 32 j.val)))
      = BitVec.ofNat 32 (i.val + 128 - j.val) := by
  rw [dist_word i j ⟨i.val + 255 - j.val, by omega⟩ (by dsimp only; omega), clip_word _ (by dsimp only; omega)]
  dsimp only
  congr 1
  omega

/-- A sequence's block number above 0. -/
theorem later_bit : ∀ n : Fin 32, IntOp.cmpi .sgt (BitVec.ofNat 32 n.val) 0#32 = if n.val = 0 then 0#1 else 1#1 := by
  decide +kernel

theorem own_bit : ∀ j : Fin 256, IntOp.cmpi .sge (BitVec.ofNat 32 j.val) 128#32 = if j.val < 128 then 0#1 else 1#1 := by
  decide +kernel

/-- The bits of "not a sequence's first block" and "the block itself". -/
theorem first_bits (n : Fin 32) (j : Fin 256) :
    IntOp.ori (IntOp.cmpi .sgt (BitVec.ofNat 32 n.val) 0#32) (IntOp.cmpi .sge (BitVec.ofNat 32 j.val) 128#32)
      = if n.val = 0 ∧ j.val < 128 then 0#1 else 1#1 := by
  rw [later_bit, own_bit]
  by_cases h1 : n.val = 0 <;> by_cases h2 : j.val < 128 <;> simp [h1, h2, IntOp.ori]

theorem ref_mask (n : Fin 32) (i : Fin 128) (j : Fin 256) :
    val_main_v49 (F := Ideal) (ix3 n i j)
      = if ¬ (n.val = 0 ∧ j.val < 128) ∧ i.val < j.val ∧ j.val ≤ i.val + 128 then 1#1 else 0#1 := by
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_c_1, val_main_c_2, val_main_c_3, val_main_c_4, val_main_c_5]
  refine (congrArg₂ IntOp.andi (dist_bits i j) (first_bits n j)).trans ?_
  by_cases h1 : n.val = 0 ∧ j.val < 128
  · rw [if_pos h1, if_neg (c := ¬ (n.val = 0 ∧ j.val < 128) ∧ i.val < j.val ∧ j.val ≤ i.val + 128) fun h => h.1 h1]
    by_cases h2 : i.val < j.val ∧ j.val ≤ i.val + 128
    · rw [if_pos h2]; rfl
    · rw [if_neg h2]; rfl
  · rw [if_neg h1]
    by_cases h2 : i.val < j.val ∧ j.val ≤ i.val + 128
    · rw [if_pos h2, if_pos ⟨h1, h2⟩]; rfl
    · rw [if_neg h2, if_neg fun h => h2 h.2]; rfl

theorem ref_dist (i : Fin 128) (j : Fin 256) (h : i.val < j.val ∧ j.val ≤ i.val + 128) :
    val_main_v50 (F := Ideal) (ix2 i j) = BitVec.ofNat 32 (i.val + 128 - j.val) := by
  refine Eq.trans ?_ (dist_clip i j h)
  pointwise [val_main_v50, val_main_call2_v4, val_main_call2_v3, val_main_call2_v2, val_main_call2_v1, val_main_call2_v0, val_main_c_6,
    val_main_c_7, val_main_v30, val_main_v29, val_main_v28, val_main_v27, val_main_v26, val_main_v25, val_main_v24, val_main_v23,
    val_main_v22, val_main_c_1]
  rfl

theorem ref_row (i : Fin 128) (j : Fin 256) (h : i.val < j.val ∧ j.val ≤ i.val + 128) :
    row (val_main_v74 (F := Ideal) (ix3 i j 0)) = biasRow (BitVec.ofNat 32 (i.val + 128 - j.val)) := by
  rw [← ref_dist i j h]
  pointwise [val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57, val_main_v56,
    val_main_v55, val_main_v54, val_main_v53, val_main_v52, val_main_v51, val_main_c_8, val_main_cst_9, val_main_cst_10, val_main_cst_11,
    val_main_c_12, val_main_c_13, val_main_c_14, val_main_c_15, val_main_c_16]
  rfl

theorem ref_bias (b : Fin 4) (hk : Fin 4) (g : Fin 8) (n : Fin 32) (i : Fin 128) (j : Fin 256) (h : i.val < j.val ∧ j.val ≤ i.val + 128) :
    val_main_v79 (F := Ideal) T (ix6 b hk g n i j)
      = T (ix2 (biasRow (BitVec.ofNat 32 (i.val + 128 - j.val))) ⟨hk.val * 8 + g.val, by omega⟩) := by
  pointwise [val_main_v79, val_main_v78, val_main_v77, val_main_v76, val_main_v75]
  refine (gather_rows_ref _ _ _ _ _).trans ?_
  rw [ref_row i j h]

theorem ref_dot (b : Fin 4) (hk : Fin 4) (g : Fin 8) (n : Fin 32) (i : Fin 128) (j : Fin 256) :
    val_main_v21 (F := Ideal) X (ix6 b hk g n i j)
      = (∑ d : Fin 64, val_main_v12 (F := Ideal) X (ix5 b n j hk d) * val_main_v7 (F := Ideal) X (ix6 b n i hk g d))
        * Ideal.ofBits .f32 0x3E000000#32 := by
  pointwise [val_main_v21, val_main_v20, val_main_cst, val_main_v19]
  rw [val_main_v18_apply]
  refine congrArg (· * _) (Finset.sum_congr rfl fun d _ => congrArg₂ (· * ·) (congrArg _ ?_) (congrArg _ ?_))
  · funext a; fin_cases a <;> rfl
  · funext a; fin_cases a <;> rfl

theorem ref_masked (b : Fin 4) (hk : Fin 4) (g : Fin 8) (n : Fin 32) (i : Fin 128) (j : Fin 256) :
    val_main_v81 (F := Ideal) X T (ix6 b hk g n i j)
      = Scalar.select (val_main_v49 (F := Ideal) (ix3 n i j))
          (val_main_v21 (F := Ideal) X (ix6 b hk g n i j) + val_main_v79 (F := Ideal) T (ix6 b hk g n i j)) (⊥ : EReal) := by
  rw [← ofBits_negInf]
  pointwise [val_main_v81, val_main_v80, val_main_call4_v0, val_main_call4_v1, val_main_call4_v2, val_main_cst_17]
  rfl

theorem ref_rowMax (b : Fin 4) (hk : Fin 4) (g : Fin 8) (n : Fin 32) (i : Fin 128) :
    val_main_v83 (F := Ideal) X T (ix5 b hk g n i) = Finset.univ.sup fun j => val_main_v81 (F := Ideal) X T (ix6 b hk g n i j) := by
  unfold val_main_v83
  generalize val_main_v81 (F := Ideal) X T = L
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single (FloatOps.maximumf (F := Ideal) (φ := .f32)) L _ reducesTo_S4x4x8x32x128x256_S4x4x8x32x128_d5 (by decide) h_S_]
  have hb : val_main_cst_18 (F := Ideal) (Shape.Idx.first h_S_) = (⊥ : EReal) := ofBits_negInf
  rw [hb]
  refine Eq.trans (Finset.fold_congr (op := max) (b := (⊥ : EReal)) (g := fun j : Fin 256 => L (ix6 b hk g n i j)) fun j _ => ?_) (fold_sup _)
  refine congrArg L ?_
  funext a; fin_cases a <;> rfl

theorem ref_sinkVal (b : Fin 4) (hk : Fin 4) (g : Fin 8) (n : Fin 32) (i : Fin 128) (z : Fin 1) :
    val_main_v86 (F := Ideal) S (ix6 b hk g n i z) = S (ix1 ⟨hk.val * 8 + g.val, by omega⟩) := by
  pointwise [val_main_v86, val_main_v85, val_main_v82]

theorem ref_sinkVal' (b : Fin 4) (hk : Fin 4) (g : Fin 8) (n : Fin 32) (i : Fin 128) (z : Fin 1) :
    val_main_v94 (F := Ideal) S (ix6 b hk g n i z) = S (ix1 ⟨hk.val * 8 + g.val, by omega⟩) := by
  pointwise [val_main_v94, val_main_v93, val_main_v82]

theorem ref_max (b : Fin 4) (hk : Fin 4) (g : Fin 8) (n : Fin 32) (i : Fin 128) (z : Fin 1) :
    val_main_v87 (F := Ideal) X S T (ix6 b hk g n i z)
      = rowMax (fun j => val_main_v81 (F := Ideal) X T (ix6 b hk g n i j)) (S (ix1 ⟨hk.val * 8 + g.val, by omega⟩)) := by
  rw [val_main_v87_apply, val_main_v84_apply, ref_sinkVal]
  refine congrArg (fun e : EReal => max e (S (ix1 ⟨hk.val * 8 + g.val, by omega⟩))) ?_
  refine Eq.trans (congrArg _ ?_) (ref_rowMax X T b hk g n i)
  funext a; fin_cases a <;> rfl

theorem ref_exp (b : Fin 4) (hk : Fin 4) (g : Fin 8) (n : Fin 32) (i : Fin 128) (j : Fin 256) :
    val_main_v90 (F := Ideal) X S T (ix6 b hk g n i j)
      = Ideal.exp (val_main_v81 (F := Ideal) X T (ix6 b hk g n i j)
          - rowMax (fun j => val_main_v81 (F := Ideal) X T (ix6 b hk g n i j)) (S (ix1 ⟨hk.val * 8 + g.val, by omega⟩))) := by
  pointwise [val_main_v90, val_main_v89, val_main_v88]
  rw [ref_max]

theorem ref_weight (b : Fin 4) (hk : Fin 4) (g : Fin 8) (n : Fin 32) (i : Fin 128) (j : Fin 256) :
    val_main_v99 (F := Ideal) X S T (ix6 b hk g n i j)
      = Ideal.div (val_main_v90 (F := Ideal) X S T (ix6 b hk g n i j))
          ((∑ j : Fin 256, val_main_v90 (F := Ideal) X S T (ix6 b hk g n i j))
            + Ideal.exp (S (ix1 ⟨hk.val * 8 + g.val, by omega⟩)
                - rowMax (fun j => val_main_v81 (F := Ideal) X T (ix6 b hk g n i j)) (S (ix1 ⟨hk.val * 8 + g.val, by omega⟩)))) := by
  have hz : val_main_v91 (F := Ideal) X S T (ix5 b hk g n i) = ∑ j : Fin 256, val_main_v90 (F := Ideal) X S T (ix6 b hk g n i j) := by
    rw [val_main_v91_apply, val_main_cst_19_apply]
    refine (congrArg (· + _) (show _ = (0 : EReal) from ?_)).trans ((zero_add _).trans (Finset.sum_congr rfl fun j _ => congrArg _ ?_))
    · exact Ideal.ofBits_zero _
    · funext a; fin_cases a <;> rfl
  pointwise [val_main_v99, val_main_v98, val_main_v97, val_main_v96, val_main_v95, val_main_v92]
  rw [hz, ref_max, ref_sinkVal']

theorem ref_out (b : Fin 4) (n : Fin 32) (i : Fin 128) (hk : Fin 4) (g : Fin 8) (d : Fin 64) :
    val_main_v101 (F := Ideal) X S T (ix6 b n i hk g d)
      = attendRef (fun j => val_main_v81 (F := Ideal) X T (ix6 b hk g n i j)) (fun j => val_main_v17 (F := Ideal) X (ix5 b n j hk d))
        (S (ix1 ⟨hk.val * 8 + g.val, by omega⟩)) := by
  pointwise [val_main_v101, val_main_v100]
  unfold attendRef
  refine Finset.sum_congr rfl fun j _ => ?_
  rw [ref_weight, mul_comm]
  simp only [ref_exp]

theorem ref_array (R : Fin 16384) (y : Fin 2048) :
    val_main_v104 (F := Ideal) X S T (ix2 R y)
      = val_main_v101 (F := Ideal) X S T (ix6 ⟨R.val / 4096, by omega⟩ ⟨R.val / 128 % 32, by omega⟩ ⟨R.val % 128, by omega⟩
          ⟨y.val / 512, by omega⟩ ⟨y.val / 64 % 8, by omega⟩ ⟨y.val % 64, by omega⟩) := by
  pointwise [val_main_v104, val_main_v103, val_main_v102]

end Cert.Swa

end
-- ==== Proof.Swa.Equal.lean ====
/-
  The kernel's array and the reference's are one array where the inputs are finite.
-/
module

public import proofs.«01_k».proof.Proof.Swa.Array
public import proofs.«01_k».proof.Proof.Swa.Reference

@[expose] public section

set_option maxRecDepth 16384
set_option maxHeartbeats 4000000

noncomputable section

namespace Cert.Swa

open Cert.ReferenceIdeal Cert.ReferenceIdeal.Gen Cert.ReferenceIdeal.Read Idealize.ShloMosaic

/-- A real number: neither infinity. -/
def Finite (x : EReal) : Prop := x ≠ ⊤ ∧ x ≠ ⊥

theorem Finite.coe {x : EReal} (h : Finite x) : ∃ r : ℝ, x = (r : EReal) :=
  ⟨x.toReal, (EReal.coe_toReal h.1 h.2).symm⟩

theorem eighth_f32 : Ideal.ofBits .f32 0x3E000000#32 = ((1 / 8 : ℝ) : EReal) := by
  simp [Ideal.ofBits, Ideal.ieee]
  rw [← EReal.coe_mul]
  congr 1
  norm_num

theorem eighth_bf16 : Ideal.ofBits .bf16 0x3E00#16 = ((1 / 8 : ℝ) : EReal) := by
  simp [Ideal.ofBits, Ideal.ieee]
  rw [← EReal.coe_mul]
  congr 1
  norm_num

theorem mul_ne_top {x y : EReal} (hx : Finite x) (hy : Finite y) : x * ((1 / 8 : ℝ) : EReal) * y ≠ ⊤ := by
  obtain ⟨a, rfl⟩ := hx.coe
  obtain ⟨b, rfl⟩ := hy.coe
  rw [← EReal.coe_mul, ← EReal.coe_mul]
  exact EReal.coe_ne_top _

theorem sum_ne_top {n : ℕ} (f : Fin n → EReal) (h : ∀ d, f d ≠ ⊤) : (∑ d, f d) ≠ ⊤ := by
  refine Finset.sum_induction f (· ≠ ⊤) (fun a b ha hb => EReal.add_ne_top ha hb) (by simp) fun d _ => h d

/-- A value whose logit is masked does not matter. -/
theorem attend_congr (ℓ v w : Fin 256 → EReal) (s : EReal) (h : ∀ j, ℓ j ≠ ⊥ → v j = w j) : attend ℓ v s = attend ℓ w s := by
  unfold attend
  refine congrArg (fun e => Ideal.div e _) (Finset.sum_congr rfl fun j _ => ?_)
  by_cases hj : ℓ j = ⊥
  · rw [hj, exp_bot_sub, zero_mul, zero_mul]
  · rw [h j hj]

variable (X : S16384x12800.Idx → EReal) (S : S32.Idx → EReal) (T : S32x32.Idx → EReal)

/-- The kernel's logit is the reference's masked logit. -/
theorem logit_eq (b : Fin 4) (n : Fin 32) (i : Fin 128) (hk : Fin 4) (g : Fin 8) (j : Fin 256) :
    logitAt X T ⟨b.val * 32 + n.val, by omega⟩ ⟨hk.val * 8 + g.val, by omega⟩ i j = val_main_v81 (F := Ideal) X T (ix6 b hk g n i j) := by
  have hn : (b.val * 32 + n.val) % 32 = n.val := by omega
  have hh : (hk.val * 8 + g.val) / 8 = hk.val := by omega
  rw [ref_masked, ref_mask]
  unfold logitAt
  simp only [hn, hh]
  by_cases hv : ¬ (n.val = 0 ∧ j.val < 128) ∧ i.val < j.val ∧ j.val ≤ i.val + 128
  · rw [if_pos hv, select_one, ref_dot, ref_bias T b hk g n i j hv.2]
    unfold tableAt biasAt
    rw [if_neg hv.1, if_pos hv.2, eighth_f32, eighth_bf16, sum_mul_coe _ _ _ (by norm_num)]
    congr 1
    refine Finset.sum_congr rfl fun d _ => ?_
    have hw : (windowRow ⟨b.val * 32 + n.val, by omega⟩ j).val + 128 = (b.val * 32 + n.val) * 128 + j.val := by
      unfold windowRow
      have := hv.1
      by_cases hj : j.val < 128
      · rw [dif_pos hj]; dsimp only; omega
      · rw [dif_neg hj]; dsimp only; omega
    rw [ref_q, ref_k X b n j hk d _ hv.1 hw, mul_right_comm, mul_comm (X (ix2 (windowRow _ _) _))]
  · rw [if_neg hv, select_zero]
    have : tableAt T n.val ⟨hk.val * 8 + g.val, by omega⟩ i j = ⊥ := by
      unfold tableAt biasAt
      by_cases h1 : n.val = 0 ∧ j.val < 128
      · rw [if_pos h1]
      · rw [if_neg h1, if_neg fun h2 => hv ⟨h1, h2⟩]
    rw [this, EReal.add_bot]

theorem logit_ne_top (hX : ∀ (r : Fin 16384) (y : Fin 2304), Finite (X (ix2 r ⟨6144 + y.val, by omega⟩))) (hT : ∀ k l : Fin 32, Finite (T (ix2 k l)))
    (t : Fin 128) (h : Fin 32) (i : Fin 128) (j : Fin 256) : logitAt X T t h i j ≠ ⊤ := by
  unfold logitAt
  refine EReal.add_ne_top (sum_ne_top _ fun d => ?_) ?_
  · rw [eighth_bf16]
    have hc : (⟨8192 + (h.val / 8 * 64 + d.val), by omega⟩ : Fin 12800)
        = ⟨6144 + (⟨2048 + (h.val / 8 * 64 + d.val), by omega⟩ : Fin 2304).val, by dsimp only; omega⟩ := Fin.ext (by dsimp only; omega)
    rw [hc]
    exact mul_ne_top (hX _ ⟨h.val * 64 + d.val, by omega⟩) (hX _ _)
  · unfold tableAt biasAt
    split
    · exact bot_ne_top
    · split
      · exact (hT _ _).1
      · exact bot_ne_top

theorem head_eq (hX : ∀ (r : Fin 16384) (y : Fin 2304), Finite (X (ix2 r ⟨6144 + y.val, by omega⟩))) (hS : ∀ k : Fin 32, Finite (S (ix1 k)))
    (hT : ∀ k l : Fin 32, Finite (T (ix2 k l))) (b : Fin 4) (n : Fin 32) (i : Fin 128) (hk : Fin 4) (g : Fin 8) (d : Fin 64) :
    outAt X S T ⟨b.val * 32 + n.val, by omega⟩ ⟨hk.val * 8 + g.val, by omega⟩ i d = val_main_v101 (F := Ideal) X S T (ix6 b n i hk g d) := by
  have hh : (hk.val * 8 + g.val) / 8 = hk.val := by omega
  rw [ref_out]
  unfold outAt
  simp only [hh]
  have hl : logitAt X T ⟨b.val * 32 + n.val, by omega⟩ ⟨hk.val * 8 + g.val, by omega⟩ i
      = fun j => val_main_v81 (F := Ideal) X T (ix6 b hk g n i j) := funext fun j => logit_eq X T b n i hk g j
  refine Eq.trans ?_ (attend_eq_attendRef _ _ _ (fun j => ?_) (hS _).1 (hS _).2)
  · rw [hl]
    refine attend_congr _ _ _ _ fun j hj => ?_
    have hv : ¬ (n.val = 0 ∧ j.val < 128) := by
      intro h1
      refine hj ?_
      rw [ref_masked, ref_mask, if_neg fun h => h.1 h1, select_zero]
    have hw : (windowRow ⟨b.val * 32 + n.val, by omega⟩ j).val + 128 = (b.val * 32 + n.val) * 128 + j.val := by
      unfold windowRow
      by_cases hj : j.val < 128
      · rw [dif_pos hj]; dsimp only; omega
      · rw [dif_neg hj]; dsimp only; omega
    exact (ref_v X b n j hk d _ hv hw).symm
  · rw [← congrFun hl j]
    exact logit_ne_top X T hX hT _ _ _ _

theorem array_eq (hX : ∀ (r : Fin 16384) (y : Fin 2304), Finite (X (ix2 r ⟨6144 + y.val, by omega⟩))) (hS : ∀ k : Fin 32, Finite (S (ix1 k)))
    (hT : ∀ k l : Fin 32, Finite (T (ix2 k l))) : outArray X S T = val_main_v104 (F := Ideal) X S T := by
  funext q
  obtain ⟨R, hR⟩ : ∃ R : Fin 16384, R = q 0 := ⟨_, rfl⟩
  obtain ⟨y, hy⟩ : ∃ y : Fin 2048, y = q 1 := ⟨_, rfl⟩
  have hq : q = ix2 R y := by
    funext a
    fin_cases a
    · exact hR.symm
    · exact hy.symm
  refine Eq.trans ?_ ((congrArg _ hq).trans (ref_array X T S R y)).symm
  rw [← head_eq X S T hX hS hT]
  unfold outArray
  rw [hq]
  congr 1
  · exact Fin.ext (by show R.val / 128 = R.val / 4096 * 32 + R.val / 128 % 32; omega)
  · exact Fin.ext (by show y.val / 64 = y.val / 512 * 8 + y.val / 64 % 8; omega)

end Cert.Swa

end
-- ==== Proof.Swa.Finite.lean ====
/-
  What the precondition says of the arguments: the queries, the keys and values, the sinks and the biases are finite.
-/
module

public import proofs.«01_k».proof.Pre_finite_inputs
public import Idealize.ShloMosaic.Lib.Pointwise
public import Idealize.ShloMosaic.Lib.ReduceAll
public import Idealize.ShloMosaic.PureOps.Ideal

@[expose] public section

set_option maxRecDepth 16384
set_option maxHeartbeats 4000000

noncomputable section

namespace Cert.Swa

open Cert.Pre_finite_inputs Idealize.ShloMosaic

/-- The predicate's side conditions hold. -/
theorem pre_facts : Cert.Pre_finite_inputs.Facts where
  slices_S16384x12800_S16384x2304_0_6144 := by decide
  bitsLt_bf16_f32 := by decide
  bcast_S_S16384x2304 := by decide
  reducesTo_S16384x2304_S_d0_1 := by decide
  h_S_ := by decide
  bcast_S_S32 := by decide
  reducesTo_S32_S_d0 := by decide
  bcast_S_S32x32 := by decide
  reducesTo_S32x32_S_d0_1 := by decide

theorem ofBits_inf : Ideal.ofBits .f32 0x7F800000#32 = ⊤ := by
  simp [Ideal.ofBits, Ideal.ieee]

/-- An entry whose magnitude compares below infinity is a real number. -/
theorem finite_of_bit (x : EReal) (h : FloatOps.cmpf (F := Ideal) (φ := .f32) .olt (FloatOps.hostAbsf (F := Ideal) (φ := .f32) x) (Ideal.ofBits .f32 0x7F800000#32) = 1#1) :
    x ≠ ⊤ ∧ x ≠ ⊥ := by
  rw [ofBits_inf] at h
  constructor
  · rintro rfl
    revert h
    simp [FloatOps.cmpf, FloatOps.hostAbsf, Ideal.cmp]
  · rintro rfl
    revert h
    simp [FloatOps.cmpf, FloatOps.hostAbsf, Ideal.cmp]

variable [Facts] (X : FVec Ideal S16384x12800 .bf16) (S : FVec Ideal S32 .f32) (T : FVec Ideal S32x32 .f32)

theorem finite_parts (h : fn (F := Ideal) X S T = fun _ => 1#1) :
    (∀ (r : Fin 16384) (y : Fin 2304), X (ix2 r ⟨6144 + y.val, by omega⟩) ≠ (⊤ : EReal) ∧ X (ix2 r ⟨6144 + y.val, by omega⟩) ≠ (⊥ : EReal))
      ∧ (∀ k : Fin 32, S (ix1 k) ≠ (⊤ : EReal) ∧ S (ix1 k) ≠ (⊥ : EReal))
      ∧ (∀ k l : Fin 32, T (ix2 k l) ≠ (⊤ : EReal) ∧ T (ix2 k l) ≠ (⊥ : EReal)) := by
  have h0 := congrFun h (fun a => a.elim0)
  dsimp only [fn, andi] at h0
  obtain ⟨h1, h2⟩ := IntOp.andi_eq_one.mp h0
  obtain ⟨h3, h4⟩ := IntOp.andi_eq_one.mp h1
  refine ⟨fun r y => finite_of_bit _ ?_, fun k => finite_of_bit _ ?_, fun k l => finite_of_bit _ ?_⟩
  · have h5 := Host.reduce_andi_all _ _ _ _ _ h3 (ix2 r y)
    revert h5
    pointwise
    exact id
  · exact Host.reduce_andi_all _ _ _ _ _ h4 (ix1 k)
  · exact Host.reduce_andi_all _ _ _ _ _ h2 (ix2 k l)

end Cert.Swa

end
-- ==== Proof.In.Run.lean ====
/-
  The fused norm and input projection, run: what its body leaves in each buffer at each grid point, for any float values.

  The grid has a row block in its slow coordinate and a block of columns in its fast one. At the first point of a row
  block the body norms the rows, keeps them in the scratch, and multiplies them with the 128 narrow columns; at every
  point it multiplies the kept rows with the point's 1280 wide columns. The narrow block is written back after the row
  block's last point, where the body stores nothing into it: it still holds what the first point left.
-/
module

public import proofs.«01_k».proof.Proof.Gen.InProjIdeal.Frame
public import proofs.«01_k».proof.Proof.Gen.InProjIdeal.Skeleton
public import Idealize.ShloMosaic.Lib.Pipeline.Value

@[expose] public section

set_option maxRecDepth 16384

noncomputable section

namespace Cert.InProjection

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- One store over a whole buffer leaves its payload, whatever the buffer held. -/
theorem read_stored {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩), View.canon_unit_zero h]

section Body

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1x2048x1280 .bf16) (h4 : a4.IsWhole)
  (a5 : Memref sig .tc .vmem S1x2048x128 .bf16) (h5 : a5.IsWhole) (a6 : Memref sig .tc .vmem S1024x1280 .bf16) (h6 : a6.IsWhole)
  (a7 : Memref sig .tc .vmem S1024x128 .f32) (h7 : a7.IsWhole) (a8 : Memref sig .tc .vmem S1024x2048 .bf16) (h8 : a8.IsWhole)
  (x : Vec F S1024x2048 .f32) (g : Vec F S1x2048 .f32) (w : Vec F S1x2048x1280 .bf16) (u : Vec F S1x2048x128 .bf16)

set_option maxHeartbeats 1000000 in
/-- The first point of a row block: the normed rows in the scratch, their products with the narrow and the wide columns in the outputs. -/
theorem body_first (hc : k0_cond1 i = 1#1) (E : Set ℕ) (K : PUnit → sProp 𝕄) :
    iprop(owns (c : Thread nD τ) a2 fullShare x ∗ owns (c : Thread nD τ) a3 fullShare g ∗ owns (c : Thread nD τ) a4 fullShare w
        ∗ owns (c : Thread nD τ) a5 fullShare u ∗ (∃ d, owns (c : Thread nD τ) a6 fullShare d) ∗ (∃ d, owns (c : Thread nD τ) a7 fullShare d)
        ∗ (∃ d, owns (c : Thread nD τ) a8 fullShare d)
        ∗ (iprop(owns (c : Thread nD τ) a2 fullShare x ∗ owns (c : Thread nD τ) a3 fullShare g ∗ owns (c : Thread nD τ) a4 fullShare w
          ∗ owns (c : Thread nD τ) a5 fullShare u ∗ owns (c : Thread nD τ) a6 fullShare (k0_pay4 (k0_pay2 x g) w)
          ∗ owns (c : Thread nD τ) a7 fullShare (k0_pay3 x g u) ∗ owns (c : Thread nD τ) a8 fullShare (k0_pay2 x g)) -∗ K ⟨⟩))
      ⊢ wp frame (wpE (defs₀ (F := F)) Variants.none c none) E (cc0_in_proj i a2 h2 a3 h3 a4 h4 a5 h5 a6 h6 a7 h7 a8 h8) K := by
  simp only [cc0_in_proj_eq_skeleton]; unfold cc0_in_proj_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
  obtain rfl := h2.eq_unread e2; obtain rfl := h3.eq_unread e3; obtain rfl := h4.eq_unread e4; obtain rfl := h5.eq_unread e5
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    rw [read_stored _ _ zero2]
    simp only [View.readCov_unit_zero (S := S1024x2048) _ zero2, View.readAt_eq_ld, h2.read_unread, h3.read_unread, h4.read_unread,
      View.ld_unit_zero (S := S1024x2048) zero2, View.ld_unit_zero (S := S1x2048) zero2, View.ld_unit_zero (S := S1x2048x1280) zero3]
  isplitl [H7]
  · iexists _; isplitr
    swap; · iexact H7
    ipureintro
    sl_unfold_words
    rw [read_stored _ _ zero2]
    simp only [View.readAt_eq_ld, h2.read_unread, h3.read_unread, h5.read_unread,
      View.ld_unit_zero (S := S1024x2048) zero2, View.ld_unit_zero (S := S1x2048) zero2, View.ld_unit_zero (S := S1x2048x128) zero3]
  iexists _; isplitr
  swap; · iexact H8
  ipureintro
  sl_unfold_words
  rw [read_stored _ _ zero2]
  simp only [View.readAt_eq_ld, h2.read_unread, h3.read_unread,
    View.ld_unit_zero (S := S1024x2048) zero2, View.ld_unit_zero (S := S1x2048) zero2]

set_option maxHeartbeats 1000000 in
/-- A later point of a row block: the kept rows' product with the wide columns; the narrow output and the scratch as they were. -/
theorem body_later (hc : ¬k0_cond1 i = 1#1) (n : Vec F S1024x128 .f32) (s : Vec F S1024x2048 .bf16) (E : Set ℕ) (K : PUnit → sProp 𝕄) :
    iprop(owns (c : Thread nD τ) a2 fullShare x ∗ owns (c : Thread nD τ) a3 fullShare g ∗ owns (c : Thread nD τ) a4 fullShare w
        ∗ owns (c : Thread nD τ) a5 fullShare u ∗ (∃ d, owns (c : Thread nD τ) a6 fullShare d) ∗ owns (c : Thread nD τ) a7 fullShare n
        ∗ owns (c : Thread nD τ) a8 fullShare s
        ∗ (iprop(owns (c : Thread nD τ) a2 fullShare x ∗ owns (c : Thread nD τ) a3 fullShare g ∗ owns (c : Thread nD τ) a4 fullShare w
          ∗ owns (c : Thread nD τ) a5 fullShare u ∗ owns (c : Thread nD τ) a6 fullShare (k0_pay4 s w)
          ∗ owns (c : Thread nD τ) a7 fullShare n ∗ owns (c : Thread nD τ) a8 fullShare s) -∗ K ⟨⟩))
      ⊢ wp frame (wpE (defs₀ (F := F)) Variants.none c none) E (cc0_in_proj i a2 h2 a3 h3 a4 h4 a5 h5 a6 h6 a7 h7 a8 h8) K := by
  simp only [cc0_in_proj_eq_skeleton]; unfold cc0_in_proj_skel
  unfold owns
  iintro ⟨H2, H3, ⟨%f4, %e4, H4⟩, H5, ⟨%d6, %f6, -, H6⟩, H7, ⟨%f8, %e8, H8⟩, Hk⟩
  obtain rfl := h4.eq_unread e4; obtain rfl := h8.eq_unread e8
  sl_exec (disch := first | sl_exact hc)
  sl_step
  iapply Hk
  isplitl [H2]; · iexact H2
  isplitl [H3]; · iexact H3
  isplitl [H4]
  · iexists _; isplitr; · ipureintro; exact h4.read_unread _
    iexact H4
  isplitl [H5]; · iexact H5
  isplitl [H6]
  · iexists _; isplitr
    swap; · iexact H6
    ipureintro
    sl_unfold_words
    rw [read_stored _ _ zero2]
    simp only [View.readAt_eq_ld, h4.read_unread, h8.read_unread,
      View.ld_unit_zero (S := S1024x2048) zero2, View.ld_unit_zero (S := S1x2048x1280) zero3]
  isplitl [H7]; · iexact H7
  iexists _; isplitr; · ipureintro; exact h8.read_unread _
  iexact H8

end Body

/-! ## What the buffers hold after each point -/

/-- The body takes its first branch at the points that open a row block. -/
theorem opens_iff : ∀ t : Fin cfg0.N, k0_cond1 (grid0.coords t) = 1#1 ↔ t.val % 10 = 0 :=
  (fun t => by
    have ht : t.val < 160 := Nat.lt_of_lt_of_eq t.isLt N_0
    have e1 : (grid0.coords t 1).val = t.val / 1 % 10 := Pipeline.Grid.coords_val t 1 (by decide) rfl
    simp only [k0_cond1, e1]
    word_cmp : ∀ t : Fin grid0.N, k0_cond1 (grid0.coords t) = 1#1 ↔ t.val % 10 = 0)

/-- The point that opens the row block of `t`. -/
def opening (t : Fin cfg0.N) : Fin cfg0.N := ⟨10 * (t.val / 10), Nat.lt_of_le_of_lt (Nat.mul_div_le _ _) t.isLt⟩

theorem opening_self (t : Fin cfg0.N) (h : t.val % 10 = 0) : opening t = t := Fin.ext (by show 10 * (t.val / 10) = t.val; omega)

theorem opening_pred (t : Fin cfg0.N) (h : ¬t.val % 10 = 0) (h' : t.val - 1 < cfg0.N) : opening ⟨t.val - 1, h'⟩ = opening t :=
  Fin.ext (by show 10 * ((t.val - 1) / 10) = 10 * (t.val / 10); omega)

section Points

variable (m : (ℓ : Loc nD τ sig) → Buf (Elt F) ℓ)

/-- The normed rows in the scratch. -/
def keptRows (c : Dev nD) (t : Fin cfg0.N) : Vec F S1024x2048 .bf16 := k0_pay2 (iblk m c 0 (opening t)) (iblk m c 1 (opening t))

/-- The wide output's block. -/
def wideBlock (c : Dev nD) (t : Fin cfg0.N) : Vec F S1024x1280 .bf16 := k0_pay4 (keptRows m c t) (iblk m c 2 t)

/-- The narrow output's block. -/
def narrowBlock (c : Dev nD) (t : Fin cfg0.N) : Vec F S1024x128 .f32 :=
  k0_pay3 (iblk m c 0 (opening t)) (iblk m c 1 (opening t)) (iblk m c 3 (opening t))

theorem keptRows_pred (c : Dev nD) (t : Fin cfg0.N) (h : ¬t.val % 10 = 0) (h' : t.val - 1 < cfg0.N) :
    keptRows m c ⟨t.val - 1, h'⟩ = keptRows m c t := by unfold keptRows; rw [opening_pred t h h']

theorem narrowBlock_pred (c : Dev nD) (t : Fin cfg0.N) (h : ¬t.val % 10 = 0) (h' : t.val - 1 < cfg0.N) :
    narrowBlock m c ⟨t.val - 1, h'⟩ = narrowBlock m c t := by unfold narrowBlock; rw [opening_pred t h h']

abbrev scratch : Memref sig .tc .vmem S1024x2048 .bf16 := Memref.whole cc0_scratch0

/-- Between points: the scratch at what the point before left in it (before the first point, at anything). -/
def Between (c : Dev nD) : (n : ℕ) → n ≤ cfg0.N → sProp 𝕄
  | 0, _ => Pipeline.ΦA spec0 c
  | n + 1, hn => iprop(owns (c : Thread nD τ) scratch fullShare (keptRows m c ⟨n, hn⟩) ∗ (∃ r, prngReg c r))

theorem between_pos (c : Dev nD) (n : ℕ) (h : n ≤ cfg0.N) (hz : n ≠ 0) : Between m c n h
    = iprop(owns (c : Thread nD τ) scratch fullShare (keptRows m c ⟨n - 1, by omega⟩) ∗ (∃ r, prngReg c r)) := by
  cases n with
  | zero => exact absurd rfl hz
  | succ n => rfl

theorem launched (c : Dev nD) : (Pipeline.ΦA spec0 c : sProp 𝕄)
    = iprop((∃ d, owns (c : Thread nD τ) scratch fullShare d) ∗ (∃ r, prngReg c r)) := by
  unfold Pipeline.ΦA; rw [scopedRest0_eq]; simp only [scratch, owns_whole]; rfl

/-- Whatever the point, the scratch holds something. -/
theorem between_any (c : Dev nD) (n : ℕ) (h : n ≤ cfg0.N) :
    Between m c n h ⊢ iprop((∃ d, owns (c : Thread nD τ) scratch fullShare d) ∗ (∃ r, prngReg c r)) := by
  by_cases hz : n = 0
  · subst hz
    show Pipeline.ΦA spec0 c ⊢ _
    rw [launched]
  · rw [between_pos m c n h hz]
    iintro ⟨HS, Hg⟩
    isplitl [HS]
    · iexists _; iexact HS
    iexact Hg

/-! ## The launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideBlock m c t
    | ⟨5, _⟩ => narrowBlock m c t
  Φ t := Between m c t.val (Nat.le_of_lt_succ t.isLt)
  q _ := fullShare
  owed _ := 0

theorem A_eq (c : Dev nD) (w : Fin cfg0.W) : (dats m 0 c).A w = V m c (Pipeline.arrRef spec0 w) := by dsimp only [dats]

theorem between_start (c : Dev nD) (t : Fin cfg0.N) : (dats m 0 c).Φ t.castSucc = Between m c t.val (Nat.le_of_lt t.isLt) := by
  dsimp only [dats]; exact Pipeline.Dat.Φ_castSucc (Between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = wideBlock m c t := by dsimp only [dats]
theorem after_5 (c : Dev nD) (t : Fin cfg0.N) : (dats m 0 c).after 5 t = narrowBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem idle_iff (t : Fin cfg0.N) : cfg0.idle 5 (cfg0.grid.coords t) = true ↔ ¬t.val % 10 = 0 := by
  show (!(k0_cond1 (grid0.coords t) == 1#1)) = true ↔ _
  rw [← opens_iff t]
  simp

/-- Inside a row block the narrow output's buffer still holds the block the opening point left: nothing is stored into it and it
    is not written back between. -/
theorem before_5 (c : Dev nD) (d) : ∀ (n : ℕ) (t : Fin cfg0.N), t.val % 10 = n + 1 → (dats m 0 c).before 5 t d = narrowBlock m c t := by
  intro n
  induction n with
  | zero =>
    intro t h
    have hN : t.val < 160 := lt_of_lt_of_eq t.isLt (show cfg0.N = 160 from N_0)
    rw [Dat.before_of_pos _ 5 t (by omega) ((cfg0.win 5).fetch_out rfl t), if_neg fun hf => by
      have := (flush0_5 _).mp hf; dsimp only at this; omega]
    unfold Dat.left
    rw [Bool.eq_false_iff.mpr fun hi => (idle_iff _).mp hi (by show (t.val - 1) % 10 = 0; omega)]
    dsimp only
    unfold Dat.kept
    rw [Pipeline.fill_of_clip_none 5 _ (fun _ => rfl) d ((dats m 0 c).after 5 _), Window.fill_cut, after_5]
    exact narrowBlock_pred m c t (by omega) _
  | succ n ih =>
    intro t h
    have hN : t.val < 160 := lt_of_lt_of_eq t.isLt (show cfg0.N = 160 from N_0)
    rw [Dat.before_of_pos _ 5 t (by omega) ((cfg0.win 5).fetch_out rfl t), if_neg fun hf => by
      have := (flush0_5 _).mp hf; dsimp only at this; omega]
    unfold Dat.left
    rw [(idle_iff _).mpr (by show ¬(t.val - 1) % 10 = 0; omega)]
    dsimp only
    rw [ih _ (by show (t.val - 1) % 10 = n + 1; omega)]
    exact narrowBlock_pred m c t (by omega) _

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x1280 .bf16 := win0_2.stage (cfg0.slots t 2)
abbrev ms3 (t : Fin cfg0.N) : Memref sig .tc .vmem S1x2048x128 .bf16 := win0_3.stage (cfg0.slots t 3)
abbrev ms4 (t : Fin cfg0.N) : Memref sig .tc .vmem S1024x1280 .bf16 := win0_4.stage (cfg0.slots t 4)
abbrev ms5 (t : Fin cfg0.N) : Memref sig .tc .vmem S1024x128 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare (narrowBlock m c t))

set_option maxHeartbeats 3200000 in
/-- The body at any point, by whether it opens a row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, after_0, after_1, after_2, after_3, after_4,
    show (dats m 0 c).Φ t.succ = iprop(owns (c : Thread nD τ) scratch fullShare (keptRows m c t) ∗ (∃ r, prngReg c r)) from rfl,
    between_start m c t]
  by_cases h : t.val % 10 = 0
  · refine (BIClass.sep_mono (between_any m c _ _) .rfl).trans ?_
    unfold wideBlock keptRows narrowBlock
    rw [opening_self t h]
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ (iblk m c 0 t) (iblk m c 1 t) (iblk m c 2 t) (iblk m c 3 t)
      ((opens_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := by omega
    rw [between_pos m c _ _ hz, keptRows_pred m c t h]
    simp only [fun d => before_5 m c d (t.val % 10 - 1) t (by omega)]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (iblk m c 0 t) (iblk m c 1 t) (iblk m c 2 t) (iblk m c 3 t)
      (fun hc => h ((opens_iff t).mp hc)) (narrowBlock m c t) (keptRows m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The narrow block is what the pipeline asks of window 5: at a point that stores nothing into it and does not write it back, what
    the body found. -/
theorem leaves_5 (c : Dev nD) (t : Fin cfg0.N) :
    owns (c : Thread nD τ) (ms5 t) fullShare (narrowBlock m c t) ⊢ ((dats m 0 c).leavesExact 5 t : sProp 𝕄) := by
  by_cases h : t.val % 10 = 0
  · have hi : cfg0.idle 5 (cfg0.grid.coords t) = false := Bool.eq_false_iff.mpr fun hi => (idle_iff _).mp hi h
    unfold Dat.leavesExact
    rw [hi]
    dsimp only
    rw [after_5]
  · have hi : cfg0.idle 5 (cfg0.grid.coords t) = true := (idle_iff _).mpr h
    by_cases hf : (cfg0.win 5).flush t = true
    · unfold Dat.leavesExact
      rw [hi, hf]
      dsimp only
      rw [after_5]
    · rw [Dat.leavesExact_idle _ 5 t hi (Bool.eq_false_iff.mpr hf)]
      iintro H
      iexists (narrowBlock m c t)
      rw [before_5 m c _ (t.val % 10 - 1) t (by omega)]
      iexact H

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ =>
    BIClass.sep_mono .rfl (BIClass.sep_mono .rfl (BIClass.sep_mono .rfl (BIClass.sep_mono .rfl (BIClass.sep_mono .rfl
      (BIClass.sep_mono .rfl (BIClass.sep_mono .rfl (leaves_5 m c t)))))))

theorem hin (c : Dev nD) : Pipeline.ΦA spec0 c ⊢ (dats m 0 c).Φ 0 := by
  rw [show (dats m 0 c).Φ 0 = Pipeline.ΦA spec0 c from rfl]
  try exact Entails.refl _

theorem hout (c : Dev nD) : (dats m 0 c).Φ (Fin.last cfg0.N) ⊢ Pipeline.ΦA spec0 c := by
  rw [launched]
  exact between_any m c cfg0.N (Nat.le_refl _)

variable (ρ : Dev nD → PrngReg)

set_option backward.isDefEq.respectTransparency.types false in
/-- Every run ends, with the pipeline's arrays at what the blocks above make of them and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the arguments unchanged, every counter at zero, and the two results at the arrays of windows 4 and 5. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ (∀ c : Dev nD, r.2.mem ((c.tc : Thread nD τ).loc main_v11_0) = (dats m 0 c).arrAt 4 cfg0.N
        ∧ r.2.mem ((c.tc : Thread nD τ).loc main_v11_1) = (dats m 0 c).arrAt 5 cfg0.N)
      ∧ r.2.sem = fun _ => 0) :=
  (θ_run defs _ _).mono (fun r h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩,
      fun c => ⟨(h.1 c).1 4, (h.1 c).1 5⟩, h.2⟩) (run_main m ρ)

end Points

end Cert.InProjection

end
-- ==== Proof.In.Value.lean ====
/-
  The fused norm and input projection: the two arrays the kernel leaves, entry by entry, and that they are the reference's.

  The kernel multiplies the normed rows with two selections of the weight's columns: all but the 32 columns from 6144 on
  (the wide array), and those 32, padded with zero columns (the narrow one). The reference multiplies with the whole weight
  and selects columns of the product.
-/
module

public import proofs.«01_k».proof.Proof.In.Run
public import proofs.«01_k».proof.Proof.Gen.InProjReferenceIdeal.Read
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.InProjection

open Cert.InProjIdeal Cert.InProjIdeal.Gen Idealize.ShloMosaic Idealize.ShloMosaic.TcCoe

theorem index0 : ∀ t : Fin cfg0.N, (cfg0.win 0).index t = ![t.val / 10, 0] := by decide +kernel
theorem index1 : ∀ t : Fin cfg0.N, (cfg0.win 1).index t = ![0, 0] := by decide +kernel
theorem index2 : ∀ t : Fin cfg0.N, (cfg0.win 2).index t = ![0, 0, t.val % 10] := by decide +kernel
theorem index3 : ∀ t : Fin cfg0.N, (cfg0.win 3).index t = ![0, 0, 0] := by decide +kernel
theorem index4 : ∀ t : Fin cfg0.N, (cfg0.win 4).index t = ![t.val / 10, t.val % 10] := by decide +kernel
theorem index5 : ∀ t : Fin cfg0.N, (cfg0.win 5).index t = ![t.val / 10, 0] := by decide +kernel

theorem tlt (t : Fin cfg0.N) : t.val < 160 := t.isLt

/-- A row's sequence, and its place in it. -/
abbrev seqOf (r : Fin 16384) : Fin 4 := ⟨r.val / 4096, by omega⟩
abbrev posOf (r : Fin 16384) : Fin 4096 := ⟨r.val % 4096, by omega⟩

/-- Row `r` of the input over its root mean square, scaled, at column `k`. -/
def normed (X : S4x4096x2048.Idx → EReal) (G : S2x2048.Idx → EReal) (r : Fin 16384) (k : Fin 2048) : EReal :=
  X (ix3 (seqOf r) (posOf r) k)
    * Ideal.rsqrt (Ideal.div (∑ j : Fin 2048, X (ix3 (seqOf r) (posOf r) j) * X (ix3 (seqOf r) (posOf r) j)) (Scalar.ofBits (F := Ideal) .f32 0x45000000#32)
      + Scalar.ofBits (F := Ideal) .f32 0x358637BD#32) * G (ix2 0 k)

/-- The weight's column that is column `y` of the wide array. -/
def wideColumn (W : S2x2048x12832.Idx → EReal) (k : Fin 2048) (y : Fin 12800) : EReal :=
  if h : y.val < 6144 then W (ix3 0 k ⟨y.val, by omega⟩) else W (ix3 0 k ⟨y.val + 32, by omega⟩)

/-- The weight's column that is column `y` of the narrow array; zero from column 32 on. -/
def narrowColumn (W : S2x2048x12832.Idx → EReal) (k : Fin 2048) (y : Fin 128) : EReal :=
  if h : y.val < 32 then W (ix3 0 k ⟨6144 + y.val, by omega⟩) else 0

def wideEntry (X : S4x4096x2048.Idx → EReal) (G : S2x2048.Idx → EReal) (W : S2x2048x12832.Idx → EReal) (r : Fin 16384) (y : Fin 12800) : EReal :=
  ∑ k, normed X G r k * wideColumn W k y

def narrowEntry (X : S4x4096x2048.Idx → EReal) (G : S2x2048.Idx → EReal) (W : S2x2048x12832.Idx → EReal) (r : Fin 16384) (y : Fin 128) : EReal :=
  ∑ k, normed X G r k * narrowColumn W k y

/-- The wide array. -/
def wideArray (X : S4x4096x2048.Idx → EReal) (G : S2x2048.Idx → EReal) (W : S2x2048x12832.Idx → EReal) : S16384x12800.Idx → EReal :=
  fun q => wideEntry X G W (q 0) (q 1)

/-- The narrow array. -/
def narrowArray (X : S4x4096x2048.Idx → EReal) (G : S2x2048.Idx → EReal) (W : S2x2048x12832.Idx → EReal) : S16384x128.Idx → EReal :=
  fun q => narrowEntry X G W (q 0) (q 1)

/-- Row `i` of the block at point `t`, as a row of the array. -/
abbrev rowAt (n : ℕ) (hn : n < 160) (i : Fin 1024) : Fin 16384 := ⟨n / 10 * 1024 + i.val, by omega⟩

section
variable (m : (ℓ : Loc nD τ sig) → Buf (Elt Ideal) ℓ) (c : Dev nD)

theorem rows (t : Fin cfg0.N) (i : Fin 1024) (k : Fin 2048) :
    iblk m c 0 t (ix2 i k)
      = (m ((c : Thread nD τ).loc main_arg0) (ix3 (seqOf (rowAt t.val (tlt t) i)) (posOf (rowAt t.val (tlt t) i)) k) : EReal) := by
  have := tlt t
  have e : (V m c main_v0 (ix2 (rowAt t.val (tlt t) i) k) : EReal)
      = m ((c : Thread nD τ).loc main_arg0) (ix3 (seqOf (rowAt t.val (tlt t) i)) (posOf (rowAt t.val (tlt t) i)) k) := by
    unfold V
    after_reads_at
  rw [← e]
  blk_ext [iblk, index0 t]

theorem scales (t : Fin cfg0.N) (k : Fin 2048) :
    iblk m c 1 t (ix2 0 k) = (m ((c : Thread nD τ).loc main_arg1) (ix2 0 k) : EReal) := by
  have e : (V m c main_v10 (ix2 0 k) : EReal) = m ((c : Thread nD τ).loc main_arg1) (ix2 0 k) := by
    unfold V
    after_reads_at
  rw [← e]
  blk_ext [iblk, index1 t]

theorem wides (t : Fin cfg0.N) (k : Fin 2048) (j : Fin 1280) :
    iblk m c 2 t (ix3 0 k j) = wideColumn (m ((c : Thread nD τ).loc main_arg2)) k ⟨t.val % 10 * 1280 + j.val, by omega⟩ := by
  have := tlt t
  have e : (V m c main_v4 (ix3 0 k ⟨t.val % 10 * 1280 + j.val, by omega⟩) : EReal)
      = wideColumn (m ((c : Thread nD τ).loc main_arg2)) k ⟨t.val % 10 * 1280 + j.val, by omega⟩ := by
    unfold V wideColumn
    after_reads_at
    split
    · after_reads_at
    · rename_i h
      have e' : (⟨t.val % 10 * 1280 + j.val + 32, by omega⟩ : Fin 12832) = ⟨6176 + (t.val % 10 * 1280 + j.val - 6144), by omega⟩ := Fin.ext (by dsimp only; omega)
      rw [e']
      after_reads_at
  rw [← e]
  blk_ext [iblk, index2 t]

theorem narrows (t : Fin cfg0.N) (k : Fin 2048) (j : Fin 128) :
    iblk m c 3 t (ix3 0 k j) = narrowColumn (m ((c : Thread nD τ).loc main_arg2)) k j := by
  have e : (V m c main_v7 (ix3 0 k j) : EReal) = narrowColumn (m ((c : Thread nD τ).loc main_arg2)) k j := by
    unfold V narrowColumn
    after_reads_at
    split
    · rfl
    · show (((0#32 : BitVec 32).toInt : ℝ) : EReal) = 0
      simp
  rw [← e]
  blk_ext [iblk, index3 t]

/-- The normed rows the opening point stores. -/
theorem norm_val (x0 : Vec Ideal S1024x2048 .f32) (x1 : Vec Ideal S1x2048 .f32) (i : Fin 1024) (k : Fin 2048) :
    (k0_pay2 x0 x1 (ix2 i k) : EReal)
      = x0 (ix2 i k) * Ideal.rsqrt (Ideal.div (∑ j : Fin 2048, x0 (ix2 i j) * x0 (ix2 i j)) (Scalar.ofBits (F := Ideal) .f32 0x45000000#32)
        + Scalar.ofBits (F := Ideal) .f32 0x358637BD#32) * x1 (ix2 0 k) := by
  pointwise [k0_pay2, k0_pay1]

theorem narrow_val (x0 : Vec Ideal S1024x2048 .f32) (x1 : Vec Ideal S1x2048 .f32) (x3 : Vec Ideal S1x2048x128 .bf16) (i : Fin 1024) (j : Fin 128) :
    (k0_pay3 x0 x1 x3 (ix2 i j) : EReal) = ∑ k : Fin 2048, k0_pay2 x0 x1 (ix2 i k) * x3 (ix3 0 k j) := by
  unfold k0_pay3 k0_pay2
  generalize k0_pay1 x0 x1 = h
  pointwise []

theorem wide_val (h : Vec Ideal S1024x2048 .bf16) (x2 : Vec Ideal S1x2048x1280 .bf16) (i : Fin 1024) (j : Fin 1280) :
    (k0_pay4 h x2 (ix2 i j) : EReal) = ∑ k : Fin 2048, h (ix2 i k) * x2 (ix3 0 k j) := by
  pointwise [k0_pay4]

theorem norm_at (t : Fin cfg0.N) (i : Fin 1024) (k : Fin 2048) :
    (k0_pay2 (F := Ideal) (iblk m c 0 t) (iblk m c 1 t) (ix2 i k) : EReal)
      = normed (m ((c : Thread nD τ).loc main_arg0)) (m ((c : Thread nD τ).loc main_arg1)) (rowAt t.val (tlt t) i) k := by
  refine (norm_val _ _ i k).trans ?_
  unfold normed
  rw [scales m c t k]
  simp only [rows m c t]

theorem kept_at (t : Fin cfg0.N) (i : Fin 1024) (k : Fin 2048) :
    (keptRows (F := Ideal) m c t (ix2 i k) : EReal)
      = normed (m ((c : Thread nD τ).loc main_arg0)) (m ((c : Thread nD τ).loc main_arg1)) (rowAt t.val (tlt t) i) k := by
  have er : rowAt (opening t).val (tlt (opening t)) i = rowAt t.val (tlt t) i :=
    Fin.ext (by show 10 * (t.val / 10) / 10 * 1024 + i.val = t.val / 10 * 1024 + i.val; omega)
  unfold keptRows
  rw [norm_at m c (opening t) i k, er]

theorem wide_at (t : Fin cfg0.N) (i : Fin 1024) (j : Fin 1280) (q : S16384x12800.Idx)
    (h0 : (q 0).val = t.val / 10 * 1024 + i.val) (h1 : (q 1).val = t.val % 10 * 1280 + j.val) :
    wideBlock (F := Ideal) m c t (ix2 i j)
      = wideArray (m ((c : Thread nD τ).loc main_arg0)) (m ((c : Thread nD τ).loc main_arg1)) (m ((c : Thread nD τ).loc main_arg2)) q := by
  have e0 : q 0 = rowAt t.val (tlt t) i := Fin.ext h0
  have e1 : q 1 = (⟨t.val % 10 * 1280 + j.val, by omega⟩ : Fin 12800) := Fin.ext h1
  unfold wideBlock
  refine (wide_val _ _ i j).trans ?_
  unfold wideArray
  rw [e0, e1]
  unfold wideEntry
  simp only [kept_at m c t, wides m c t]

theorem narrow_at (t : Fin cfg0.N) (i : Fin 1024) (j : Fin 128) (q : S16384x128.Idx)
    (h0 : (q 0).val = t.val / 10 * 1024 + i.val) (h1 : (q 1).val = j.val) :
    narrowBlock (F := Ideal) m c t (ix2 i j)
      = narrowArray (m ((c : Thread nD τ).loc main_arg0)) (m ((c : Thread nD τ).loc main_arg1)) (m ((c : Thread nD τ).loc main_arg2)) q := by
  have e0 : q 0 = rowAt t.val (tlt t) i := Fin.ext h0
  have e1 : q 1 = j := Fin.ext h1
  unfold narrowBlock
  refine (narrow_val _ _ _ i j).trans ?_
  unfold narrowArray
  rw [e0, e1]
  unfold narrowEntry
  refine Finset.sum_congr rfl fun k _ => ?_
  exact congrArg₂ (· * ·) (kept_at m c t i k) (narrows m c (opening t) k j)

/-- The wide array after the run. -/
theorem wide_array : (dats (F := Ideal) m 0 c).arrAt 4 cfg0.N
    = wideArray (m ((c : Thread nD τ).loc main_arg0)) (m ((c : Thread nD τ).loc main_arg1)) (m ((c : Thread nD τ).loc main_arg2)) := by
  refine (dats m 0 c).arrAt_eq_of_covers 4 _ (by decide +kernel) fun t hf y => ?_
  let y' : S1024x1280.Idx := y
  have hy : y' = ix2 (y' 0) (y' 1) := by
    funext a
    fin_cases a <;> rfl
  blk_simp
  rw [after_4]
  refine (congrArg (wideBlock m c t) hy).trans (wide_at m c t (y' 0) (y' 1) _ ?_ ?_)
  · blk_simp [index4 t]
    rfl
  · blk_simp [index4 t]
    rfl

/-- The narrow array after the run. -/
theorem narrow_array : (dats (F := Ideal) m 0 c).arrAt 5 cfg0.N
    = narrowArray (m ((c : Thread nD τ).loc main_arg0)) (m ((c : Thread nD τ).loc main_arg1)) (m ((c : Thread nD τ).loc main_arg2)) := by
  refine (dats m 0 c).arrAt_eq_of_covers 5 _ (by decide +kernel) fun t hf y => ?_
  let y' : S1024x128.Idx := y
  have hy : y' = ix2 (y' 0) (y' 1) := by
    funext a
    fin_cases a <;> rfl
  blk_simp
  rw [after_5]
  refine (congrArg (narrowBlock m c t) hy).trans (narrow_at m c t (y' 0) (y' 1) _ ?_ ?_)
  · blk_simp [index5 t]
    rfl
  · blk_simp [index5 t]
    rfl

end

section Reference

variable (X : S4x4096x2048.Idx → EReal) (G : S2x2048.Idx → EReal) (W : S2x2048x12832.Idx → EReal)

open Cert.InProjReferenceIdeal.Read

/-- The reference's normed rows. -/
theorem reference_norm (r : Fin 16384) (k : Fin 2048) :
    (val_main_v14 (F := Ideal) X G (ix3 (seqOf r) (posOf r) k) : EReal) = normed X G r k := by
  unfold normed
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference's product with the whole weight. -/
theorem reference_product (r : Fin 16384) (j : Fin 12832) :
    (val_main_v17 (F := Ideal) X G W (ix3 (seqOf r) (posOf r) j) : EReal) = ∑ k, normed X G r k * W (ix3 0 k j) := by
  have hn := funext fun k => reference_norm X G r k
  rw [← hn]
  clear hn
  unfold val_main_v17
  generalize val_main_v14 (F := Ideal) X G = H
  pointwise [val_main_v16, val_main_v15]

/-- A row of the product as a function of the column's number. -/
theorem by_column (P : Cert.InProjReferenceIdeal.S4x4096x12832.Idx → EReal) (r : Fin 16384) :
    ∃ Q : ℕ → EReal, ∀ (a : ℕ) (h : a < 12832), P (ix3 (seqOf r) (posOf r) ⟨a, h⟩) = Q a :=
  ⟨fun a => if h : a < 12832 then P (ix3 (seqOf r) (posOf r) ⟨a, h⟩) else 0, fun a h => by simp only [dif_pos h]⟩

theorem reference_wide : val_main_v34 (F := Ideal) X G W = wideArray X G W := by
  funext q
  obtain ⟨r, y, rfl⟩ : ∃ (r : Fin 16384) (y : Fin 12800), q = ix2 r y := ⟨q 0, q 1, Idealize.ShloMosaic.ValueIdx.eq_ix2 q⟩
  have hp : wideEntry X G W r y = if h : y.val < 6144 then val_main_v17 (F := Ideal) X G W (ix3 (seqOf r) (posOf r) ⟨y.val, by omega⟩)
      else val_main_v17 (F := Ideal) X G W (ix3 (seqOf r) (posOf r) ⟨y.val + 32, by omega⟩) := by
    unfold wideEntry wideColumn
    split <;> exact (reference_product X G W r _).symm
  show _ = wideEntry X G W r y
  rw [hp]
  clear hp
  unfold val_main_v34 val_main_v30 val_main_v29 val_main_v28 val_main_v27 val_main_v26 val_main_v25 val_main_v24 val_main_v21 val_main_v20
    val_main_v19 val_main_v18
  generalize val_main_v17 (F := Ideal) X G W = P
  pointwise []
  obtain ⟨Q, hQ⟩ := by_column P r
  simp only [hQ]
  clear hQ
  split_ifs <;> first
    | (exfalso; omega)
    | exact congrArg Q (by omega)
    | rfl

theorem reference_narrow : val_main_v33 (F := Ideal) X G W = narrowArray X G W := by
  funext q
  obtain ⟨r, y, rfl⟩ : ∃ (r : Fin 16384) (y : Fin 128), q = ix2 r y := ⟨q 0, q 1, Idealize.ShloMosaic.ValueIdx.eq_ix2 q⟩
  have hp : narrowEntry X G W r y = if h : y.val < 32 then val_main_v17 (F := Ideal) X G W (ix3 (seqOf r) (posOf r) ⟨6144 + y.val, by omega⟩)
      else 0 := by
    unfold narrowEntry narrowColumn
    split
    · exact (reference_product X G W r _).symm
    · exact Finset.sum_eq_zero fun k _ => mul_zero _
  show _ = narrowEntry X G W r y
  rw [hp]
  clear hp
  unfold val_main_v33 val_main_v32 val_main_v31 val_main_v23 val_main_v22
  generalize val_main_v17 (F := Ideal) X G W = P
  pointwise [val_main_cst_2]
  obtain ⟨Q, hQ⟩ := by_column P r
  simp only [hQ]
  clear hQ
  split_ifs <;> first
    | (exfalso; omega)
    | exact congrArg Q (by omega)
    | rfl

end Reference

end Cert.InProjection

end
-- ==== Proof.Merge.Value.lean ====
/-
  The merge of the two branches: the kernel multiplies each branch with a block of columns of its weights, scales the two
  products by the logistic function of the branches' gates, and adds them. The array it leaves, entry by entry, is the
  reference's.
-/
module

public import proofs.«01_k».proof.Proof.Gen.MergeIdeal.Value
public import proofs.«01_k».proof.Proof.Gen.MergeReferenceIdeal.Read
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.Merging

open Cert.MergeIdeal Cert.MergeIdeal.Gen Idealize.ShloMosaic Idealize.ShloMosaic.TcCoe

variable (m : (ℓ : Loc nD τ sig) → Buf (Elt Ideal) ℓ)

theorem index0 : ∀ t : Fin cfg0.N, (cfg0.win 0).index t = ![t.val / 4, 0] := by decide +kernel
theorem index1 : ∀ t : Fin cfg0.N, (cfg0.win 1).index t = ![t.val / 4, 0] := by decide +kernel
theorem index2 : ∀ t : Fin cfg0.N, (cfg0.win 2).index t = ![0, 0, t.val % 4] := by decide +kernel
theorem index3 : ∀ t : Fin cfg0.N, (cfg0.win 3).index t = ![0, 0, t.val % 4] := by decide +kernel
theorem index4 : ∀ t : Fin cfg0.N, (cfg0.win 4).index t = ![t.val / 4, 17 + t.val % 4] := by decide +kernel
theorem index5 : ∀ t : Fin cfg0.N, (cfg0.win 5).index t = ![t.val / 4, 21 + t.val % 4] := by decide +kernel
theorem index6 : ∀ t : Fin cfg0.N, (cfg0.win 6).index t = ![t.val / 4, t.val % 4] := by decide +kernel

theorem tlt (t : Fin cfg0.N) : t.val < 64 := t.isLt

/-- The two branches' products with their weights, each scaled by its gate, added: the entry of row `r` and column `y`. -/
def merged (A B : S16384x2048.Idx → EReal) (P : S16384x12800.Idx → EReal) (U W : S2x2048x2048.Idx → EReal) (r : Fin 16384) (y : Fin 2048) : EReal :=
  Ideal.logistic (P (ix2 r ⟨8704 + y.val, by omega⟩)) * (∑ k : Fin 2048, A (ix2 r k) * U (ix3 0 k y))
    + Ideal.logistic (P (ix2 r ⟨10752 + y.val, by omega⟩)) * (∑ k : Fin 2048, B (ix2 r k) * W (ix3 0 k y))

/-- The merged array. -/
def outArray (A B : S16384x2048.Idx → EReal) (P : S16384x12800.Idx → EReal) (U W : S2x2048x2048.Idx → EReal) : S16384x2048.Idx → EReal :=
  fun q => merged A B P U W (q 0) (q 1)

theorem rows_a (c : Dev nD) (t : Fin cfg0.N) (i : Fin 1024) (k : Fin 2048) :
    iblk m c 0 t (ix2 i k) = m ((c : Thread nD τ).loc main_arg0) (ix2 ⟨t.val / 4 * 1024 + i.val, by have := tlt t; omega⟩ k) := by
  have := tlt t
  rw [← V_main_arg0 m c]
  blk_ext [iblk, index0 t]

theorem rows_b (c : Dev nD) (t : Fin cfg0.N) (i : Fin 1024) (k : Fin 2048) :
    iblk m c 1 t (ix2 i k) = m ((c : Thread nD τ).loc main_arg1) (ix2 ⟨t.val / 4 * 1024 + i.val, by have := tlt t; omega⟩ k) := by
  have := tlt t
  rw [← V_main_arg1 m c]
  blk_ext [iblk, index1 t]

theorem weights_a (c : Dev nD) (t : Fin cfg0.N) (k : Fin 2048) (j : Fin 512) :
    iblk m c 2 t (ix3 0 k j) = (m ((c : Thread nD τ).loc main_arg3) (ix3 0 k ⟨t.val % 4 * 512 + j.val, by omega⟩) : EReal) := by
  have := tlt t
  have e : (V m c main_v0 (ix3 0 k ⟨t.val % 4 * 512 + j.val, by omega⟩) : EReal)
      = m ((c : Thread nD τ).loc main_arg3) (ix3 0 k ⟨t.val % 4 * 512 + j.val, by omega⟩) := by
    unfold V
    after_reads_at
  rw [← e]
  blk_ext [iblk, index2 t]

theorem weights_b (c : Dev nD) (t : Fin cfg0.N) (k : Fin 2048) (j : Fin 512) :
    iblk m c 3 t (ix3 0 k j) = (m ((c : Thread nD τ).loc main_arg4) (ix3 0 k ⟨t.val % 4 * 512 + j.val, by omega⟩) : EReal) := by
  have := tlt t
  have e : (V m c main_v1 (ix3 0 k ⟨t.val % 4 * 512 + j.val, by omega⟩) : EReal)
      = m ((c : Thread nD τ).loc main_arg4) (ix3 0 k ⟨t.val % 4 * 512 + j.val, by omega⟩) := by
    unfold V
    after_reads_at
  rw [← e]
  blk_ext [iblk, index3 t]

theorem gates_a (c : Dev nD) (t : Fin cfg0.N) (i : Fin 1024) (j : Fin 512) :
    iblk m c 4 t (ix2 i j) = m ((c : Thread nD τ).loc main_arg2)
      (ix2 ⟨t.val / 4 * 1024 + i.val, by have := tlt t; omega⟩ ⟨8704 + (t.val % 4 * 512 + j.val), by omega⟩) := by
  have := tlt t
  have e : (⟨8704 + (t.val % 4 * 512 + j.val), by omega⟩ : Fin 12800) = ⟨(17 + t.val % 4) * 512 + j.val, by omega⟩ := Fin.ext (by dsimp only; omega)
  rw [← V_main_arg2 m c, e]
  blk_ext [iblk, index4 t]

theorem gates_b (c : Dev nD) (t : Fin cfg0.N) (i : Fin 1024) (j : Fin 512) :
    iblk m c 5 t (ix2 i j) = m ((c : Thread nD τ).loc main_arg2)
      (ix2 ⟨t.val / 4 * 1024 + i.val, by have := tlt t; omega⟩ ⟨10752 + (t.val % 4 * 512 + j.val), by omega⟩) := by
  have := tlt t
  have e : (⟨10752 + (t.val % 4 * 512 + j.val), by omega⟩ : Fin 12800) = ⟨(21 + t.val % 4) * 512 + j.val, by omega⟩ := Fin.ext (by dsimp only; omega)
  rw [← V_main_arg2 m c, e]
  blk_ext [iblk, index5 t]

theorem tile_eq (x0 x1 : Vec Ideal S1024x2048 .bf16) (x2 x3 : Vec Ideal S1x2048x512 .bf16) (x4 x5 : Vec Ideal S1024x512 .bf16) :
    out0_6 x0 x1 x2 x3 x4 x5 = k0_pay1 x0 x2 x1 x3 x4 x5 := by
  unfold out0_6
  rw [View.canon_cons_unit_lit _ _ _ (by decide)]
  rw [View.ld_unit_lit _ _ (by decide), View.ld_unit_lit _ _ (by decide), View.ld_unit_lit _ _ (by decide),
    View.ld_unit_lit _ _ (by decide), View.ld_unit_lit _ _ (by decide), View.ld_unit_lit _ _ (by decide)]

/-- One stored tile from the blocks of its point. -/
theorem tile_val (x0 x1 : Vec Ideal S1024x2048 .bf16) (x2 x3 : Vec Ideal S1x2048x512 .bf16) (x4 x5 : Vec Ideal S1024x512 .bf16) (i : Fin 1024) (j : Fin 512) :
    (k0_pay1 x0 x2 x1 x3 x4 x5 (ix2 i j) : EReal)
      = Ideal.logistic (x4 (ix2 i j)) * (∑ k : Fin 2048, x0 (ix2 i k) * x2 (ix3 0 k j))
        + Ideal.logistic (x5 (ix2 i j)) * (∑ k : Fin 2048, x1 (ix2 i k) * x3 (ix3 0 k j)) := by
  pointwise [k0_pay1]

theorem after_at (c : Dev nD) (t : Fin cfg0.N) (i : Fin 1024) (j : Fin 512) (q : S16384x2048.Idx)
    (h0 : (q 0).val = t.val / 4 * 1024 + i.val) (h1 : (q 1).val = t.val % 4 * 512 + j.val) :
    out0_6 (iblk m c 0 t) (iblk m c 1 t) (iblk m c 2 t) (iblk m c 3 t) (iblk m c 4 t) (iblk m c 5 t) (ix2 i j)
      = outArray (m ((c : Thread nD τ).loc main_arg0)) (m ((c : Thread nD τ).loc main_arg1)) (m ((c : Thread nD τ).loc main_arg2))
        (m ((c : Thread nD τ).loc main_arg3)) (m ((c : Thread nD τ).loc main_arg4)) q := by
  have := tlt t
  have e0 : q 0 = (⟨t.val / 4 * 1024 + i.val, by omega⟩ : Fin 16384) := Fin.ext h0
  have e1 : q 1 = (⟨t.val % 4 * 512 + j.val, by omega⟩ : Fin 2048) := Fin.ext h1
  rw [tile_eq]
  refine (tile_val _ _ _ _ _ _ i j).trans ?_
  unfold outArray
  rw [e0, e1]
  unfold merged
  rw [gates_a m c t i j, gates_b m c t i j]
  simp only [rows_a, rows_b, weights_a, weights_b]

theorem array_val (c : Dev nD) : (dats m 0 c).arrAt 6 cfg0.N
    = outArray (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  have ht := tlt t
  let y' : S1024x512.Idx := y
  have hy : y' = ix2 (y' 0) (y' 1) := by
    funext a
    fin_cases a <;> rfl
  blk_simp
  rw [after0_6]
  refine (congrArg (out0_6 (iblk m c 0 t) (iblk m c 1 t) (iblk m c 2 t) (iblk m c 3 t) (iblk m c 4 t) (iblk m c 5 t)) hy).trans
    (after_at m c t (y' 0) (y' 1) _ ?_ ?_)
  · blk_simp [index6 t]
    rfl
  · blk_simp [index6 t]
    rfl

open Cert.MergeReferenceIdeal.Read in
/-- The reference's array is the same function. -/
theorem reference_val (A B : S16384x2048.Idx → EReal) (P : S16384x12800.Idx → EReal) (U W : S2x2048x2048.Idx → EReal) :
    val_main_v27 (F := Ideal) A B P U W = outArray A B P U W := by
  funext q
  obtain ⟨r, y, rfl⟩ : ∃ (r : Fin 16384) (y : Fin 2048), q = ix2 r y := ⟨q 0, q 1, Idealize.ShloMosaic.ValueIdx.eq_ix2 q⟩
  show _ = merged A B P U W r y
  unfold merged Ideal.logistic
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2]

end Cert.Merging

end
-- ==== Proof.Out.Value.lean ====
/-
  The output projection: the kernel adds to each tile of the activations the product of a block of rows with a block of
  columns of the weights. The array it leaves, entry by entry, is the reference's.
-/
module

public import proofs.«01_k».proof.Proof.Gen.OutProjIdeal.Value
public import proofs.«01_k».proof.Proof.Gen.OutProjReferenceIdeal.Read
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.OutProjection

open Cert.OutProjIdeal Cert.OutProjIdeal.Gen Idealize.ShloMosaic Idealize.ShloMosaic.TcCoe

variable (m : (ℓ : Loc nD τ sig) → Buf (Elt Ideal) ℓ)

theorem index0 : ∀ t : Fin cfg0.N, (cfg0.win 0).index t = ![t.val / 4, 0] := by decide +kernel
theorem index1 : ∀ t : Fin cfg0.N, (cfg0.win 1).index t = ![0, 0, t.val % 4] := by decide +kernel
theorem index2 : ∀ t : Fin cfg0.N, (cfg0.win 2).index t = ![t.val / 4, t.val % 4] := by decide +kernel
theorem index3 : ∀ t : Fin cfg0.N, (cfg0.win 3).index t = ![t.val / 4, t.val % 4] := by decide +kernel

theorem tlt (t : Fin cfg0.N) : t.val < 32 := t.isLt

/-- The activations plus the product with the first layer's weights. -/
def outArray (Y : S16384x2048.Idx → EReal) (X : S16384x2048.Idx → EReal) (W : S2x2048x2048.Idx → EReal) : S16384x2048.Idx → EReal := fun q =>
  X (ix2 (q 0) (q 1)) + ∑ k : Fin 2048, Y (ix2 (q 0) k) * W (ix3 0 k (q 1))

theorem rows (c : Dev nD) (t : Fin cfg0.N) (i k : Fin 2048) :
    iblk m c 0 t (ix2 i k) = m ((c : Thread nD τ).loc main_arg0) (ix2 ⟨t.val / 4 * 2048 + i.val, by have := tlt t; omega⟩ k) := by
  have := tlt t
  rw [← V_main_arg0 m c]
  blk_ext [iblk, index0 t]

theorem weights (c : Dev nD) (t : Fin cfg0.N) (k : Fin 2048) (j : Fin 512) :
    iblk m c 1 t (ix3 0 k j) = (m ((c : Thread nD τ).loc main_arg2) (ix3 0 k ⟨t.val % 4 * 512 + j.val, by omega⟩) : EReal) := by
  have := tlt t
  have e : (V m c main_v0 (ix3 0 k ⟨t.val % 4 * 512 + j.val, by omega⟩) : EReal)
      = m ((c : Thread nD τ).loc main_arg2) (ix3 0 k ⟨t.val % 4 * 512 + j.val, by omega⟩) := by
    unfold V
    after_reads_at
  rw [← e]
  blk_ext [iblk, index1 t]

theorem acts (c : Dev nD) (t : Fin cfg0.N) (i : Fin 2048) (j : Fin 512) :
    iblk m c 2 t (ix2 i j) = m ((c : Thread nD τ).loc main_arg1) (ix2 ⟨t.val / 4 * 2048 + i.val, by have := tlt t; omega⟩ ⟨t.val % 4 * 512 + j.val, by omega⟩) := by
  have := tlt t
  rw [← V_main_arg1 m c]
  blk_ext [iblk, index2 t]

theorem tile_eq (x0 : Vec Ideal S2048x2048 .bf16) (x1 : Vec Ideal S1x2048x512 .bf16) (x2 : Vec Ideal S2048x512 .f32) :
    out0_3 x0 x1 x2 = k0_pay1 x2 x0 x1 := by
  unfold out0_3
  rw [View.canon_cons_unit_lit _ _ _ (by decide), View.ld_unit_lit _ _ (by decide), View.ld_unit_lit _ _ (by decide), View.ld_unit_lit _ _ (by decide)]

/-- One stored tile: the activations' tile plus a row of activations times a column of weights. -/
theorem tile_val (x0 : Vec Ideal S2048x2048 .bf16) (x1 : Vec Ideal S1x2048x512 .bf16) (x2 : Vec Ideal S2048x512 .f32) (i : Fin 2048) (j : Fin 512) :
    (k0_pay1 x2 x0 x1 (ix2 i j) : EReal) = x2 (ix2 i j) + ∑ k : Fin 2048, x0 (ix2 i k) * x1 (ix3 0 k j) := by
  pointwise [k0_pay1]

theorem after_at (c : Dev nD) (t : Fin cfg0.N) (i : Fin 2048) (j : Fin 512) (q : S16384x2048.Idx)
    (h0 : (q 0).val = t.val / 4 * 2048 + i.val) (h1 : (q 1).val = t.val % 4 * 512 + j.val) :
    out0_3 (iblk m c 0 t) (iblk m c 1 t) (iblk m c 2 t) (ix2 i j)
      = outArray (m ((c : Thread nD τ).loc main_arg0)) (m ((c : Thread nD τ).loc main_arg1)) (m ((c : Thread nD τ).loc main_arg2)) q := by
  have := tlt t
  have e0 : q 0 = (⟨t.val / 4 * 2048 + i.val, by omega⟩ : Fin 16384) := Fin.ext h0
  have e1 : q 1 = (⟨t.val % 4 * 512 + j.val, by omega⟩ : Fin 2048) := Fin.ext h1
  rw [tile_eq]
  refine (tile_val _ _ _ i j).trans ?_
  unfold outArray
  rw [e0, e1, acts m c t i j]
  simp only [rows, weights]

theorem array_val (c : Dev nD) : (dats m 0 c).arrAt 3 cfg0.N
    = outArray (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := tlt t
  let y' : S2048x512.Idx := y
  have hy : y' = ix2 (y' 0) (y' 1) := by
    funext a
    fin_cases a <;> rfl
  blk_simp
  rw [after0_3]
  refine (congrArg (out0_3 (iblk m c 0 t) (iblk m c 1 t) (iblk m c 2 t)) hy).trans (after_at m c t (y' 0) (y' 1) _ ?_ ?_)
  · blk_simp [index3 t]
    rfl
  · blk_simp [index3 t]
    rfl

/-- The reference's array is the same function. -/
theorem reference_val (Y X : S16384x2048.Idx → EReal) (W : S2x2048x2048.Idx → EReal) :
    Cert.OutProjReferenceIdeal.Read.val_main_v4 (F := Ideal) Y X W = outArray Y X W := by
  funext q
  obtain ⟨r, y, rfl⟩ : ∃ (r : Fin 16384) (y : Fin 2048), q = ix2 r y := ⟨q 0, q 1, Idealize.ShloMosaic.ValueIdx.eq_ix2 q⟩
  unfold outArray
  pointwise [Cert.OutProjReferenceIdeal.Read.val_main_v4, Cert.OutProjReferenceIdeal.Read.val_main_v3, Cert.OutProjReferenceIdeal.Read.val_main_v2, Cert.OutProjReferenceIdeal.Read.val_main_v1, Cert.OutProjReferenceIdeal.Read.val_main_v0]

end Cert.OutProjection

end
-- ==== Proof.Dense.Cases.lean ====
/-
  The feed-forward kernel's body at one grid point: what it leaves in its output block and in the scratch that carries
  the normed rows, at the first point of a row block (`A`) and at the later ones (`B`).
-/
module

public import proofs.«01_k».proof.Proof.Gen.DenseFfnIdeal.Value

@[expose] public section

set_option maxRecDepth 16384
set_option maxHeartbeats 4000000

noncomputable section

namespace Cert.FeedForward

open Cert.DenseFfnIdeal Cert.DenseFfnIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The later points add the block's product to what the point before left, with the rows it kept. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1024x2048 .f32) (h7 : a7.IsWhole) (a8 : Memref sig .tc .vmem S1024x2048 .bf16) (h8 : a8.IsWhole)
    (hc : ¬cond0_0 i) (x0 : Vec F S1024x2048 .f32) (x1 : Vec F S1x2048 .f32) (x2 x3 : Vec F S2048x512 .bf16) (x4 : Vec F S512x2048 .bf16)
    (xo : Vec F S1024x2048 .f32) (xs : Vec F S1024x2048 .bf16) :
    out0_B_5 c i a2 h2 a3 h3 a4 h4 a5 h5 a6 h6 a7 h7 a8 h8 hc x0 x1 x2 x3 x4 xo xs = k0_pay2 xs x2 x3 xo x4 := by
  unfold out0_B_5
  rw [View.read_writes_eq_canon _ _ _ (cover0_B_5 c i a2 h2 a3 h3 a4 h4 a5 h5 a6 h6 a7 h7 a8 h8 hc x0 x1 x2 x3 x4 xo xs)]
  unfold kernelRun0_B
  dsimp only
  rw [View.canon_unit_zero hz]
  simp only [View.readAt_eq_ld, h4.read_unread, h5.read_unread, h6.read_unread, h7.read_unread, h8.read_unread,
    View.ld_unit_zero (S := S1024x2048) hz, View.ld_unit_zero (S := S2048x512) hz, View.ld_unit_zero (S := S512x2048) hz]

/-- The first point of a row block leaves the normed rows in the scratch. -/
theorem sout_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1024x2048 .f32) (h7 : a7.IsWhole) (a8 : Memref sig .tc .vmem S1024x2048 .bf16) (h8 : a8.IsWhole)
    (hc : cond0_0 i) (x0 : Vec F S1024x2048 .f32) (x1 : Vec F S1x2048 .f32) (x2 x3 : Vec F S2048x512 .bf16) (x4 : Vec F S512x2048 .bf16) :
    sout0_A_0 c i a2 h2 a3 h3 a4 h4 a5 h5 a6 h6 a7 h7 a8 h8 hc x0 x1 x2 x3 x4 = k0_pay1 x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h3.read_unread,
    View.ld_unit_zero (S := S1024x2048) hz, View.ld_unit_zero (S := S1x2048) hz]

/-- The first point of a row block starts from the input rows and adds the first block's product. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S1024x2048 .f32) (h7 : a7.IsWhole) (a8 : Memref sig .tc .vmem S1024x2048 .bf16) (h8 : a8.IsWhole)
    (hc : cond0_0 i) (x0 : Vec F S1024x2048 .f32) (x1 : Vec F S1x2048 .f32) (x2 x3 : Vec F S2048x512 .bf16) (x4 : Vec F S512x2048 .bf16) :
    out0_A_5 c i a2 h2 a3 h3 a4 h4 a5 h5 a6 h6 a7 h7 a8 h8 hc x0 x1 x2 x3 x4 = k0_pay2 (k0_pay1 x0 x1) x2 x3 x0 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1024x2048) hz]
  simp only [View.readCov_unit_zero (S := S1024x2048) _ hz, View.readAt_eq_ld, h2.read_unread, h3.read_unread, h4.read_unread, h5.read_unread,
    h6.read_unread, View.ld_unit_zero (S := S1024x2048) hz, View.ld_unit_zero (S := S1x2048) hz, View.ld_unit_zero (S := S2048x512) hz,
    View.ld_unit_zero (S := S512x2048) hz]

end Cert.FeedForward

end
-- ==== Proof.Dense.Value.lean ====
/-
  The feed-forward block: the array the kernel leaves, entry by entry, and that it is the reference's.
-/
module

public import proofs.«01_k».proof.Proof.Dense.Cases
public import proofs.«01_k».proof.Proof.Gen.DenseFfnReferenceIdeal.Read
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.FeedForward

open Cert.DenseFfnIdeal Cert.DenseFfnIdeal.Gen Idealize.ShloMosaic Idealize.ShloMosaic.TcCoe

variable (m : (ℓ : Loc nD τ sig) → Buf (Elt Ideal) ℓ)

theorem index0 : ∀ t : Fin cfg0.N, (cfg0.win 0).index t = ![t.val / 11, 0] := by decide +kernel
theorem index1 : ∀ t : Fin cfg0.N, (cfg0.win 1).index t = ![0, 0] := by decide +kernel
theorem index2 : ∀ t : Fin cfg0.N, (cfg0.win 2).index t = ![0, t.val % 11] := by decide +kernel
theorem index3 : ∀ t : Fin cfg0.N, (cfg0.win 3).index t = ![0, t.val % 11] := by decide +kernel
theorem index4 : ∀ t : Fin cfg0.N, (cfg0.win 4).index t = ![t.val % 11, 0] := by decide +kernel
theorem index5 : ∀ t : Fin cfg0.N, (cfg0.win 5).index t = ![t.val / 11, 0] := by decide +kernel

theorem tlt (t : Fin cfg0.N) : t.val < 176 := t.isLt

/-- Row `r` of the input over its root mean square, scaled, at column `k`. -/
def normed (X : S16384x2048.Idx → EReal) (G : S2x2048.Idx → EReal) (r : Fin 16384) (k : Fin 2048) : EReal :=
  X (ix2 r k) * Ideal.rsqrt (Ideal.div (∑ j : Fin 2048, X (ix2 r j) * X (ix2 r j)) (Scalar.ofBits (F := Ideal) .f32 0x45000000#32)
    + Scalar.ofBits (F := Ideal) .f32 0x358637BD#32) * G (ix2 0 k)

/-- Column `f` of a weight, zero past the last. -/
def column (W : S1x2048x5504.Idx → EReal) (k : Fin 2048) (f : ℕ) : EReal := if h : f < 5504 then W (ix3 0 k ⟨f, h⟩) else 0

/-- Row `f` of the last weight, zero past the last. -/
def rowOf (W : S1x5504x2048.Idx → EReal) (f : ℕ) (d : Fin 2048) : EReal := if h : f < 5504 then W (ix3 0 ⟨f, h⟩ d) else 0

/-- The gated product of the normed row with one column of each of the two weights. -/
def gated (H : Fin 2048 → EReal) (U V : Fin 2048 → EReal) : EReal :=
  (∑ k, H k * U k) * Ideal.logistic (∑ k, H k * U k) * ∑ k, H k * V k

theorem rows (c : Dev nD) (t : Fin cfg0.N) (i : Fin 1024) (k : Fin 2048) :
    iblk m c 0 t (ix2 i k) = m ((c : Thread nD τ).loc main_arg0) (ix2 ⟨t.val / 11 * 1024 + i.val, by have := tlt t; omega⟩ k) := by
  have := tlt t
  rw [← V_main_arg0 m c]
  blk_ext [iblk, index0 t]

theorem scales (c : Dev nD) (t : Fin cfg0.N) (k : Fin 2048) :
    iblk m c 1 t (ix2 0 k) = (m ((c : Thread nD τ).loc main_arg1) (ix2 0 k) : EReal) := by
  have e : (V m c main_v14 (ix2 0 k) : EReal) = m ((c : Thread nD τ).loc main_arg1) (ix2 0 k) := by
    unfold V
    after_reads_at
  rw [← e]
  blk_ext [iblk, index1 t]

theorem gates (c : Dev nD) (t : Fin cfg0.N) (k : Fin 2048) (j : Fin 512) :
    iblk m c 2 t (ix2 k j) = column (m ((c : Thread nD τ).loc main_arg2)) k (t.val % 11 * 512 + j.val) := by
  have := tlt t
  have e : (V m c main_v3 (ix2 k ⟨t.val % 11 * 512 + j.val, by omega⟩) : EReal)
      = column (m ((c : Thread nD τ).loc main_arg2)) k (t.val % 11 * 512 + j.val) := by
    unfold V column
    after_reads_at
  rw [← e]
  blk_ext [iblk, index2 t]

theorem ups (c : Dev nD) (t : Fin cfg0.N) (k : Fin 2048) (j : Fin 512) :
    iblk m c 3 t (ix2 k j) = column (m ((c : Thread nD τ).loc main_arg3)) k (t.val % 11 * 512 + j.val) := by
  have := tlt t
  have e : (V m c main_v7 (ix2 k ⟨t.val % 11 * 512 + j.val, by omega⟩) : EReal)
      = column (m ((c : Thread nD τ).loc main_arg3)) k (t.val % 11 * 512 + j.val) := by
    unfold V column
    after_reads_at
  rw [← e]
  blk_ext [iblk, index3 t]

theorem downs (c : Dev nD) (t : Fin cfg0.N) (j : Fin 512) (d : Fin 2048) :
    iblk m c 4 t (ix2 j d) = rowOf (m ((c : Thread nD τ).loc main_arg4)) (t.val % 11 * 512 + j.val) d := by
  have := tlt t
  have e : (V m c main_v11 (ix2 ⟨t.val % 11 * 512 + j.val, by omega⟩ d) : EReal)
      = rowOf (m ((c : Thread nD τ).loc main_arg4)) (t.val % 11 * 512 + j.val) d := by
    unfold V rowOf
    after_reads_at
  rw [← e]
  blk_ext [iblk, index4 t]

/-- The normed rows the first point of a row block stores. -/
theorem norm_val (x0 : Vec Ideal S1024x2048 .f32) (x1 : Vec Ideal S1x2048 .f32) (i : Fin 1024) (k : Fin 2048) :
    (k0_pay1 x0 x1 (ix2 i k) : EReal)
      = x0 (ix2 i k) * Ideal.rsqrt (Ideal.div (∑ j : Fin 2048, x0 (ix2 i j) * x0 (ix2 i j)) (Scalar.ofBits (F := Ideal) .f32 0x45000000#32)
        + Scalar.ofBits (F := Ideal) .f32 0x358637BD#32) * x1 (ix2 0 k) := by
  pointwise [k0_pay1]

/-- What one point adds. -/
theorem add_val (h : Vec Ideal S1024x2048 .bf16) (x2 x3 : Vec Ideal S2048x512 .bf16) (o : Vec Ideal S1024x2048 .f32) (x4 : Vec Ideal S512x2048 .bf16)
    (i : Fin 1024) (d : Fin 2048) :
    (k0_pay2 h x2 x3 o x4 (ix2 i d) : EReal)
      = o (ix2 i d) + ∑ j : Fin 512, gated (fun k => h (ix2 i k)) (fun k => x2 (ix2 k j)) (fun k => x3 (ix2 k j)) * x4 (ix2 j d) := by
  unfold gated
  pointwise [k0_pay2]

/-- The reference's normed rows. -/
theorem reference_norm (X : S16384x2048.Idx → EReal) (G : S2x2048.Idx → EReal) (r : Fin 16384) (k : Fin 2048) :
    (Cert.DenseFfnReferenceIdeal.Read.val_main_v14 (F := Ideal) X G (ix2 r k) : EReal) = normed X G r k := by
  unfold normed
  pointwise [Cert.DenseFfnReferenceIdeal.Read.val_main_v14, Cert.DenseFfnReferenceIdeal.Read.val_main_v13, Cert.DenseFfnReferenceIdeal.Read.val_main_v12,
    Cert.DenseFfnReferenceIdeal.Read.val_main_v11, Cert.DenseFfnReferenceIdeal.Read.val_main_v10, Cert.DenseFfnReferenceIdeal.Read.val_main_v9,
    Cert.DenseFfnReferenceIdeal.Read.val_main_v8, Cert.DenseFfnReferenceIdeal.Read.val_main_v7, Cert.DenseFfnReferenceIdeal.Read.val_main_v6,
    Cert.DenseFfnReferenceIdeal.Read.val_main_v5, Cert.DenseFfnReferenceIdeal.Read.val_main_v4, Cert.DenseFfnReferenceIdeal.Read.val_main_v3,
    Cert.DenseFfnReferenceIdeal.Read.val_main_v2, Cert.DenseFfnReferenceIdeal.Read.val_main_v1, Cert.DenseFfnReferenceIdeal.Read.val_main_v0,
    Cert.DenseFfnReferenceIdeal.Read.val_main_cst, Cert.DenseFfnReferenceIdeal.Read.val_main_cst_0, Cert.DenseFfnReferenceIdeal.Read.val_main_cst_1]

/-- What column `f` of the hidden layer contributes to row `r`, column `d`. -/
def contribution (X : S16384x2048.Idx → EReal) (G : S2x2048.Idx → EReal) (U V : S1x2048x5504.Idx → EReal) (W : S1x5504x2048.Idx → EReal)
    (r : Fin 16384) (d : Fin 2048) (f : ℕ) : EReal :=
  gated (normed X G r) (fun k => column U k f) (fun k => column V k f) * rowOf W f d

/-- The input's entry plus the contributions of the first `n` columns of the hidden layer. -/
def partialEntry (X : S16384x2048.Idx → EReal) (G : S2x2048.Idx → EReal) (U V : S1x2048x5504.Idx → EReal) (W : S1x5504x2048.Idx → EReal)
    (r : Fin 16384) (d : Fin 2048) (n : ℕ) : EReal :=
  X (ix2 r d) + ∑ f ∈ Finset.range n, contribution X G U V W r d f

/-- The block's output at row `r`, column `d`. -/
def entry (X : S16384x2048.Idx → EReal) (G : S2x2048.Idx → EReal) (U V : S1x2048x5504.Idx → EReal) (W : S1x5504x2048.Idx → EReal)
    (r : Fin 16384) (d : Fin 2048) : EReal :=
  X (ix2 r d) + ∑ f : Fin 5504, contribution X G U V W r d f.val

/-- The output array. -/
def outArray (X : S16384x2048.Idx → EReal) (G : S2x2048.Idx → EReal) (U V : S1x2048x5504.Idx → EReal) (W : S1x5504x2048.Idx → EReal) :
    S16384x2048.Idx → EReal := fun q => entry X G U V W (q 0) (q 1)

/-- The columns past the last contribute nothing. -/
theorem sum_padded (X : S16384x2048.Idx → EReal) (G : S2x2048.Idx → EReal) (U V : S1x2048x5504.Idx → EReal) (W : S1x5504x2048.Idx → EReal)
    (r : Fin 16384) (d : Fin 2048) :
    ∑ f ∈ Finset.range 5632, contribution X G U V W r d f = ∑ f : Fin 5504, contribution X G U V W r d f.val := by
  rw [show (5632 : ℕ) = 5504 + 128 from rfl, Finset.sum_range_add, ← Finset.sum_range (n := 5504) (fun f => contribution X G U V W r d f)]
  rw [Finset.sum_eq_zero (s := Finset.range 128), add_zero]
  intro f _
  unfold contribution rowOf
  rw [dif_neg (by omega), mul_zero]

/-- Row `i` of the block at point `t`, as a row of the array. -/
abbrev rowAt (n : ℕ) (hn : n < 176) (i : Fin 1024) : Fin 16384 := ⟨n / 11 * 1024 + i.val, by omega⟩

section
variable (c : Dev nD)

/-- The rows normed from the blocks of a point are those of the array. -/
theorem norm_at (t : Fin cfg0.N) (i : Fin 1024) (k : Fin 2048) :
    (k0_pay1 (F := Ideal) (iblk m c 0 t) (iblk m c 1 t) (ix2 i k) : EReal) = normed (m ((c : Thread nD τ).loc main_arg0)) (m ((c : Thread nD τ).loc main_arg1)) (rowAt t.val (tlt t) i) k := by
  refine (norm_val _ _ i k).trans ?_
  unfold normed
  rw [scales m c t k]
  simp only [rows m c t]

/-- One point's addition, the rows it multiplies being the normed ones. -/
theorem add_at (t : Fin cfg0.N) (h : Vec Ideal S1024x2048 .bf16) (o : Vec Ideal S1024x2048 .f32) (i : Fin 1024) (d : Fin 2048)
    (hh : ∀ k, (h (ix2 i k) : EReal) = normed (m ((c : Thread nD τ).loc main_arg0)) (m ((c : Thread nD τ).loc main_arg1)) (rowAt t.val (tlt t) i) k) :
    (k0_pay2 (F := Ideal) h (iblk m c 2 t) (iblk m c 3 t) o (iblk m c 4 t) (ix2 i d) : EReal)
      = o (ix2 i d) + ∑ f ∈ Finset.range 512, contribution (m ((c : Thread nD τ).loc main_arg0)) (m ((c : Thread nD τ).loc main_arg1)) (m ((c : Thread nD τ).loc main_arg2)) (m ((c : Thread nD τ).loc main_arg3)) (m ((c : Thread nD τ).loc main_arg4)) (rowAt t.val (tlt t) i) d (t.val % 11 * 512 + f) := by
  refine (add_val _ _ _ _ _ i d).trans ?_
  rw [Finset.sum_range]
  refine congrArg (_ + ·) (Finset.sum_congr rfl fun j _ => ?_)
  unfold contribution
  rw [show (fun k => (h (ix2 i k) : EReal)) = normed (m ((c : Thread nD τ).loc main_arg0)) (m ((c : Thread nD τ).loc main_arg1)) (rowAt t.val (tlt t) i) from funext hh, downs m c t j d,
    show (fun k => (iblk m c 2 t (ix2 k j) : EReal)) = fun k => column (m ((c : Thread nD τ).loc main_arg2)) k (t.val % 11 * 512 + j.val) from funext fun k => gates m c t k j,
    show (fun k => (iblk m c 3 t (ix2 k j) : EReal)) = fun k => column (m ((c : Thread nD τ).loc main_arg3)) k (t.val % 11 * 512 + j.val) from funext fun k => ups m c t k j]

/-- What the scratch and the output block hold after a point: the normed rows, and the input rows plus the columns met so far. -/
theorem state : ∀ (n : ℕ) (hn : n < cfg0.N) (i : Fin 1024),
    (∀ k : Fin 2048, ((outsAt0 m c n hn).2 (ix2 i k) : EReal) = normed (m ((c : Thread nD τ).loc main_arg0)) (m ((c : Thread nD τ).loc main_arg1)) (rowAt n hn i) k)
    ∧ ∀ d : Fin 2048, ((outsAt0 m c n hn).1 (ix2 i d) : EReal)
      = partialEntry (m ((c : Thread nD τ).loc main_arg0)) (m ((c : Thread nD τ).loc main_arg1)) (m ((c : Thread nD τ).loc main_arg2)) (m ((c : Thread nD τ).loc main_arg3)) (m ((c : Thread nD τ).loc main_arg4)) (rowAt n hn i) d ((n % 11 + 1) * 512) := by
  intro n
  induction n with
  | zero =>
    intro hn i
    rw [outsAt0_A m c ⟨0, hn⟩ rfl, out_A, sout_A]
    refine ⟨fun k => norm_at m c ⟨0, hn⟩ i k, fun d => ?_⟩
    refine (add_at m c ⟨0, hn⟩ _ _ i d fun k => norm_at m c ⟨0, hn⟩ i k).trans ?_
    rw [rows m c ⟨0, hn⟩ i d]
    unfold partialEntry
    simp only [Nat.zero_mod, Nat.zero_mul, Nat.zero_add, Nat.one_mul]
  | succ n ih =>
    intro hn i
    by_cases h0 : (n + 1) % 11 = 0
    · rw [outsAt0_A m c ⟨n + 1, hn⟩ h0, out_A, sout_A]
      refine ⟨fun k => norm_at m c ⟨n + 1, hn⟩ i k, fun d => ?_⟩
      refine (add_at m c ⟨n + 1, hn⟩ _ _ i d fun k => norm_at m c ⟨n + 1, hn⟩ i k).trans ?_
      rw [rows m c ⟨n + 1, hn⟩ i d]
      unfold partialEntry
      simp only [h0, Nat.zero_mul, Nat.zero_add, Nat.one_mul]
    · have hm : (n + 1) % 11 = n % 11 + 1 := by omega
      have hd : (n + 1) / 11 = n / 11 := by omega
      have hN : n + 1 < 176 := hn
      have er : rowAt (n + 1) hn i = rowAt n (by omega) i := Fin.ext (by dsimp only; rw [hd])
      obtain ⟨ih2, ih1⟩ := ih (Nat.lt_of_succ_lt hn) i
      rw [outsAt0_B m c ⟨n + 1, hn⟩ h0, out_B]
      refine ⟨fun k => ?_, fun d => ?_⟩
      · rw [er]
        exact ih2 k
      · refine (add_at m c ⟨n + 1, hn⟩ _ _ i d fun k => ?_).trans ?_
        · show _ = normed (m ((c : Thread nD τ).loc main_arg0)) (m ((c : Thread nD τ).loc main_arg1)) (rowAt (n + 1) hn i) k
          rw [er]
          exact ih2 k
        · show (outsAt0 m c n _).1 (ix2 i d) + _ = _
          rw [ih1 d]
          show _ + ∑ f ∈ Finset.range 512, contribution (m ((c : Thread nD τ).loc main_arg0)) (m ((c : Thread nD τ).loc main_arg1)) (m ((c : Thread nD τ).loc main_arg2)) (m ((c : Thread nD τ).loc main_arg3)) (m ((c : Thread nD τ).loc main_arg4)) (rowAt (n + 1) hn i) d ((n + 1) % 11 * 512 + f) = _
          unfold partialEntry
          rw [er, hm, add_assoc, Nat.add_mul (n % 11 + 1) 1 512, Nat.one_mul, Finset.sum_range_add]

/-- The output block after the last point of a row block, at an index of the array. -/
theorem after_at (t : Fin cfg0.N) (ht : t.val % 11 = 10) (i : Fin 1024) (d : Fin 2048) (q : S16384x2048.Idx)
    (h0 : (q 0).val = t.val / 11 * 1024 + i.val) (h1 : (q 1).val = d.val) :
    (outsAt0 m c t.val t.isLt).1 (ix2 i d) = outArray (m ((c : Thread nD τ).loc main_arg0)) (m ((c : Thread nD τ).loc main_arg1)) (m ((c : Thread nD τ).loc main_arg2)) (m ((c : Thread nD τ).loc main_arg3)) (m ((c : Thread nD τ).loc main_arg4)) q := by
  have e0 : q 0 = rowAt t.val (tlt t) i := Fin.ext h0
  have e1 : q 1 = d := Fin.ext h1
  refine ((state m c t.val t.isLt i).2 d).trans ?_
  unfold outArray
  rw [ht, e0, e1]
  unfold partialEntry entry
  rw [← sum_padded]

/-- The array after the run. -/
theorem array_val : Cert.DenseFfnIdeal.Value.G5 m c = outArray (m ((c : Thread nD τ).loc main_arg0)) (m ((c : Thread nD τ).loc main_arg1)) (m ((c : Thread nD τ).loc main_arg2)) (m ((c : Thread nD τ).loc main_arg3)) (m ((c : Thread nD τ).loc main_arg4)) := by
  rw [← Cert.DenseFfnIdeal.Value.final5]
  refine (dats m 0 c).arrAt_eq_of_covers 5 _ (by decide +kernel) fun t hf y => ?_
  have hm : t.val % 11 = 10 := (flush0_5 t).mp hf
  let y' : S1024x2048.Idx := y
  have hy : y' = ix2 (y' 0) (y' 1) := by
    funext a
    fin_cases a <;> rfl
  blk_simp
  rw [after0_5]
  refine (congrArg (outsAt0 m c t.val t.isLt).1 hy).trans (after_at m c t hm (y' 0) (y' 1) _ ?_ ?_)
  · blk_simp [index5 t]
    rfl
  · blk_simp [index5 t]
    rfl

end

open Cert.DenseFfnReferenceIdeal.Read in
/-- The reference's array is the same function. -/
theorem reference_val (X : S16384x2048.Idx → EReal) (G : S2x2048.Idx → EReal) (U V : S1x2048x5504.Idx → EReal) (W : S1x5504x2048.Idx → EReal) :
    val_main_v23 (F := Ideal) X G U V W = outArray X G U V W := by
  funext q
  obtain ⟨r, d, rfl⟩ : ∃ (r : Fin 16384) (d : Fin 2048), q = ix2 r d := ⟨q 0, q 1, Idealize.ShloMosaic.ValueIdx.eq_ix2 q⟩
  have hn := funext fun k => reference_norm X G r k
  show _ = entry X G U V W r d
  unfold entry contribution gated
  rw [← hn]
  have hc : ∀ (A : S1x2048x5504.Idx → EReal) (k : Fin 2048) (f : Fin 5504), column A k f.val = A (ix3 0 k f) := fun A k f => dif_pos f.isLt
  have hr : ∀ (f : Fin 5504), rowOf W f.val d = W (ix3 0 f d) := fun f => dif_pos f.isLt
  simp only [hc, hr]
  unfold Ideal.logistic
  clear hn hc hr
  unfold val_main_v23 val_main_v22 val_main_v21 val_main_v20 val_main_v19 val_main_v18
    val_main_call0_v5 val_main_call0_v4 val_main_call0_v3 val_main_call0_v2 val_main_call0_v1 val_main_call0_v0 val_main_v18
  generalize val_main_v14 (F := Ideal) X G = H
  pointwise [val_main_v17, val_main_v16, val_main_v15, val_main_call0_cst, val_main_call0_cst_0]

end Cert.FeedForward

end
-- ==== Proof.In1.Run.lean ====
/-
  The second layer's norm and input projection, run: the text of the first layer's program but for the block of the weights,
  so the same account of what the body leaves: a row block's first point keeps the normed rows in the scratch and stores
  the narrow block, every point stores its wide block, and the narrow block is written back after the last.
-/
module

public import proofs.«01_k».proof.Proof.Gen.InProj1Ideal.Frame
public import proofs.«01_k».proof.Proof.Gen.InProj1Ideal.Skeleton
public import Idealize.ShloMosaic.Lib.Pipeline.Value

@[expose] public section

set_option maxRecDepth 16384

noncomputable section

namespace Cert.InProjection1

open Cert.InProj1Ideal Cert.InProj1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- One store over a whole buffer leaves its payload, whatever the buffer held. -/
theorem read_stored {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩), View.canon_unit_zero h]

section Body

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1x2048x1280 .bf16) (h4 : a4.IsWhole)
  (a5 : Memref sig .tc .vmem S1x2048x128 .bf16) (h5 : a5.IsWhole) (a6 : Memref sig .tc .vmem S1024x1280 .bf16) (h6 : a6.IsWhole)
  (a7 : Memref sig .tc .vmem S1024x128 .f32) (h7 : a7.IsWhole) (a8 : Memref sig .tc .vmem S1024x2048 .bf16) (h8 : a8.IsWhole)
  (x : Vec F S1024x2048 .f32) (g : Vec F S1x2048 .f32) (w : Vec F S1x2048x1280 .bf16) (u : Vec F S1x2048x128 .bf16)

set_option maxHeartbeats 1000000 in
/-- The first point of a row block: the normed rows in the scratch, their products with the narrow and the wide columns in the outputs. -/
theorem body_first (hc : k0_cond1 i = 1#1) (E : Set ℕ) (K : PUnit → sProp 𝕄) :
    iprop(owns (c : Thread nD τ) a2 fullShare x ∗ owns (c : Thread nD τ) a3 fullShare g ∗ owns (c : Thread nD τ) a4 fullShare w
        ∗ owns (c : Thread nD τ) a5 fullShare u ∗ (∃ d, owns (c : Thread nD τ) a6 fullShare d) ∗ (∃ d, owns (c : Thread nD τ) a7 fullShare d)
        ∗ (∃ d, owns (c : Thread nD τ) a8 fullShare d)
        ∗ (iprop(owns (c : Thread nD τ) a2 fullShare x ∗ owns (c : Thread nD τ) a3 fullShare g ∗ owns (c : Thread nD τ) a4 fullShare w
          ∗ owns (c : Thread nD τ) a5 fullShare u ∗ owns (c : Thread nD τ) a6 fullShare (k0_pay4 (k0_pay2 x g) w)
          ∗ owns (c : Thread nD τ) a7 fullShare (k0_pay3 x g u) ∗ owns (c : Thread nD τ) a8 fullShare (k0_pay2 x g)) -∗ K ⟨⟩))
      ⊢ wp frame (wpE (defs₀ (F := F)) Variants.none c none) E (cc0_in_proj i a2 h2 a3 h3 a4 h4 a5 h5 a6 h6 a7 h7 a8 h8) K := by
  simp only [cc0_in_proj_eq_skeleton]; unfold cc0_in_proj_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
  obtain rfl := h2.eq_unread e2; obtain rfl := h3.eq_unread e3; obtain rfl := h4.eq_unread e4; obtain rfl := h5.eq_unread e5
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    rw [read_stored _ _ zero2]
    simp only [View.readCov_unit_zero (S := S1024x2048) _ zero2, View.readAt_eq_ld, h2.read_unread, h3.read_unread, h4.read_unread,
      View.ld_unit_zero (S := S1024x2048) zero2, View.ld_unit_zero (S := S1x2048) zero2, View.ld_unit_zero (S := S1x2048x1280) zero3]
  isplitl [H7]
  · iexists _; isplitr
    swap; · iexact H7
    ipureintro
    sl_unfold_words
    rw [read_stored _ _ zero2]
    simp only [View.readAt_eq_ld, h2.read_unread, h3.read_unread, h5.read_unread,
      View.ld_unit_zero (S := S1024x2048) zero2, View.ld_unit_zero (S := S1x2048) zero2, View.ld_unit_zero (S := S1x2048x128) zero3]
  iexists _; isplitr
  swap; · iexact H8
  ipureintro
  sl_unfold_words
  rw [read_stored _ _ zero2]
  simp only [View.readAt_eq_ld, h2.read_unread, h3.read_unread,
    View.ld_unit_zero (S := S1024x2048) zero2, View.ld_unit_zero (S := S1x2048) zero2]

set_option maxHeartbeats 1000000 in
/-- A later point of a row block: the kept rows' product with the wide columns; the narrow output and the scratch as they were. -/
theorem body_later (hc : ¬k0_cond1 i = 1#1) (n : Vec F S1024x128 .f32) (s : Vec F S1024x2048 .bf16) (E : Set ℕ) (K : PUnit → sProp 𝕄) :
    iprop(owns (c : Thread nD τ) a2 fullShare x ∗ owns (c : Thread nD τ) a3 fullShare g ∗ owns (c : Thread nD τ) a4 fullShare w
        ∗ owns (c : Thread nD τ) a5 fullShare u ∗ (∃ d, owns (c : Thread nD τ) a6 fullShare d) ∗ owns (c : Thread nD τ) a7 fullShare n
        ∗ owns (c : Thread nD τ) a8 fullShare s
        ∗ (iprop(owns (c : Thread nD τ) a2 fullShare x ∗ owns (c : Thread nD τ) a3 fullShare g ∗ owns (c : Thread nD τ) a4 fullShare w
          ∗ owns (c : Thread nD τ) a5 fullShare u ∗ owns (c : Thread nD τ) a6 fullShare (k0_pay4 s w)
          ∗ owns (c : Thread nD τ) a7 fullShare n ∗ owns (c : Thread nD τ) a8 fullShare s) -∗ K ⟨⟩))
      ⊢ wp frame (wpE (defs₀ (F := F)) Variants.none c none) E (cc0_in_proj i a2 h2 a3 h3 a4 h4 a5 h5 a6 h6 a7 h7 a8 h8) K := by
  simp only [cc0_in_proj_eq_skeleton]; unfold cc0_in_proj_skel
  unfold owns
  iintro ⟨H2, H3, ⟨%f4, %e4, H4⟩, H5, ⟨%d6, %f6, -, H6⟩, H7, ⟨%f8, %e8, H8⟩, Hk⟩
  obtain rfl := h4.eq_unread e4; obtain rfl := h8.eq_unread e8
  sl_exec (disch := first | sl_exact hc)
  sl_step
  iapply Hk
  isplitl [H2]; · iexact H2
  isplitl [H3]; · iexact H3
  isplitl [H4]
  · iexists _; isplitr; · ipureintro; exact h4.read_unread _
    iexact H4
  isplitl [H5]; · iexact H5
  isplitl [H6]
  · iexists _; isplitr
    swap; · iexact H6
    ipureintro
    sl_unfold_words
    rw [read_stored _ _ zero2]
    simp only [View.readAt_eq_ld, h4.read_unread, h8.read_unread,
      View.ld_unit_zero (S := S1024x2048) zero2, View.ld_unit_zero (S := S1x2048x1280) zero3]
  isplitl [H7]; · iexact H7
  iexists _; isplitr; · ipureintro; exact h8.read_unread _
  iexact H8

end Body

/-! ## What the buffers hold after each point -/

/-- The body takes its first branch at the points that open a row block. -/
theorem opens_iff : ∀ t : Fin cfg0.N, k0_cond1 (grid0.coords t) = 1#1 ↔ t.val % 10 = 0 :=
  (fun t => by
    have ht : t.val < 160 := Nat.lt_of_lt_of_eq t.isLt N_0
    have e1 : (grid0.coords t 1).val = t.val / 1 % 10 := Pipeline.Grid.coords_val t 1 (by decide) rfl
    simp only [k0_cond1, e1]
    word_cmp : ∀ t : Fin grid0.N, k0_cond1 (grid0.coords t) = 1#1 ↔ t.val % 10 = 0)

/-- The point that opens the row block of `t`. -/
def opening (t : Fin cfg0.N) : Fin cfg0.N := ⟨10 * (t.val / 10), Nat.lt_of_le_of_lt (Nat.mul_div_le _ _) t.isLt⟩

theorem opening_self (t : Fin cfg0.N) (h : t.val % 10 = 0) : opening t = t := Fin.ext (by show 10 * (t.val / 10) = t.val; omega)

theorem opening_pred (t : Fin cfg0.N) (h : ¬t.val % 10 = 0) (h' : t.val - 1 < cfg0.N) : opening ⟨t.val - 1, h'⟩ = opening t :=
  Fin.ext (by show 10 * ((t.val - 1) / 10) = 10 * (t.val / 10); omega)

section Points

variable (m : (ℓ : Loc nD τ sig) → Buf (Elt F) ℓ)

/-- The normed rows in the scratch. -/
def keptRows (c : Dev nD) (t : Fin cfg0.N) : Vec F S1024x2048 .bf16 := k0_pay2 (iblk m c 0 (opening t)) (iblk m c 1 (opening t))

/-- The wide output's block. -/
def wideBlock (c : Dev nD) (t : Fin cfg0.N) : Vec F S1024x1280 .bf16 := k0_pay4 (keptRows m c t) (iblk m c 2 t)

/-- The narrow output's block. -/
def narrowBlock (c : Dev nD) (t : Fin cfg0.N) : Vec F S1024x128 .f32 :=
  k0_pay3 (iblk m c 0 (opening t)) (iblk m c 1 (opening t)) (iblk m c 3 (opening t))

theorem keptRows_pred (c : Dev nD) (t : Fin cfg0.N) (h : ¬t.val % 10 = 0) (h' : t.val - 1 < cfg0.N) :
    keptRows m c ⟨t.val - 1, h'⟩ = keptRows m c t := by unfold keptRows; rw [opening_pred t h h']

theorem narrowBlock_pred (c : Dev nD) (t : Fin cfg0.N) (h : ¬t.val % 10 = 0) (h' : t.val - 1 < cfg0.N) :
    narrowBlock m c ⟨t.val - 1, h'⟩ = narrowBlock m c t := by unfold narrowBlock; rw [opening_pred t h h']

abbrev scratch : Memref sig .tc .vmem S1024x2048 .bf16 := Memref.whole cc0_scratch0

/-- Between points: the scratch at what the point before left in it (before the first point, at anything). -/
def Between (c : Dev nD) : (n : ℕ) → n ≤ cfg0.N → sProp 𝕄
  | 0, _ => Pipeline.ΦA spec0 c
  | n + 1, hn => iprop(owns (c : Thread nD τ) scratch fullShare (keptRows m c ⟨n, hn⟩) ∗ (∃ r, prngReg c r))

theorem between_pos (c : Dev nD) (n : ℕ) (h : n ≤ cfg0.N) (hz : n ≠ 0) : Between m c n h
    = iprop(owns (c : Thread nD τ) scratch fullShare (keptRows m c ⟨n - 1, by omega⟩) ∗ (∃ r, prngReg c r)) := by
  cases n with
  | zero => exact absurd rfl hz
  | succ n => rfl

theorem launched (c : Dev nD) : (Pipeline.ΦA spec0 c : sProp 𝕄)
    = iprop((∃ d, owns (c : Thread nD τ) scratch fullShare d) ∗ (∃ r, prngReg c r)) := by
  unfold Pipeline.ΦA; rw [scopedRest0_eq]; simp only [scratch, owns_whole]; rfl

/-- Whatever the point, the scratch holds something. -/
theorem between_any (c : Dev nD) (n : ℕ) (h : n ≤ cfg0.N) :
    Between m c n h ⊢ iprop((∃ d, owns (c : Thread nD τ) scratch fullShare d) ∗ (∃ r, prngReg c r)) := by
  by_cases hz : n = 0
  · subst hz
    show Pipeline.ΦA spec0 c ⊢ _
    rw [launched]
  · rw [between_pos m c n h hz]
    iintro ⟨HS, Hg⟩
    isplitl [HS]
    · iexists _; iexact HS
    iexact Hg

/-! ## The launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideBlock m c t
    | ⟨5, _⟩ => narrowBlock m c t
  Φ t := Between m c t.val (Nat.le_of_lt_succ t.isLt)
  q _ := fullShare
  owed _ := 0

theorem A_eq (c : Dev nD) (w : Fin cfg0.W) : (dats m 0 c).A w = V m c (Pipeline.arrRef spec0 w) := by dsimp only [dats]

theorem between_start (c : Dev nD) (t : Fin cfg0.N) : (dats m 0 c).Φ t.castSucc = Between m c t.val (Nat.le_of_lt t.isLt) := by
  dsimp only [dats]; exact Pipeline.Dat.Φ_castSucc (Between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = wideBlock m c t := by dsimp only [dats]
theorem after_5 (c : Dev nD) (t : Fin cfg0.N) : (dats m 0 c).after 5 t = narrowBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem idle_iff (t : Fin cfg0.N) : cfg0.idle 5 (cfg0.grid.coords t) = true ↔ ¬t.val % 10 = 0 := by
  show (!(k0_cond1 (grid0.coords t) == 1#1)) = true ↔ _
  rw [← opens_iff t]
  simp

/-- Inside a row block the narrow output's buffer still holds the block the opening point left: nothing is stored into it and it
    is not written back between. -/
theorem before_5 (c : Dev nD) (d) : ∀ (n : ℕ) (t : Fin cfg0.N), t.val % 10 = n + 1 → (dats m 0 c).before 5 t d = narrowBlock m c t := by
  intro n
  induction n with
  | zero =>
    intro t h
    have hN : t.val < 160 := lt_of_lt_of_eq t.isLt (show cfg0.N = 160 from N_0)
    rw [Dat.before_of_pos _ 5 t (by omega) ((cfg0.win 5).fetch_out rfl t), if_neg fun hf => by
      have := (flush0_5 _).mp hf; dsimp only at this; omega]
    unfold Dat.left
    rw [Bool.eq_false_iff.mpr fun hi => (idle_iff _).mp hi (by show (t.val - 1) % 10 = 0; omega)]
    dsimp only
    unfold Dat.kept
    rw [Pipeline.fill_of_clip_none 5 _ (fun _ => rfl) d ((dats m 0 c).after 5 _), Window.fill_cut, after_5]
    exact narrowBlock_pred m c t (by omega) _
  | succ n ih =>
    intro t h
    have hN : t.val < 160 := lt_of_lt_of_eq t.isLt (show cfg0.N = 160 from N_0)
    rw [Dat.before_of_pos _ 5 t (by omega) ((cfg0.win 5).fetch_out rfl t), if_neg fun hf => by
      have := (flush0_5 _).mp hf; dsimp only at this; omega]
    unfold Dat.left
    rw [(idle_iff _).mpr (by show ¬(t.val - 1) % 10 = 0; omega)]
    dsimp only
    rw [ih _ (by show (t.val - 1) % 10 = n + 1; omega)]
    exact narrowBlock_pred m c t (by omega) _

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x1280 .bf16 := win0_2.stage (cfg0.slots t 2)
abbrev ms3 (t : Fin cfg0.N) : Memref sig .tc .vmem S1x2048x128 .bf16 := win0_3.stage (cfg0.slots t 3)
abbrev ms4 (t : Fin cfg0.N) : Memref sig .tc .vmem S1024x1280 .bf16 := win0_4.stage (cfg0.slots t 4)
abbrev ms5 (t : Fin cfg0.N) : Memref sig .tc .vmem S1024x128 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare (narrowBlock m c t))

set_option maxHeartbeats 3200000 in
/-- The body at any point, by whether it opens a row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, after_0, after_1, after_2, after_3, after_4,
    show (dats m 0 c).Φ t.succ = iprop(owns (c : Thread nD τ) scratch fullShare (keptRows m c t) ∗ (∃ r, prngReg c r)) from rfl,
    between_start m c t]
  by_cases h : t.val % 10 = 0
  · refine (BIClass.sep_mono (between_any m c _ _) .rfl).trans ?_
    unfold wideBlock keptRows narrowBlock
    rw [opening_self t h]
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ (iblk m c 0 t) (iblk m c 1 t) (iblk m c 2 t) (iblk m c 3 t)
      ((opens_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := by omega
    rw [between_pos m c _ _ hz, keptRows_pred m c t h]
    simp only [fun d => before_5 m c d (t.val % 10 - 1) t (by omega)]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (iblk m c 0 t) (iblk m c 1 t) (iblk m c 2 t) (iblk m c 3 t)
      (fun hc => h ((opens_iff t).mp hc)) (narrowBlock m c t) (keptRows m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The narrow block is what the pipeline asks of window 5: at a point that stores nothing into it and does not write it back, what
    the body found. -/
theorem leaves_5 (c : Dev nD) (t : Fin cfg0.N) :
    owns (c : Thread nD τ) (ms5 t) fullShare (narrowBlock m c t) ⊢ ((dats m 0 c).leavesExact 5 t : sProp 𝕄) := by
  by_cases h : t.val % 10 = 0
  · have hi : cfg0.idle 5 (cfg0.grid.coords t) = false := Bool.eq_false_iff.mpr fun hi => (idle_iff _).mp hi h
    unfold Dat.leavesExact
    rw [hi]
    dsimp only
    rw [after_5]
  · have hi : cfg0.idle 5 (cfg0.grid.coords t) = true := (idle_iff _).mpr h
    by_cases hf : (cfg0.win 5).flush t = true
    · unfold Dat.leavesExact
      rw [hi, hf]
      dsimp only
      rw [after_5]
    · rw [Dat.leavesExact_idle _ 5 t hi (Bool.eq_false_iff.mpr hf)]
      iintro H
      iexists (narrowBlock m c t)
      rw [before_5 m c _ (t.val % 10 - 1) t (by omega)]
      iexact H

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ =>
    BIClass.sep_mono .rfl (BIClass.sep_mono .rfl (BIClass.sep_mono .rfl (BIClass.sep_mono .rfl (BIClass.sep_mono .rfl
      (BIClass.sep_mono .rfl (BIClass.sep_mono .rfl (leaves_5 m c t)))))))

theorem hin (c : Dev nD) : Pipeline.ΦA spec0 c ⊢ (dats m 0 c).Φ 0 := by
  rw [show (dats m 0 c).Φ 0 = Pipeline.ΦA spec0 c from rfl]
  try exact Entails.refl _

theorem hout (c : Dev nD) : (dats m 0 c).Φ (Fin.last cfg0.N) ⊢ Pipeline.ΦA spec0 c := by
  rw [launched]
  exact between_any m c cfg0.N (Nat.le_refl _)

variable (ρ : Dev nD → PrngReg)

set_option backward.isDefEq.respectTransparency.types false in
/-- Every run ends, with the pipeline's arrays at what the blocks above make of them and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the arguments unchanged, every counter at zero, and the two results at the arrays of windows 4 and 5. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ (∀ c : Dev nD, r.2.mem ((c.tc : Thread nD τ).loc main_v11_0) = (dats m 0 c).arrAt 4 cfg0.N
        ∧ r.2.mem ((c.tc : Thread nD τ).loc main_v11_1) = (dats m 0 c).arrAt 5 cfg0.N)
      ∧ r.2.sem = fun _ => 0) :=
  (θ_run defs _ _).mono (fun r h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩,
      fun c => ⟨(h.1 c).1 4, (h.1 c).1 5⟩, h.2⟩) (run_main m ρ)

end Points

end Cert.InProjection1

end
-- ==== Proof.In1.Value.lean ====
/-
  The second layer's norm and input projection: as the first layer's, with the second layer's gains and weights.
-/
module

public import proofs.«01_k».proof.Proof.In1.Run
public import proofs.«01_k».proof.Proof.Gen.InProj1ReferenceIdeal.Read
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.InProjection1

open Cert.InProj1Ideal Cert.InProj1Ideal.Gen Idealize.ShloMosaic Idealize.ShloMosaic.TcCoe

theorem index0 : ∀ t : Fin cfg0.N, (cfg0.win 0).index t = ![t.val / 10, 0] := by decide +kernel
theorem index1 : ∀ t : Fin cfg0.N, (cfg0.win 1).index t = ![0, 0] := by decide +kernel
theorem index2 : ∀ t : Fin cfg0.N, (cfg0.win 2).index t = ![1, 0, t.val % 10] := by decide +kernel
theorem index3 : ∀ t : Fin cfg0.N, (cfg0.win 3).index t = ![1, 0, 0] := by decide +kernel
theorem index4 : ∀ t : Fin cfg0.N, (cfg0.win 4).index t = ![t.val / 10, t.val % 10] := by decide +kernel
theorem index5 : ∀ t : Fin cfg0.N, (cfg0.win 5).index t = ![t.val / 10, 0] := by decide +kernel

theorem tlt (t : Fin cfg0.N) : t.val < 160 := t.isLt

/-- A row's sequence, and its place in it. -/
abbrev seqOf (r : Fin 16384) : Fin 4 := ⟨r.val / 4096, by omega⟩
abbrev posOf (r : Fin 16384) : Fin 4096 := ⟨r.val % 4096, by omega⟩

/-- Row `r` of the input over its root mean square, scaled, at column `k`. -/
def normed (X : S4x4096x2048.Idx → EReal) (G : S2x2048.Idx → EReal) (r : Fin 16384) (k : Fin 2048) : EReal :=
  X (ix3 (seqOf r) (posOf r) k)
    * Ideal.rsqrt (Ideal.div (∑ j : Fin 2048, X (ix3 (seqOf r) (posOf r) j) * X (ix3 (seqOf r) (posOf r) j)) (Scalar.ofBits (F := Ideal) .f32 0x45000000#32)
      + Scalar.ofBits (F := Ideal) .f32 0x358637BD#32) * G (ix2 1 k)

/-- The weight's column that is column `y` of the wide array. -/
def wideColumn (W : S2x2048x12832.Idx → EReal) (k : Fin 2048) (y : Fin 12800) : EReal :=
  if h : y.val < 6144 then W (ix3 1 k ⟨y.val, by omega⟩) else W (ix3 1 k ⟨y.val + 32, by omega⟩)

/-- The weight's column that is column `y` of the narrow array; zero from column 32 on. -/
def narrowColumn (W : S2x2048x12832.Idx → EReal) (k : Fin 2048) (y : Fin 128) : EReal :=
  if h : y.val < 32 then W (ix3 1 k ⟨6144 + y.val, by omega⟩) else 0

def wideEntry (X : S4x4096x2048.Idx → EReal) (G : S2x2048.Idx → EReal) (W : S2x2048x12832.Idx → EReal) (r : Fin 16384) (y : Fin 12800) : EReal :=
  ∑ k, normed X G r k * wideColumn W k y

def narrowEntry (X : S4x4096x2048.Idx → EReal) (G : S2x2048.Idx → EReal) (W : S2x2048x12832.Idx → EReal) (r : Fin 16384) (y : Fin 128) : EReal :=
  ∑ k, normed X G r k * narrowColumn W k y

/-- The wide array. -/
def wideArray (X : S4x4096x2048.Idx → EReal) (G : S2x2048.Idx → EReal) (W : S2x2048x12832.Idx → EReal) : S16384x12800.Idx → EReal :=
  fun q => wideEntry X G W (q 0) (q 1)

/-- The narrow array. -/
def narrowArray (X : S4x4096x2048.Idx → EReal) (G : S2x2048.Idx → EReal) (W : S2x2048x12832.Idx → EReal) : S16384x128.Idx → EReal :=
  fun q => narrowEntry X G W (q 0) (q 1)

/-- Row `i` of the block at point `t`, as a row of the array. -/
abbrev rowAt (n : ℕ) (hn : n < 160) (i : Fin 1024) : Fin 16384 := ⟨n / 10 * 1024 + i.val, by omega⟩

section
variable (m : (ℓ : Loc nD τ sig) → Buf (Elt Ideal) ℓ) (c : Dev nD)

theorem rows (t : Fin cfg0.N) (i : Fin 1024) (k : Fin 2048) :
    iblk m c 0 t (ix2 i k)
      = (m ((c : Thread nD τ).loc main_arg0) (ix3 (seqOf (rowAt t.val (tlt t) i)) (posOf (rowAt t.val (tlt t) i)) k) : EReal) := by
  have := tlt t
  have e : (V m c main_v0 (ix2 (rowAt t.val (tlt t) i) k) : EReal)
      = m ((c : Thread nD τ).loc main_arg0) (ix3 (seqOf (rowAt t.val (tlt t) i)) (posOf (rowAt t.val (tlt t) i)) k) := by
    unfold V
    after_reads_at
  rw [← e]
  blk_ext [iblk, index0 t]

theorem scales (t : Fin cfg0.N) (k : Fin 2048) :
    iblk m c 1 t (ix2 0 k) = (m ((c : Thread nD τ).loc main_arg1) (ix2 1 k) : EReal) := by
  have e : (V m c main_v10 (ix2 0 k) : EReal) = m ((c : Thread nD τ).loc main_arg1) (ix2 1 k) := by
    unfold V
    after_reads_at
  rw [← e]
  blk_ext [iblk, index1 t]

theorem wides (t : Fin cfg0.N) (k : Fin 2048) (j : Fin 1280) :
    iblk m c 2 t (ix3 0 k j) = wideColumn (m ((c : Thread nD τ).loc main_arg2)) k ⟨t.val % 10 * 1280 + j.val, by omega⟩ := by
  have := tlt t
  have e : (V m c main_v4 (ix3 1 k ⟨t.val % 10 * 1280 + j.val, by omega⟩) : EReal)
      = wideColumn (m ((c : Thread nD τ).loc main_arg2)) k ⟨t.val % 10 * 1280 + j.val, by omega⟩ := by
    unfold V wideColumn
    after_reads_at
    split
    · after_reads_at
    · rename_i h
      have e' : (⟨t.val % 10 * 1280 + j.val + 32, by omega⟩ : Fin 12832) = ⟨6176 + (t.val % 10 * 1280 + j.val - 6144), by omega⟩ := Fin.ext (by dsimp only; omega)
      rw [e']
      after_reads_at
  rw [← e]
  blk_ext [iblk, index2 t]

theorem narrows (t : Fin cfg0.N) (k : Fin 2048) (j : Fin 128) :
    iblk m c 3 t (ix3 0 k j) = narrowColumn (m ((c : Thread nD τ).loc main_arg2)) k j := by
  have e : (V m c main_v7 (ix3 1 k j) : EReal) = narrowColumn (m ((c : Thread nD τ).loc main_arg2)) k j := by
    unfold V narrowColumn
    after_reads_at
    split
    · rfl
    · show (((0#32 : BitVec 32).toInt : ℝ) : EReal) = 0
      simp
  rw [← e]
  blk_ext [iblk, index3 t]

/-- The normed rows the opening point stores. -/
theorem norm_val (x0 : Vec Ideal S1024x2048 .f32) (x1 : Vec Ideal S1x2048 .f32) (i : Fin 1024) (k : Fin 2048) :
    (k0_pay2 x0 x1 (ix2 i k) : EReal)
      = x0 (ix2 i k) * Ideal.rsqrt (Ideal.div (∑ j : Fin 2048, x0 (ix2 i j) * x0 (ix2 i j)) (Scalar.ofBits (F := Ideal) .f32 0x45000000#32)
        + Scalar.ofBits (F := Ideal) .f32 0x358637BD#32) * x1 (ix2 0 k) := by
  pointwise [k0_pay2, k0_pay1]

theorem narrow_val (x0 : Vec Ideal S1024x2048 .f32) (x1 : Vec Ideal S1x2048 .f32) (x3 : Vec Ideal S1x2048x128 .bf16) (i : Fin 1024) (j : Fin 128) :
    (k0_pay3 x0 x1 x3 (ix2 i j) : EReal) = ∑ k : Fin 2048, k0_pay2 x0 x1 (ix2 i k) * x3 (ix3 0 k j) := by
  unfold k0_pay3 k0_pay2
  generalize k0_pay1 x0 x1 = h
  pointwise []

theorem wide_val (h : Vec Ideal S1024x2048 .bf16) (x2 : Vec Ideal S1x2048x1280 .bf16) (i : Fin 1024) (j : Fin 1280) :
    (k0_pay4 h x2 (ix2 i j) : EReal) = ∑ k : Fin 2048, h (ix2 i k) * x2 (ix3 0 k j) := by
  pointwise [k0_pay4]

theorem norm_at (t : Fin cfg0.N) (i : Fin 1024) (k : Fin 2048) :
    (k0_pay2 (F := Ideal) (iblk m c 0 t) (iblk m c 1 t) (ix2 i k) : EReal)
      = normed (m ((c : Thread nD τ).loc main_arg0)) (m ((c : Thread nD τ).loc main_arg1)) (rowAt t.val (tlt t) i) k := by
  refine (norm_val _ _ i k).trans ?_
  unfold normed
  rw [scales m c t k]
  simp only [rows m c t]

theorem kept_at (t : Fin cfg0.N) (i : Fin 1024) (k : Fin 2048) :
    (keptRows (F := Ideal) m c t (ix2 i k) : EReal)
      = normed (m ((c : Thread nD τ).loc main_arg0)) (m ((c : Thread nD τ).loc main_arg1)) (rowAt t.val (tlt t) i) k := by
  have er : rowAt (opening t).val (tlt (opening t)) i = rowAt t.val (tlt t) i :=
    Fin.ext (by show 10 * (t.val / 10) / 10 * 1024 + i.val = t.val / 10 * 1024 + i.val; omega)
  unfold keptRows
  rw [norm_at m c (opening t) i k, er]

theorem wide_at (t : Fin cfg0.N) (i : Fin 1024) (j : Fin 1280) (q : S16384x12800.Idx)
    (h0 : (q 0).val = t.val / 10 * 1024 + i.val) (h1 : (q 1).val = t.val % 10 * 1280 + j.val) :
    wideBlock (F := Ideal) m c t (ix2 i j)
      = wideArray (m ((c : Thread nD τ).loc main_arg0)) (m ((c : Thread nD τ).loc main_arg1)) (m ((c : Thread nD τ).loc main_arg2)) q := by
  have e0 : q 0 = rowAt t.val (tlt t) i := Fin.ext h0
  have e1 : q 1 = (⟨t.val % 10 * 1280 + j.val, by omega⟩ : Fin 12800) := Fin.ext h1
  unfold wideBlock
  refine (wide_val _ _ i j).trans ?_
  unfold wideArray
  rw [e0, e1]
  unfold wideEntry
  simp only [kept_at m c t, wides m c t]

theorem narrow_at (t : Fin cfg0.N) (i : Fin 1024) (j : Fin 128) (q : S16384x128.Idx)
    (h0 : (q 0).val = t.val / 10 * 1024 + i.val) (h1 : (q 1).val = j.val) :
    narrowBlock (F := Ideal) m c t (ix2 i j)
      = narrowArray (m ((c : Thread nD τ).loc main_arg0)) (m ((c : Thread nD τ).loc main_arg1)) (m ((c : Thread nD τ).loc main_arg2)) q := by
  have e0 : q 0 = rowAt t.val (tlt t) i := Fin.ext h0
  have e1 : q 1 = j := Fin.ext h1
  unfold narrowBlock
  refine (narrow_val _ _ _ i j).trans ?_
  unfold narrowArray
  rw [e0, e1]
  unfold narrowEntry
  refine Finset.sum_congr rfl fun k _ => ?_
  exact congrArg₂ (· * ·) (kept_at m c t i k) (narrows m c (opening t) k j)

/-- The wide array after the run. -/
theorem wide_array : (dats (F := Ideal) m 0 c).arrAt 4 cfg0.N
    = wideArray (m ((c : Thread nD τ).loc main_arg0)) (m ((c : Thread nD τ).loc main_arg1)) (m ((c : Thread nD τ).loc main_arg2)) := by
  refine (dats m 0 c).arrAt_eq_of_covers 4 _ (by decide +kernel) fun t hf y => ?_
  let y' : S1024x1280.Idx := y
  have hy : y' = ix2 (y' 0) (y' 1) := by
    funext a
    fin_cases a <;> rfl
  blk_simp
  rw [after_4]
  refine (congrArg (wideBlock m c t) hy).trans (wide_at m c t (y' 0) (y' 1) _ ?_ ?_)
  · blk_simp [index4 t]
    rfl
  · blk_simp [index4 t]
    rfl

/-- The narrow array after the run. -/
theorem narrow_array : (dats (F := Ideal) m 0 c).arrAt 5 cfg0.N
    = narrowArray (m ((c : Thread nD τ).loc main_arg0)) (m ((c : Thread nD τ).loc main_arg1)) (m ((c : Thread nD τ).loc main_arg2)) := by
  refine (dats m 0 c).arrAt_eq_of_covers 5 _ (by decide +kernel) fun t hf y => ?_
  let y' : S1024x128.Idx := y
  have hy : y' = ix2 (y' 0) (y' 1) := by
    funext a
    fin_cases a <;> rfl
  blk_simp
  rw [after_5]
  refine (congrArg (narrowBlock m c t) hy).trans (narrow_at m c t (y' 0) (y' 1) _ ?_ ?_)
  · blk_simp [index5 t]
    rfl
  · blk_simp [index5 t]
    rfl

end

section Reference

variable (X : S4x4096x2048.Idx → EReal) (G : S2x2048.Idx → EReal) (W : S2x2048x12832.Idx → EReal)

open Cert.InProj1ReferenceIdeal.Read

/-- The reference's normed rows. -/
theorem reference_norm (r : Fin 16384) (k : Fin 2048) :
    (val_main_v14 (F := Ideal) X G (ix3 (seqOf r) (posOf r) k) : EReal) = normed X G r k := by
  unfold normed
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference's product with the whole weight. -/
theorem reference_product (r : Fin 16384) (j : Fin 12832) :
    (val_main_v17 (F := Ideal) X G W (ix3 (seqOf r) (posOf r) j) : EReal) = ∑ k, normed X G r k * W (ix3 1 k j) := by
  have hn := funext fun k => reference_norm X G r k
  rw [← hn]
  clear hn
  unfold val_main_v17
  generalize val_main_v14 (F := Ideal) X G = H
  pointwise [val_main_v16, val_main_v15]

/-- A row of the product as a function of the column's number. -/
theorem by_column (P : Cert.InProj1ReferenceIdeal.S4x4096x12832.Idx → EReal) (r : Fin 16384) :
    ∃ Q : ℕ → EReal, ∀ (a : ℕ) (h : a < 12832), P (ix3 (seqOf r) (posOf r) ⟨a, h⟩) = Q a :=
  ⟨fun a => if h : a < 12832 then P (ix3 (seqOf r) (posOf r) ⟨a, h⟩) else 0, fun a h => by simp only [dif_pos h]⟩

theorem reference_wide : val_main_v34 (F := Ideal) X G W = wideArray X G W := by
  funext q
  obtain ⟨r, y, rfl⟩ : ∃ (r : Fin 16384) (y : Fin 12800), q = ix2 r y := ⟨q 0, q 1, Idealize.ShloMosaic.ValueIdx.eq_ix2 q⟩
  have hp : wideEntry X G W r y = if h : y.val < 6144 then val_main_v17 (F := Ideal) X G W (ix3 (seqOf r) (posOf r) ⟨y.val, by omega⟩)
      else val_main_v17 (F := Ideal) X G W (ix3 (seqOf r) (posOf r) ⟨y.val + 32, by omega⟩) := by
    unfold wideEntry wideColumn
    split <;> exact (reference_product X G W r _).symm
  show _ = wideEntry X G W r y
  rw [hp]
  clear hp
  unfold val_main_v34 val_main_v30 val_main_v29 val_main_v28 val_main_v27 val_main_v26 val_main_v25 val_main_v24 val_main_v21 val_main_v20
    val_main_v19 val_main_v18
  generalize val_main_v17 (F := Ideal) X G W = P
  pointwise []
  obtain ⟨Q, hQ⟩ := by_column P r
  simp only [hQ]
  clear hQ
  split_ifs <;> first
    | (exfalso; omega)
    | exact congrArg Q (by omega)
    | rfl

theorem reference_narrow : val_main_v33 (F := Ideal) X G W = narrowArray X G W := by
  funext q
  obtain ⟨r, y, rfl⟩ : ∃ (r : Fin 16384) (y : Fin 128), q = ix2 r y := ⟨q 0, q 1, Idealize.ShloMosaic.ValueIdx.eq_ix2 q⟩
  have hp : narrowEntry X G W r y = if h : y.val < 32 then val_main_v17 (F := Ideal) X G W (ix3 (seqOf r) (posOf r) ⟨6144 + y.val, by omega⟩)
      else 0 := by
    unfold narrowEntry narrowColumn
    split
    · exact (reference_product X G W r _).symm
    · exact Finset.sum_eq_zero fun k _ => mul_zero _
  show _ = narrowEntry X G W r y
  rw [hp]
  clear hp
  unfold val_main_v33 val_main_v32 val_main_v31 val_main_v23 val_main_v22
  generalize val_main_v17 (F := Ideal) X G W = P
  pointwise [val_main_cst_2]
  obtain ⟨Q, hQ⟩ := by_column P r
  simp only [hQ]
  clear hQ
  split_ifs <;> first
    | (exfalso; omega)
    | exact congrArg Q (by omega)
    | rfl

end Reference

end Cert.InProjection1

end
-- ==== Proof.Prep.Tile.lean ====
/-
  One column group of the delta rule's preparation: 128 columns of a block of 256 rows, convolved, activated and, for
  queries and keys, scaled to length one, entry by entry.
-/
module

public import proofs.«01_k».proof.Proof.Gen.PrepIdeal.Value
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.DeltaPrep

open Cert.PrepIdeal Cert.PrepIdeal.Gen Idealize.ShloMosaic Idealize.ShloMosaic.TcCoe

/-- The activation. -/
def silu (z : EReal) : EReal := z * Ideal.logistic z

/-- Row `o + i` in column `j` of the eight rows before the block with the block below them, the eight rows being zero if the
    block begins a sequence (`h`). -/
def below (h : BitVec 1) (x : Vec Ideal S256x128 .bf16) (l : Vec Ideal S8x128 .bf16) (i : Fin 256) (j : Fin 128) (o : ℕ) (ho : o < 8) : EReal :=
  if hd : o + i.val < 8 then Scalar.select h 0 (l (ix2 ⟨o + i.val, hd⟩ j)) else x (ix2 ⟨o + i.val - 8, by omega⟩ j)

/-- The four taps. -/
def taps (h : BitVec 1) (x : Vec Ideal S256x128 .bf16) (l : Vec Ideal S8x128 .bf16) (w0 w1 w2 w3 : Vec Ideal S1x128 .f32)
    (i : Fin 256) (j : Fin 128) : EReal :=
  below h x l i j 5 (by omega) * w0 (ix2 0 j) + below h x l i j 6 (by omega) * w1 (ix2 0 j) + below h x l i j 7 (by omega) * w2 (ix2 0 j)
    + x (ix2 i j) * w3 (ix2 0 j)

theorem silu_val (h : BitVec 1) (x : Vec Ideal S256x128 .bf16) (l : Vec Ideal S8x128 .bf16) (w0 w1 w2 w3 : Vec Ideal S1x128 .f32)
    (i : Fin 256) (j : Fin 128) :
    (k0_pay5 h x l w0 w1 w2 w3 (ix2 i j) : EReal) = silu (taps h x l w0 w1 w2 w3 i j) := by
  unfold silu taps below
  pointwise [k0_pay5]

/-- Rows scaled to length one. -/
def unitRows (s : FVec Ideal S256x128 .f32) : FVec Ideal S256x128 .f32 :=
  mulf s (broadcastTo S256x128 (rsqrt (addf (shapeCast S256x1 (multiReduction .add [1] S256 (mulf s s) 0x00000000#32 reduces_S256x128_S256 (.inl rfl) rfl) shapeCasts_S256_S256x1)
    (broadcast S256x1 (Scalar.ofBits .f32 0x358637BD#32)))) broadcasts_S256x1_S256x128)

/-- An entry of a row over the row's length. -/
def scaled (f : Fin 128 → EReal) (j : Fin 128) : EReal :=
  f j * Ideal.rsqrt ((∑ k, f k * f k) + Scalar.ofBits (F := Ideal) .f32 0x358637BD#32)

theorem unitRows_val (s : FVec Ideal S256x128 .f32) (i : Fin 256) (j : Fin 128) :
    (unitRows s (ix2 i j) : EReal) = scaled (fun k => s (ix2 i k)) j := by
  unfold scaled
  pointwise [unitRows]

/-- What a column group of queries, of keys and of values stores. -/
def queryTile (s : FVec Ideal S256x128 .f32) : FVec Ideal S256x128 .bf16 :=
  truncf .bf16 (mulf (unitRows s) (broadcast S256x128 (Scalar.ofBits .f32 0x3DB504F3#32))) bitsLt_bf16_f32
def keyTile (s : FVec Ideal S256x128 .f32) : FVec Ideal S256x128 .bf16 := truncf .bf16 (unitRows s) bitsLt_bf16_f32
def valueTile (s : FVec Ideal S256x128 .f32) : FVec Ideal S256x128 .bf16 := truncf .bf16 s bitsLt_bf16_f32

theorem queryTile_val (s : FVec Ideal S256x128 .f32) (i : Fin 256) (j : Fin 128) :
    (queryTile s (ix2 i j) : EReal) = scaled (fun k => s (ix2 i k)) j * Scalar.ofBits (F := Ideal) .f32 0x3DB504F3#32 := by
  rw [← unitRows_val]
  pointwise [queryTile]
theorem keyTile_val (s : FVec Ideal S256x128 .f32) (i : Fin 256) (j : Fin 128) :
    (keyTile s (ix2 i j) : EReal) = scaled (fun k => s (ix2 i k)) j := unitRows_val s i j

/-- A rectangle of two axes lies inside an array when each axis does. -/
theorem fits {o0 s0 n0 o1 s1 n1 : ℕ} (e0 : o0 + s0 ≤ n0) (e1 : o1 + s1 ≤ n1) :
    ∀ a : Fin 2, ![o0, o1] a + ![s0, s1] a ≤ ![n0, n1] a := Fin.forall_fin_two.mpr ⟨e0, e1⟩

section
variable (h : BitVec 1) (X : Vec Ideal S256x4096 .bf16) (L : Vec Ideal S16x4096 .bf16) (W : Vec Ideal S4x4096 .f32)

/-- Column group `n` of a block, convolved and activated. -/
def group (n : ℕ) (hn : n < 32) : FVec Ideal S256x128 .f32 :=
  k0_pay5 h (View.ld X (Rect.unit ![0, n * 128] ![256, 128] (fits (by decide) (by omega))))
    (View.ld L (Rect.unit ![8, n * 128] ![8, 128] (fits (by decide) (by omega))))
    (View.ld W (Rect.unit ![0, n * 128] ![1, 128] (fits (by decide) (by omega))))
    (View.ld W (Rect.unit ![1, n * 128] ![1, 128] (fits (by decide) (by omega))))
    (View.ld W (Rect.unit ![2, n * 128] ![1, 128] (fits (by decide) (by omega))))
    (View.ld W (Rect.unit ![3, n * 128] ![1, 128] (fits (by decide) (by omega))))

/-- Row `o + i` in column `y` of the block below the last eight of the sixteen rows before it. -/
def rowBelow (i : Fin 256) (y : Fin 4096) (o : ℕ) (ho : o < 8) : EReal :=
  if hd : o + i.val < 8 then Scalar.select h 0 (L (ix2 ⟨8 + (o + i.val), by omega⟩ y)) else X (ix2 ⟨o + i.val - 8, by omega⟩ y)

/-- The block, convolved and activated, at row `i`, column `y`. -/
def active (i : Fin 256) (y : Fin 4096) : EReal :=
  silu (rowBelow h X L i y 5 (by omega) * W (ix2 0 y) + rowBelow h X L i y 6 (by omega) * W (ix2 1 y) + rowBelow h X L i y 7 (by omega) * W (ix2 2 y)
    + X (ix2 i y) * W (ix2 3 y))

theorem group_val (n : ℕ) (hn : n < 32) (i : Fin 256) (j : Fin 128) :
    (group h X L W n hn (ix2 i j) : EReal) = active h X L W i ⟨n * 128 + j.val, by omega⟩ := by
  unfold group
  refine (silu_val _ _ _ _ _ _ _ i j).trans ?_
  unfold active taps below rowBelow
  pointwise []

end

end Cert.DeltaPrep

end
-- ==== Proof.Prep.Blocks.lean ====
/-
  What the windows of a grid point hold: its 256 rows of the wide array's first 4096 columns, the sixteen rows before them, the
  weights, its 256 rows of the narrow array, and the two parameter rows.
-/
module

public import proofs.«01_k».proof.Proof.Gen.PrepIdeal.Value
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.DeltaPrep

open Cert.PrepIdeal Cert.PrepIdeal.Gen Idealize.ShloMosaic Idealize.ShloMosaic.TcCoe

variable (m : (ℓ : Loc nD τ sig) → Buf (Elt Ideal) ℓ)

theorem index0 : ∀ t : Fin cfg0.N, (cfg0.win 0).index t = ![t.val, 0] := by decide +kernel
theorem index1 : ∀ t : Fin cfg0.N, (cfg0.win 1).index t = ![t.val * 16 - 1, 0] := by decide +kernel
theorem index2 : ∀ t : Fin cfg0.N, (cfg0.win 2).index t = ![0, 0] := by decide +kernel
theorem index3 : ∀ t : Fin cfg0.N, (cfg0.win 3).index t = ![t.val, 0] := by decide +kernel
theorem index4 : ∀ t : Fin cfg0.N, (cfg0.win 4).index t = ![0, 0] := by decide +kernel
theorem index5 : ∀ t : Fin cfg0.N, (cfg0.win 5).index t = ![0, 0] := by decide +kernel

/-- The arrays that a run starts from. -/
abbrev wide (c : Dev nD) : S16384x12800.Idx → EReal := fun i => m ((c : Thread nD τ).loc main_arg0) i
abbrev narrow (c : Dev nD) : S16384x128.Idx → EReal := fun i => m ((c : Thread nD τ).loc main_arg1) i
abbrev weights (c : Dev nD) : S4x4096.Idx → EReal := fun i => m ((c : Thread nD τ).loc main_arg2) i
abbrev decays (c : Dev nD) : S16.Idx → EReal := fun i => m ((c : Thread nD τ).loc main_arg3) i
abbrev offsets (c : Dev nD) : S16.Idx → EReal := fun i => m ((c : Thread nD τ).loc main_arg4) i

theorem tlt (t : Fin cfg0.N) : t.val < 64 := t.isLt

theorem own_rows (c : Dev nD) (t : Fin cfg0.N) (i : Fin 256) (y : Fin 4096) :
    X0_0 m c t (ix2 i y) = wide m c (ix2 ⟨t.val * 256 + i.val, by have := tlt t; omega⟩ ⟨y.val, by omega⟩) := by
  have := tlt t
  unfold wide
  rw [← V_main_arg0 m c]
  unfold X0_0 Pipeline.Window.fill
  rw [dif_pos (moved0_0 t _)]
  unfold iblk
  change _ = V m c (Pipeline.arrRef spec0 0) _
  generalize V m c (Pipeline.arrRef spec0 0) = W
  blk_simp [index0 t]
  refine congrArg W (funext fun a => Fin.ext ?_)
  fin_cases a <;> blk_simp [index0 t]
  · rfl
  · rfl

theorem rows_before (c : Dev nD) (t : Fin cfg0.N) (i : Fin 16) (y : Fin 4096) :
    X0_1 m c t (ix2 i y) = wide m c (ix2 ⟨(t.val * 16 - 1) * 16 + i.val, by have := tlt t; omega⟩ ⟨y.val, by omega⟩) := by
  have := tlt t
  unfold wide
  rw [← V_main_arg0 m c]
  unfold X0_1 Pipeline.Window.fill
  rw [dif_pos (moved0_1 t _)]
  unfold iblk
  change _ = V m c (Pipeline.arrRef spec0 1) _
  generalize V m c (Pipeline.arrRef spec0 1) = W
  blk_simp [index1 t]
  refine congrArg W (funext fun a => Fin.ext ?_)
  fin_cases a <;> blk_simp [index1 t]
  · rfl
  · rfl

theorem weights_blk (c : Dev nD) (t : Fin cfg0.N) (k : Fin 4) (y : Fin 4096) :
    iblk m c 2 t (ix2 k y) = weights m c (ix2 k y) := by
  unfold weights
  rw [← V_main_arg2 m c]
  blk_ext [iblk, index2 t]

theorem narrow_blk (c : Dev nD) (t : Fin cfg0.N) (i : Fin 256) (l : Fin 128) :
    iblk m c 3 t (ix2 i l) = narrow m c (ix2 ⟨t.val * 256 + i.val, by have := tlt t; omega⟩ l) := by
  have := tlt t
  unfold narrow
  rw [← V_main_arg1 m c]
  blk_ext [iblk, index3 t]

theorem decays_row (c : Dev nD) (l : Fin 128) (h : Fin 16) (hl : l.val = 16 + h.val) :
    (V m c main_v1 (ix2 0 l) : EReal) = decays m c (ix1 h) := by
  rw [show l = ⟨16 + h.val, by omega⟩ from Fin.ext hl]
  unfold V
  after_reads_at

theorem offsets_row (c : Dev nD) (l : Fin 128) (h : Fin 16) (hl : l.val = 16 + h.val) :
    (V m c main_v3 (ix2 0 l) : EReal) = offsets m c (ix1 h) := by
  rw [show l = ⟨16 + h.val, by omega⟩ from Fin.ext hl]
  unfold V
  after_reads_at

theorem decays_blk (c : Dev nD) (t : Fin cfg0.N) (l : Fin 128) (h : Fin 16) (hl : l.val = 16 + h.val) :
    iblk m c 4 t (ix2 0 l) = decays m c (ix1 h) := by
  refine Eq.trans ?_ (decays_row m c l h hl)
  unfold iblk
  change _ = V m c (Pipeline.arrRef spec0 4) (ix2 0 l)
  generalize V m c (Pipeline.arrRef spec0 4) = W
  blk_ext [index4 t]

theorem offsets_blk (c : Dev nD) (t : Fin cfg0.N) (l : Fin 128) (h : Fin 16) (hl : l.val = 16 + h.val) :
    iblk m c 5 t (ix2 0 l) = offsets m c (ix1 h) := by
  refine Eq.trans ?_ (offsets_row m c l h hl)
  unfold iblk
  change _ = V m c (Pipeline.arrRef spec0 5) (ix2 0 l)
  generalize V m c (Pipeline.arrRef spec0 5) = W
  blk_ext [index5 t]

end Cert.DeltaPrep

end
-- ==== Proof.Prep.Point.lean ====
/-
  A grid point's column groups, entry by entry, and its flag for a sequence's first block.
-/
module

public import proofs.«01_k».proof.Proof.Prep.Tile
public import proofs.«01_k».proof.Proof.Prep.Blocks

@[expose] public section

set_option maxRecDepth 16384
set_option maxHeartbeats 4000000

noncomputable section

namespace Cert.DeltaPrep

open Cert.PrepIdeal Cert.PrepIdeal.Gen Idealize.ShloMosaic Idealize.ShloMosaic.TcCoe

/-- The flag that point `i` computes: whether its rows begin a sequence. -/
def flag (i : grid0.Coords) : BitVec 1 :=
  let arg0 : BitVec 32 := BitVec.ofNat 32 (i 0).val
  let v0 : BitVec 32 := Scalar.muli arg0 256#32
  let v1 : BitVec 1 := Scalar.cmpi .eq 4096#32 0#32
  let v2 : BitVec 32 := Scalar.select v1 1#32 4096#32
  let v3 : BitVec 32 := Scalar.remsi v0 v2
  let v4 : BitVec 1 := Scalar.cmpi .ne v3 0#32
  let v5 : BitVec 1 := Scalar.cmpi .slt v3 0#32
  let v6 : BitVec 1 := Scalar.cmpi .slt v2 0#32
  let v7 : BitVec 1 := Scalar.xori v5 v6
  let v8 : BitVec 1 := Scalar.andi v7 v4
  let v9 : BitVec 32 := Scalar.addi v3 v2
  let v10 : BitVec 32 := Scalar.select v8 v9 v3
  Scalar.cmpi .eq v10 0#32

theorem flag_val : ∀ t : Fin cfg0.N, flag (grid0.coords t) = if t.val % 16 = 0 then 1#1 else 0#1 := by
  show ∀ t : Fin grid0.N, flag (grid0.coords t) = if t.val % 16 = 0 then 1#1 else 0#1
  decide +kernel

/-- Row `r`, `d` rows earlier in the same sequence of 4096 rows, or zero before the sequence. -/
def rowBack (X : S16384x12800.Idx → EReal) (r : Fin 16384) (y : Fin 4096) (d : ℕ) : EReal :=
  if d ≤ r.val % 4096 then X (ix2 ⟨r.val - d, by omega⟩ ⟨y.val, by omega⟩) else 0

/-- The convolution's output at row `r`, column `y`. -/
def conv (X : S16384x12800.Idx → EReal) (W : S4x4096.Idx → EReal) (r : Fin 16384) (y : Fin 4096) : EReal :=
  rowBack X r y 3 * W (ix2 0 y) + rowBack X r y 2 * W (ix2 1 y) + rowBack X r y 1 * W (ix2 2 y) + rowBack X r y 0 * W (ix2 3 y)

/-- … activated. -/
def act (X : S16384x12800.Idx → EReal) (W : S4x4096.Idx → EReal) (r : Fin 16384) (y : Fin 4096) : EReal := silu (conv X W r y)

/-- … and scaled to length one over the 128 columns of its head, `o` columns on. -/
def unit (X : S16384x12800.Idx → EReal) (W : S4x4096.Idx → EReal) (o : ℕ) (ho : o ≤ 1024) (r : Fin 16384) (y : Fin 1024) : EReal :=
  scaled (fun k => act X W r ⟨o + (y.val / 128 * 128 + k.val), by omega⟩) ⟨y.val % 128, by omega⟩

variable (m : (ℓ : Loc nD τ sig) → Buf (Elt Ideal) ℓ)

theorem rowBelow_val (c : Dev nD) (t : Fin cfg0.N) (i : Fin 256) (y : Fin 4096) (o d : ℕ) (ho : o < 8) (hd : o + d = 8) :
    rowBelow (flag (grid0.coords t)) (X0_0 m c t) (X0_1 m c t) i y o ho
      = rowBack (wide m c) ⟨t.val * 256 + i.val, by have := tlt t; omega⟩ y d := by
  have ht := tlt t
  unfold rowBelow rowBack
  rw [flag_val]
  by_cases h1 : o + i.val < 8
  · rw [dif_pos h1]
    by_cases h2 : t.val % 16 = 0
    · rw [if_pos h2, if_neg (by dsimp only; omega)]
      rfl
    · rw [if_neg h2, if_pos (by dsimp only; omega), rows_before]
      refine Eq.trans (b := wide m c _) rfl (congrArg (fun q => wide m c (ix2 q _)) (Fin.ext ?_))
      show (t.val * 16 - 1) * 16 + (8 + (o + i.val)) = t.val * 256 + i.val - d
      omega
  · rw [dif_neg h1, if_pos (by dsimp only; omega), own_rows]
    refine congrArg (fun q => wide m c (ix2 q _)) (Fin.ext ?_)
    show t.val * 256 + (o + i.val - 8) = t.val * 256 + i.val - d
    omega

/-- Column group `n` of point `t`. -/
abbrev grp (c : Dev nD) (t : Fin cfg0.N) (n : ℕ) (hn : n < 32) : FVec Ideal S256x128 .f32 :=
  group (flag (grid0.coords t)) (X0_0 m c t) (X0_1 m c t) (iblk m c 2 t) n hn

theorem grp_val (c : Dev nD) (t : Fin cfg0.N) (n : ℕ) (hn : n < 32) (i : Fin 256) (j : Fin 128) :
    grp m c t n hn (ix2 i j)
      = act (wide m c) (weights m c) ⟨t.val * 256 + i.val, by have := tlt t; omega⟩ ⟨n * 128 + j.val, by omega⟩ := by
  have ht := tlt t
  refine (group_val _ _ _ _ n hn i j).trans ?_
  unfold active act conv
  rw [rowBelow_val m c t i _ 5 3 _ rfl, rowBelow_val m c t i _ 6 2 _ rfl, rowBelow_val m c t i _ 7 1 _ rfl, own_rows,
    weights_blk, weights_blk, weights_blk, weights_blk]
  rfl

end Cert.DeltaPrep

end
-- ==== Proof.Prep.Query.lean ====
/-
  The queries the kernel stores.
-/
module

public import proofs.«01_k».proof.Proof.Prep.Point

@[expose] public section

set_option maxRecDepth 16384
set_option maxHeartbeats 4000000

noncomputable section

namespace Cert.DeltaPrep

open Cert.PrepIdeal Cert.PrepIdeal.Gen Idealize.ShloMosaic Idealize.ShloMosaic.TcCoe

/-- A query: the activated row scaled to length one, and by the logits' scale. -/
def queryAt (X : S16384x12800.Idx → EReal) (W : S4x4096.Idx → EReal) (r : Fin 16384) (y : Fin 1024) : EReal :=
  unit X W 0 (by decide) r y * Scalar.ofBits (F := Ideal) .f32 0x3DB504F3#32

variable (m : (ℓ : Loc nD τ sig) → Buf (Elt Ideal) ℓ)

theorem query_tile (c : Dev nD) (t : Fin cfg0.N) (n : ℕ) (hn : n < 8) (x : S256x128.Idx) (i : Fin 256) (y : Fin 1024) (h0 : i.val = (x 0).val)
    (h1 : y.val = n * 128 + (x 1).val) :
    (queryTile (grp m c t (0 + n) (by omega)) x : EReal) = queryAt (wide m c) (weights m c) ⟨t.val * 256 + i.val, by have := tlt t; omega⟩ y := by
  have b1 : (x 1).val < 128 := (x 1).isLt
  have hx : x = ix2 i ⟨(x 1).val, b1⟩ := by
    funext a
    fin_cases a
    · exact Fin.ext h0.symm
    · rfl
  obtain ⟨y, hy⟩ := y
  obtain rfl : y = n * 128 + (x 1).val := h1
  refine (congrArg (queryTile (grp m c t (0 + n) (by omega))) hx).trans ?_
  refine (queryTile_val _ i _).trans ?_
  unfold queryAt
  refine congrArg (· * _) ?_
  rw [funext fun k => grp_val m c t (0 + n) (by omega) i k]
  unfold unit
  refine congrArg₂ scaled (funext fun k => congrArg (act (wide m c) (weights m c) _) (Fin.ext ?_)) (Fin.ext ?_)
  · show (0 + n) * 128 + k.val = 0 + ((n * 128 + (x 1).val) / 128 * 128 + k.val)
    omega
  · show (x 1).val = (n * 128 + (x 1).val) % 128
    omega

theorem query_outs (c : Dev nD) (t : Fin cfg0.N) (i : Fin 256) (y : Fin 1024) :
    ((outsAt0 m c t).1 (ix2 i y) : EReal) = queryAt (wide m c) (weights m c) ⟨t.val * 256 + i.val, by have := tlt t; omega⟩ y := by
  unfold outsAt0
  frame_out
  canon_tiles x h
  case piece7 =>
    exact Eq.trans (b := queryTile (grp m c t (0 + 0) (by decide)) x) rfl
      (query_tile m c t 0 (by decide) x i y (by have : i.val = _ := h0; omega) (by have : y.val = _ := h1; show y.val = 0 * 128 + _; omega))
  case piece6 =>
    exact Eq.trans (b := queryTile (grp m c t (0 + 1) (by decide)) x) rfl
      (query_tile m c t 1 (by decide) x i y (by have : i.val = _ := h0; omega) (by have : y.val = _ := h1; show y.val = 1 * 128 + _; omega))
  case piece5 =>
    exact Eq.trans (b := queryTile (grp m c t (0 + 2) (by decide)) x) rfl
      (query_tile m c t 2 (by decide) x i y (by have : i.val = _ := h0; omega) (by have : y.val = _ := h1; show y.val = 2 * 128 + _; omega))
  case piece4 =>
    exact Eq.trans (b := queryTile (grp m c t (0 + 3) (by decide)) x) rfl
      (query_tile m c t 3 (by decide) x i y (by have : i.val = _ := h0; omega) (by have : y.val = _ := h1; show y.val = 3 * 128 + _; omega))
  case piece3 =>
    exact Eq.trans (b := queryTile (grp m c t (0 + 4) (by decide)) x) rfl
      (query_tile m c t 4 (by decide) x i y (by have : i.val = _ := h0; omega) (by have : y.val = _ := h1; show y.val = 4 * 128 + _; omega))
  case piece2 =>
    exact Eq.trans (b := queryTile (grp m c t (0 + 5) (by decide)) x) rfl
      (query_tile m c t 5 (by decide) x i y (by have : i.val = _ := h0; omega) (by have : y.val = _ := h1; show y.val = 5 * 128 + _; omega))
  case piece1 =>
    exact Eq.trans (b := queryTile (grp m c t (0 + 6) (by decide)) x) rfl
      (query_tile m c t 6 (by decide) x i y (by have : i.val = _ := h0; omega) (by have : y.val = _ := h1; show y.val = 6 * 128 + _; omega))
  case piece0 =>
    exact Eq.trans (b := queryTile (grp m c t (0 + 7) (by decide)) x) rfl
      (query_tile m c t 7 (by decide) x i y (by have : i.val = _ := h0; omega) (by have : y.val = _ := h1; show y.val = 7 * 128 + _; omega))

theorem query_index : ∀ t : Fin cfg0.N, (cfg0.win 6).index t = ![t.val, 0] := by decide +kernel

/-- The whole array: the blocks of the 64 points tile it. -/
def queryArray (X : S16384x12800.Idx → EReal) (W : S4x4096.Idx → EReal) : S16384x1024.Idx → EReal := fun q => queryAt X W (q 0) (q 1)

theorem query_array (c : Dev nD) : (dats m 0 c).arrAt 6 cfg0.N = queryArray (wide m c) (weights m c) := by
  refine (dats m 0 c).arrAt_eq_of_covers 6 _ (by decide +kernel) fun t hf y => ?_
  have ht := tlt t
  let y' : S256x1024.Idx := y
  have hy : y' = ix2 (y' 0) (y' 1) := by
    funext a
    fin_cases a <;> rfl
  blk_simp
  refine Eq.trans (b := (outsAt0 m c t).1 (ix2 (y' 0) (y' 1))) (congrArg (outsAt0 m c t).1 hy) ((query_outs m c t (y' 0) (y' 1)).trans ?_)
  unfold queryArray
  refine congrArg₂ (queryAt (wide m c) (weights m c)) (Fin.ext ?_) (Fin.ext ?_)
  · blk_simp [query_index t]
    rfl
  · blk_simp [query_index t]
    rfl

end Cert.DeltaPrep

end
-- ==== Proof.Prep.RefConv.lean ====
/-
  The reference's convolution, entry by entry.
-/
module

public import proofs.«01_k».proof.Proof.Prep.Point
public import proofs.«01_k».proof.Proof.Gen.PrepReferenceIdeal.Read
public import Idealize.ShloMosaic.Lib.KernelVsHost

@[expose] public section

set_option maxRecDepth 16384
set_option maxHeartbeats 4000000

noncomputable section

namespace Cert.DeltaPrep

open Cert.PrepIdeal Cert.PrepIdeal.Gen Idealize.ShloMosaic Idealize.ShloMosaic.TcCoe

/-- The input with three rows of zeros before each sequence. -/
theorem padded_val (X : S16384x12800.Idx → EReal) (b : Fin 4) (s : Fin 4099) (y : Fin 4096) :
    (Cert.PrepReferenceIdeal.Read.val_main_v7 (F := Ideal) X (ix3 b s y) : EReal)
      = if h : 3 ≤ s.val then X (ix2 ⟨b.val * 4096 + (s.val - 3), by omega⟩ ⟨y.val, by omega⟩) else 0 := by
  unfold Cert.PrepReferenceIdeal.Read.val_main_v7
  by_cases h : 3 ≤ s.val
  · rw [dif_pos h]
    refine (pad_apply_of_inside _ _ _ _ _ _ _ (ix3 b s y) (ix3 b ⟨s.val - 3, by omega⟩ y) fun a => ?_).trans ?_
    · fin_cases a
      · show b.val = 0 + b.val * (0 + 1)
        omega
      · show s.val = 3 + (s.val - 3) * (0 + 1)
        omega
      · show y.val = 0 + y.val * (0 + 1)
        omega
    · pointwise [Cert.PrepReferenceIdeal.Read.val_main_v2, Cert.PrepReferenceIdeal.Read.val_main_v1, Cert.PrepReferenceIdeal.Read.val_main_v0]
  · rw [dif_neg h]
    refine (pad_apply_of_not_inside _ _ _ _ _ _ _ (ix3 b s y) 1 fun hc => h hc.1).trans ?_
    show ((((0#32 : BitVec 32).toInt : ℝ)) : EReal) = 0
    simp

theorem shifted_val (X : S16384x12800.Idx → EReal) (b : Fin 4) (p : Fin 4096) (y : Fin 4096) (s : Fin 4099) (d : ℕ) (hs : s.val + d = p.val + 3) (hd : d ≤ 3) :
    (Cert.PrepReferenceIdeal.Read.val_main_v7 (F := Ideal) X (ix3 b s y) : EReal) = rowBack X ⟨b.val * 4096 + p.val, by omega⟩ y d := by
  rw [padded_val]
  unfold rowBack
  by_cases h : 3 ≤ s.val
  · rw [dif_pos h, if_pos (by dsimp only; omega)]
    refine congrArg (fun q => X (ix2 q _)) (Fin.ext ?_)
    show b.val * 4096 + (s.val - 3) = b.val * 4096 + p.val - d
    omega
  · rw [dif_neg h, if_neg (by dsimp only; omega)]

theorem reference_conv (X : S16384x12800.Idx → EReal) (W : S4x4096.Idx → EReal) (b : Fin 4) (p : Fin 4096) (y : Fin 4096) :
    (Cert.PrepReferenceIdeal.Read.val_main_v34 (F := Ideal) X W (ix3 b p y) : EReal) = conv X W ⟨b.val * 4096 + p.val, by omega⟩ y := by
  unfold conv
  rw [← shifted_val X b p y ⟨p.val, by omega⟩ 3 rfl (by decide), ← shifted_val X b p y ⟨1 + p.val, by omega⟩ 2 (by dsimp only; omega) (by decide),
    ← shifted_val X b p y ⟨2 + p.val, by omega⟩ 1 (by dsimp only; omega) (by decide), ← shifted_val X b p y ⟨3 + p.val, by omega⟩ 0 (by dsimp only; omega) (by decide)]
  pointwise [Cert.PrepReferenceIdeal.Read.val_main_v34, Cert.PrepReferenceIdeal.Read.val_main_v33, Cert.PrepReferenceIdeal.Read.val_main_v32, Cert.PrepReferenceIdeal.Read.val_main_v31, Cert.PrepReferenceIdeal.Read.val_main_v30, Cert.PrepReferenceIdeal.Read.val_main_v29, Cert.PrepReferenceIdeal.Read.val_main_v28, Cert.PrepReferenceIdeal.Read.val_main_v27, Cert.PrepReferenceIdeal.Read.val_main_v26, Cert.PrepReferenceIdeal.Read.val_main_v25, Cert.PrepReferenceIdeal.Read.val_main_v24, Cert.PrepReferenceIdeal.Read.val_main_v23, Cert.PrepReferenceIdeal.Read.val_main_v22, Cert.PrepReferenceIdeal.Read.val_main_v21, Cert.PrepReferenceIdeal.Read.val_main_v20, Cert.PrepReferenceIdeal.Read.val_main_v19, Cert.PrepReferenceIdeal.Read.val_main_v18, Cert.PrepReferenceIdeal.Read.val_main_v17, Cert.PrepReferenceIdeal.Read.val_main_v16, Cert.PrepReferenceIdeal.Read.val_main_v15, Cert.PrepReferenceIdeal.Read.val_main_v14, Cert.PrepReferenceIdeal.Read.val_main_v13, Cert.PrepReferenceIdeal.Read.val_main_v12, Cert.PrepReferenceIdeal.Read.val_main_v11, Cert.PrepReferenceIdeal.Read.val_main_v10, Cert.PrepReferenceIdeal.Read.val_main_v9, Cert.PrepReferenceIdeal.Read.val_main_v8]

theorem reference_act (X : S16384x12800.Idx → EReal) (W : S4x4096.Idx → EReal) (b : Fin 4) (p : Fin 4096) (y : Fin 4096) :
    (Cert.PrepReferenceIdeal.Read.val_main_v35 (F := Ideal) X W (ix3 b p y) : EReal) = act X W ⟨b.val * 4096 + p.val, by omega⟩ y := by
  unfold act silu Ideal.logistic
  rw [← reference_conv]
  pointwise [Cert.PrepReferenceIdeal.Read.val_main_v35, Cert.PrepReferenceIdeal.Read.val_main_call1_v5, Cert.PrepReferenceIdeal.Read.val_main_call1_v4, Cert.PrepReferenceIdeal.Read.val_main_call1_cst_0, Cert.PrepReferenceIdeal.Read.val_main_call1_v3, Cert.PrepReferenceIdeal.Read.val_main_call1_v2, Cert.PrepReferenceIdeal.Read.val_main_call1_cst, Cert.PrepReferenceIdeal.Read.val_main_call1_v1, Cert.PrepReferenceIdeal.Read.val_main_call1_v0]

end Cert.DeltaPrep

end
-- ==== Proof.Prep.RefQuery.lean ====
/-
  The reference's queries, entry by entry.
-/
module

public import proofs.«01_k».proof.Proof.Prep.Query
public import proofs.«01_k».proof.Proof.Prep.RefConv

@[expose] public section

set_option maxRecDepth 16384
set_option maxHeartbeats 4000000

noncomputable section

namespace Cert.DeltaPrep

open Cert.PrepIdeal Cert.PrepIdeal.Gen Idealize.ShloMosaic Idealize.ShloMosaic.TcCoe

/-- The two ways a constant is read are one. -/
theorem query_constant (w : BitVec 32) : Scalar.ofBits (F := Ideal) .f32 w = FloatOps.ofBits (F := Ideal) .f32 w := rfl

/-- The product at exact arithmetic. -/
theorem query_product (a b : EReal) : FloatOps.mulf (F := Ideal) (φ := .f32) a b = a * b := rfl

theorem reference_query_unit (X : S16384x12800.Idx → EReal) (W : S4x4096.Idx → EReal) (b : Fin 4) (p : Fin 4096) (h : Fin 8) (d : Fin 128) :
    (Cert.PrepReferenceIdeal.Read.val_main_v49 (F := Ideal) X W (ix4 b p h d) : EReal)
      = scaled (fun k => Cert.PrepReferenceIdeal.Read.val_main_v39 (F := Ideal) X W (ix4 b p h k)) d * Scalar.ofBits (F := Ideal) .f32 0x3DB504F3#32 := by
  unfold scaled
  have e : ∀ k : Fin 128, Cert.PrepReferenceIdeal.Read.idx_main_v41 (Cert.PrepReferenceIdeal.Read.idx_main_v42 (Cert.PrepReferenceIdeal.Read.idx_main_v46 (ix4 b p h d))) k = ix4 b p h k := fun k => by
    funext a
    fin_cases a <;> rfl
  rw [Cert.PrepReferenceIdeal.Read.val_main_v49_apply, Cert.PrepReferenceIdeal.Read.val_main_v47_apply, Cert.PrepReferenceIdeal.Read.val_main_v48_apply, Cert.PrepReferenceIdeal.Read.val_main_cst_1_apply, Cert.PrepReferenceIdeal.Read.val_main_v46_apply, Cert.PrepReferenceIdeal.Read.val_main_v45_apply, Cert.PrepReferenceIdeal.Read.val_main_v44_apply, Cert.PrepReferenceIdeal.Read.val_main_v43_apply, Cert.PrepReferenceIdeal.Read.val_main_cst_0_apply, Cert.PrepReferenceIdeal.Read.val_main_v42_apply, Cert.PrepReferenceIdeal.Read.val_main_v41_apply, Cert.PrepReferenceIdeal.Read.val_main_cst_apply]
  have hs : ∑ k : Fin 128, Cert.PrepReferenceIdeal.Read.val_main_v40 (F := Ideal) X W (Cert.PrepReferenceIdeal.Read.idx_main_v41 (Cert.PrepReferenceIdeal.Read.idx_main_v42 (Cert.PrepReferenceIdeal.Read.idx_main_v46 (ix4 b p h d))) k)
      = ∑ k : Fin 128, (Cert.PrepReferenceIdeal.Read.val_main_v39 (F := Ideal) X W (ix4 b p h k) * Cert.PrepReferenceIdeal.Read.val_main_v39 (F := Ideal) X W (ix4 b p h k) : EReal) :=
    Finset.sum_congr rfl fun k _ => by
      rw [e k, Cert.PrepReferenceIdeal.Read.val_main_v40_apply, query_product]
  rw [hs]
  generalize Cert.PrepReferenceIdeal.Read.val_main_v39 (F := Ideal) X W = T
  have z : (FloatOps.ofBits (F := Ideal) .f32 0x00000000#32 : EReal) = 0 := by
    pointwise []
  rw [z, query_constant, query_constant]
  generalize FloatOps.ofBits (F := Ideal) .f32 0x3DB504F3#32 = c
  generalize FloatOps.ofBits (F := Ideal) .f32 0x358637BD#32 = u
  exact congrArg (fun t : EReal => T (ix4 b p h d) * Ideal.rsqrt (t + u) * c) (zero_add _)

theorem reference_query_head (X : S16384x12800.Idx → EReal) (W : S4x4096.Idx → EReal) (b : Fin 4) (p : Fin 4096) (h : Fin 8) (k : Fin 128) :
    (Cert.PrepReferenceIdeal.Read.val_main_v39 (F := Ideal) X W (ix4 b p h k) : EReal) = act X W ⟨b.val * 4096 + p.val, by omega⟩ ⟨0 + (h.val * 128 + k.val), by omega⟩ := by
  rw [← reference_act, Cert.PrepReferenceIdeal.Read.val_main_v39_apply, Cert.PrepReferenceIdeal.Read.val_main_v36_apply]
  refine congrArg (Cert.PrepReferenceIdeal.Read.val_main_v35 (F := Ideal) X W) (funext fun a => Fin.ext ?_)
  fin_cases a
  · show (((b.val * 4096 + p.val) * 8 + h.val) * 128 + k.val) / 4194304 = b.val
    omega
  · show (((b.val * 4096 + p.val) * 8 + h.val) * 128 + k.val) / 1024 % 4096 = p.val
    omega
  · show (((b.val * 4096 + p.val) * 8 + h.val) * 128 + k.val) % 1024 = 0 + (h.val * 128 + k.val)
    omega

theorem reference_query (X : S16384x12800.Idx → EReal) (W : S4x4096.Idx → EReal) :
    Cert.PrepReferenceIdeal.Read.val_main_v80 (F := Ideal) X W = queryArray X W := by
  refine funext fun (q : S16384x1024.Idx) => ?_
  obtain ⟨r, y, rfl⟩ : ∃ (r : Fin 16384) (y : Fin 1024), q = ix2 r y := ⟨q 0, q 1, ValueIdx.eq_ix2 q⟩
  refine Eq.trans (b := Cert.PrepReferenceIdeal.Read.val_main_v79 (F := Ideal) X W (ix2 r y)) rfl ?_
  rw [Cert.PrepReferenceIdeal.Read.val_main_v79_apply]
  have e : Cert.PrepReferenceIdeal.Read.idx_main_v79 (ix2 r y) = ix4 (⟨r.val / 4096, by omega⟩ : Fin 4) (⟨r.val % 4096, by omega⟩ : Fin 4096) (⟨y.val / 128, by omega⟩ : Fin 8)
      (⟨y.val % 128, by omega⟩ : Fin 128) := by
    refine funext fun a => Fin.ext ?_
    fin_cases a
    · show (r.val * 1024 + y.val) / 4194304 = r.val / 4096
      omega
    · show (r.val * 1024 + y.val) / 1024 % 4096 = r.val % 4096
      omega
    · show (r.val * 1024 + y.val) / 128 % 8 = y.val / 128
      omega
    · show (r.val * 1024 + y.val) % 128 = y.val % 128
      omega
  rw [e, reference_query_unit, funext fun k => reference_query_head X W _ _ _ k]
  show _ = queryAt X W r y
  unfold queryAt unit
  have er : (⟨r.val / 4096 * 4096 + r.val % 4096, by omega⟩ : Fin 16384) = r := Fin.ext (by dsimp only; omega)
  dsimp only
  rw [er]

end Cert.DeltaPrep

end
-- ==== Proof.Prep.Key.lean ====
/-
  The keys the kernel stores.
-/
module

public import proofs.«01_k».proof.Proof.Prep.Point

@[expose] public section

set_option maxRecDepth 16384
set_option maxHeartbeats 4000000

noncomputable section

namespace Cert.DeltaPrep

open Cert.PrepIdeal Cert.PrepIdeal.Gen Idealize.ShloMosaic Idealize.ShloMosaic.TcCoe

/-- A key: the activated row scaled to length one. -/
def keyAt (X : S16384x12800.Idx → EReal) (W : S4x4096.Idx → EReal) (r : Fin 16384) (y : Fin 1024) : EReal := unit X W 1024 (by decide) r y

variable (m : (ℓ : Loc nD τ sig) → Buf (Elt Ideal) ℓ)

theorem key_tile (c : Dev nD) (t : Fin cfg0.N) (n : ℕ) (hn : n < 8) (x : S256x128.Idx) (i : Fin 256) (y : Fin 1024) (h0 : i.val = (x 0).val)
    (h1 : y.val = n * 128 + (x 1).val) :
    (keyTile (grp m c t (8 + n) (by omega)) x : EReal) = keyAt (wide m c) (weights m c) ⟨t.val * 256 + i.val, by have := tlt t; omega⟩ y := by
  have b1 : (x 1).val < 128 := (x 1).isLt
  have hx : x = ix2 i ⟨(x 1).val, b1⟩ := by
    funext a
    fin_cases a
    · exact Fin.ext h0.symm
    · rfl
  obtain ⟨y, hy⟩ := y
  obtain rfl : y = n * 128 + (x 1).val := h1
  refine (congrArg (keyTile (grp m c t (8 + n) (by omega))) hx).trans ?_
  refine (keyTile_val _ i _).trans ?_
  unfold keyAt
  rw [funext fun k => grp_val m c t (8 + n) (by omega) i k]
  unfold unit
  refine congrArg₂ scaled (funext fun k => congrArg (act (wide m c) (weights m c) _) (Fin.ext ?_)) (Fin.ext ?_)
  · show (8 + n) * 128 + k.val = 1024 + ((n * 128 + (x 1).val) / 128 * 128 + k.val)
    omega
  · show (x 1).val = (n * 128 + (x 1).val) % 128
    omega

theorem key_outs (c : Dev nD) (t : Fin cfg0.N) (i : Fin 256) (y : Fin 1024) :
    ((outsAt0 m c t).2.1 (ix2 i y) : EReal) = keyAt (wide m c) (weights m c) ⟨t.val * 256 + i.val, by have := tlt t; omega⟩ y := by
  unfold outsAt0
  frame_out
  canon_tiles x h
  case piece7 =>
    exact Eq.trans (b := keyTile (grp m c t (8 + 0) (by decide)) x) rfl
      (key_tile m c t 0 (by decide) x i y (by have : i.val = _ := h0; omega) (by have : y.val = _ := h1; show y.val = 0 * 128 + _; omega))
  case piece6 =>
    exact Eq.trans (b := keyTile (grp m c t (8 + 1) (by decide)) x) rfl
      (key_tile m c t 1 (by decide) x i y (by have : i.val = _ := h0; omega) (by have : y.val = _ := h1; show y.val = 1 * 128 + _; omega))
  case piece5 =>
    exact Eq.trans (b := keyTile (grp m c t (8 + 2) (by decide)) x) rfl
      (key_tile m c t 2 (by decide) x i y (by have : i.val = _ := h0; omega) (by have : y.val = _ := h1; show y.val = 2 * 128 + _; omega))
  case piece4 =>
    exact Eq.trans (b := keyTile (grp m c t (8 + 3) (by decide)) x) rfl
      (key_tile m c t 3 (by decide) x i y (by have : i.val = _ := h0; omega) (by have : y.val = _ := h1; show y.val = 3 * 128 + _; omega))
  case piece3 =>
    exact Eq.trans (b := keyTile (grp m c t (8 + 4) (by decide)) x) rfl
      (key_tile m c t 4 (by decide) x i y (by have : i.val = _ := h0; omega) (by have : y.val = _ := h1; show y.val = 4 * 128 + _; omega))
  case piece2 =>
    exact Eq.trans (b := keyTile (grp m c t (8 + 5) (by decide)) x) rfl
      (key_tile m c t 5 (by decide) x i y (by have : i.val = _ := h0; omega) (by have : y.val = _ := h1; show y.val = 5 * 128 + _; omega))
  case piece1 =>
    exact Eq.trans (b := keyTile (grp m c t (8 + 6) (by decide)) x) rfl
      (key_tile m c t 6 (by decide) x i y (by have : i.val = _ := h0; omega) (by have : y.val = _ := h1; show y.val = 6 * 128 + _; omega))
  case piece0 =>
    exact Eq.trans (b := keyTile (grp m c t (8 + 7) (by decide)) x) rfl
      (key_tile m c t 7 (by decide) x i y (by have : i.val = _ := h0; omega) (by have : y.val = _ := h1; show y.val = 7 * 128 + _; omega))

theorem key_index : ∀ t : Fin cfg0.N, (cfg0.win 7).index t = ![t.val, 0] := by decide +kernel

/-- The whole array: the blocks of the 64 points tile it. -/
def keyArray (X : S16384x12800.Idx → EReal) (W : S4x4096.Idx → EReal) : S16384x1024.Idx → EReal := fun q => keyAt X W (q 0) (q 1)

theorem key_array (c : Dev nD) : (dats m 0 c).arrAt 7 cfg0.N = keyArray (wide m c) (weights m c) := by
  refine (dats m 0 c).arrAt_eq_of_covers 7 _ (by decide +kernel) fun t hf y => ?_
  have ht := tlt t
  let y' : S256x1024.Idx := y
  have hy : y' = ix2 (y' 0) (y' 1) := by
    funext a
    fin_cases a <;> rfl
  blk_simp
  refine Eq.trans (b := (outsAt0 m c t).2.1 (ix2 (y' 0) (y' 1))) (congrArg (outsAt0 m c t).2.1 hy) ((key_outs m c t (y' 0) (y' 1)).trans ?_)
  unfold keyArray
  refine congrArg₂ (keyAt (wide m c) (weights m c)) (Fin.ext ?_) (Fin.ext ?_)
  · blk_simp [key_index t]
    rfl
  · blk_simp [key_index t]
    rfl

end Cert.DeltaPrep

end
-- ==== Proof.Prep.RefKey.lean ====
/-
  The reference's keys, entry by entry.
-/
module

public import proofs.«01_k».proof.Proof.Prep.Key
public import proofs.«01_k».proof.Proof.Prep.RefConv

@[expose] public section

set_option maxRecDepth 16384
set_option maxHeartbeats 4000000

noncomputable section

namespace Cert.DeltaPrep

open Cert.PrepIdeal Cert.PrepIdeal.Gen Idealize.ShloMosaic Idealize.ShloMosaic.TcCoe

/-- The two ways a constant is read are one. -/
theorem key_constant (w : BitVec 32) : Scalar.ofBits (F := Ideal) .f32 w = FloatOps.ofBits (F := Ideal) .f32 w := rfl

/-- The product at exact arithmetic. -/
theorem key_product (a b : EReal) : FloatOps.mulf (F := Ideal) (φ := .f32) a b = a * b := rfl

theorem reference_key_unit (X : S16384x12800.Idx → EReal) (W : S4x4096.Idx → EReal) (b : Fin 4) (p : Fin 4096) (h : Fin 8) (d : Fin 128) :
    (Cert.PrepReferenceIdeal.Read.val_main_v58 (F := Ideal) X W (ix4 b p h d) : EReal)
      = scaled (fun k => Cert.PrepReferenceIdeal.Read.val_main_v50 (F := Ideal) X W (ix4 b p h k)) d := by
  unfold scaled
  have e : ∀ k : Fin 128, Cert.PrepReferenceIdeal.Read.idx_main_v52 (Cert.PrepReferenceIdeal.Read.idx_main_v53 (Cert.PrepReferenceIdeal.Read.idx_main_v57 (ix4 b p h d))) k = ix4 b p h k := fun k => by
    funext a
    fin_cases a <;> rfl
  rw [Cert.PrepReferenceIdeal.Read.val_main_v58_apply, Cert.PrepReferenceIdeal.Read.val_main_v57_apply, Cert.PrepReferenceIdeal.Read.val_main_v56_apply, Cert.PrepReferenceIdeal.Read.val_main_v55_apply, Cert.PrepReferenceIdeal.Read.val_main_v54_apply, Cert.PrepReferenceIdeal.Read.val_main_cst_3_apply, Cert.PrepReferenceIdeal.Read.val_main_v53_apply, Cert.PrepReferenceIdeal.Read.val_main_v52_apply, Cert.PrepReferenceIdeal.Read.val_main_cst_2_apply]
  have hs : ∑ k : Fin 128, Cert.PrepReferenceIdeal.Read.val_main_v51 (F := Ideal) X W (Cert.PrepReferenceIdeal.Read.idx_main_v52 (Cert.PrepReferenceIdeal.Read.idx_main_v53 (Cert.PrepReferenceIdeal.Read.idx_main_v57 (ix4 b p h d))) k)
      = ∑ k : Fin 128, (Cert.PrepReferenceIdeal.Read.val_main_v50 (F := Ideal) X W (ix4 b p h k) * Cert.PrepReferenceIdeal.Read.val_main_v50 (F := Ideal) X W (ix4 b p h k) : EReal) :=
    Finset.sum_congr rfl fun k _ => by
      rw [e k, Cert.PrepReferenceIdeal.Read.val_main_v51_apply, key_product]
  rw [hs]
  generalize Cert.PrepReferenceIdeal.Read.val_main_v50 (F := Ideal) X W = T
  have z : (FloatOps.ofBits (F := Ideal) .f32 0x00000000#32 : EReal) = 0 := by
    pointwise []
  rw [z, key_constant]
  generalize FloatOps.ofBits (F := Ideal) .f32 0x358637BD#32 = u
  exact congrArg (fun t : EReal => T (ix4 b p h d) * Ideal.rsqrt (t + u)) (zero_add _)

theorem reference_key_head (X : S16384x12800.Idx → EReal) (W : S4x4096.Idx → EReal) (b : Fin 4) (p : Fin 4096) (h : Fin 8) (k : Fin 128) :
    (Cert.PrepReferenceIdeal.Read.val_main_v50 (F := Ideal) X W (ix4 b p h k) : EReal) = act X W ⟨b.val * 4096 + p.val, by omega⟩ ⟨1024 + (h.val * 128 + k.val), by omega⟩ := by
  rw [← reference_act, Cert.PrepReferenceIdeal.Read.val_main_v50_apply, Cert.PrepReferenceIdeal.Read.val_main_v37_apply]
  refine congrArg (Cert.PrepReferenceIdeal.Read.val_main_v35 (F := Ideal) X W) (funext fun a => Fin.ext ?_)
  fin_cases a
  · show (((b.val * 4096 + p.val) * 8 + h.val) * 128 + k.val) / 4194304 = b.val
    omega
  · show (((b.val * 4096 + p.val) * 8 + h.val) * 128 + k.val) / 1024 % 4096 = p.val
    omega
  · show 1024 + (((b.val * 4096 + p.val) * 8 + h.val) * 128 + k.val) % 1024 = 1024 + (h.val * 128 + k.val)
    omega

theorem reference_key (X : S16384x12800.Idx → EReal) (W : S4x4096.Idx → EReal) :
    Cert.PrepReferenceIdeal.Read.val_main_v82 (F := Ideal) X W = keyArray X W := by
  refine funext fun (q : S16384x1024.Idx) => ?_
  obtain ⟨r, y, rfl⟩ : ∃ (r : Fin 16384) (y : Fin 1024), q = ix2 r y := ⟨q 0, q 1, ValueIdx.eq_ix2 q⟩
  refine Eq.trans (b := Cert.PrepReferenceIdeal.Read.val_main_v81 (F := Ideal) X W (ix2 r y)) rfl ?_
  rw [Cert.PrepReferenceIdeal.Read.val_main_v81_apply]
  have e : Cert.PrepReferenceIdeal.Read.idx_main_v81 (ix2 r y) = ix4 (⟨r.val / 4096, by omega⟩ : Fin 4) (⟨r.val % 4096, by omega⟩ : Fin 4096) (⟨y.val / 128, by omega⟩ : Fin 8)
      (⟨y.val % 128, by omega⟩ : Fin 128) := by
    refine funext fun a => Fin.ext ?_
    fin_cases a
    · show (r.val * 1024 + y.val) / 4194304 = r.val / 4096
      omega
    · show (r.val * 1024 + y.val) / 1024 % 4096 = r.val % 4096
      omega
    · show (r.val * 1024 + y.val) / 128 % 8 = y.val / 128
      omega
    · show (r.val * 1024 + y.val) % 128 = y.val % 128
      omega
  rw [e, reference_key_unit, funext fun k => reference_key_head X W _ _ _ k]
  show _ = keyAt X W r y
  unfold keyAt unit
  have er : (⟨r.val / 4096 * 4096 + r.val % 4096, by omega⟩ : Fin 16384) = r := Fin.ext (by dsimp only; omega)
  dsimp only
  rw [er]

end Cert.DeltaPrep

end
-- ==== Proof.Prep.Values.lean ====
/-
  The values the kernel stores.
-/
module

public import proofs.«01_k».proof.Proof.Prep.Point

@[expose] public section

set_option maxRecDepth 16384
set_option maxHeartbeats 4000000

noncomputable section

namespace Cert.DeltaPrep

open Cert.PrepIdeal Cert.PrepIdeal.Gen Idealize.ShloMosaic Idealize.ShloMosaic.TcCoe

/-- A value: the activated row. -/
def valueAt (X : S16384x12800.Idx → EReal) (W : S4x4096.Idx → EReal) (r : Fin 16384) (y : Fin 2048) : EReal := act X W r ⟨2048 + y.val, by omega⟩

variable (m : (ℓ : Loc nD τ sig) → Buf (Elt Ideal) ℓ)

theorem value_tile (c : Dev nD) (t : Fin cfg0.N) (n : ℕ) (hn : n < 16) (x : S256x128.Idx) (i : Fin 256) (y : Fin 2048) (h0 : i.val = (x 0).val)
    (h1 : y.val = n * 128 + (x 1).val) :
    (valueTile (grp m c t (16 + n) (by omega)) x : EReal) = valueAt (wide m c) (weights m c) ⟨t.val * 256 + i.val, by have := tlt t; omega⟩ y := by
  have b1 : (x 1).val < 128 := (x 1).isLt
  have hx : x = ix2 i ⟨(x 1).val, b1⟩ := by
    funext a
    fin_cases a
    · exact Fin.ext h0.symm
    · rfl
  obtain ⟨y, hy⟩ := y
  obtain rfl : y = n * 128 + (x 1).val := h1
  refine (congrArg (valueTile (grp m c t (16 + n) (by omega))) hx).trans ?_
  refine (grp_val m c t (16 + n) (by omega) i _).trans ?_
  unfold valueAt
  exact congrArg (act (wide m c) (weights m c) _) (Fin.ext (by show (16 + n) * 128 + (x 1).val = 2048 + (n * 128 + (x 1).val); omega))

theorem value_outs (c : Dev nD) (t : Fin cfg0.N) (i : Fin 256) (y : Fin 2048) :
    ((outsAt0 m c t).2.2.1 (ix2 i y) : EReal) = valueAt (wide m c) (weights m c) ⟨t.val * 256 + i.val, by have := tlt t; omega⟩ y := by
  unfold outsAt0
  frame_out
  canon_tiles x h
  case piece15 =>
    exact Eq.trans (b := valueTile (grp m c t (16 + 0) (by decide)) x) rfl
      (value_tile m c t 0 (by decide) x i y (by have : i.val = _ := h0; omega) (by have : y.val = _ := h1; show y.val = 0 * 128 + _; omega))
  case piece14 =>
    exact Eq.trans (b := valueTile (grp m c t (16 + 1) (by decide)) x) rfl
      (value_tile m c t 1 (by decide) x i y (by have : i.val = _ := h0; omega) (by have : y.val = _ := h1; show y.val = 1 * 128 + _; omega))
  case piece13 =>
    exact Eq.trans (b := valueTile (grp m c t (16 + 2) (by decide)) x) rfl
      (value_tile m c t 2 (by decide) x i y (by have : i.val = _ := h0; omega) (by have : y.val = _ := h1; show y.val = 2 * 128 + _; omega))
  case piece12 =>
    exact Eq.trans (b := valueTile (grp m c t (16 + 3) (by decide)) x) rfl
      (value_tile m c t 3 (by decide) x i y (by have : i.val = _ := h0; omega) (by have : y.val = _ := h1; show y.val = 3 * 128 + _; omega))
  case piece11 =>
    exact Eq.trans (b := valueTile (grp m c t (16 + 4) (by decide)) x) rfl
      (value_tile m c t 4 (by decide) x i y (by have : i.val = _ := h0; omega) (by have : y.val = _ := h1; show y.val = 4 * 128 + _; omega))
  case piece10 =>
    exact Eq.trans (b := valueTile (grp m c t (16 + 5) (by decide)) x) rfl
      (value_tile m c t 5 (by decide) x i y (by have : i.val = _ := h0; omega) (by have : y.val = _ := h1; show y.val = 5 * 128 + _; omega))
  case piece9 =>
    exact Eq.trans (b := valueTile (grp m c t (16 + 6) (by decide)) x) rfl
      (value_tile m c t 6 (by decide) x i y (by have : i.val = _ := h0; omega) (by have : y.val = _ := h1; show y.val = 6 * 128 + _; omega))
  case piece8 =>
    exact Eq.trans (b := valueTile (grp m c t (16 + 7) (by decide)) x) rfl
      (value_tile m c t 7 (by decide) x i y (by have : i.val = _ := h0; omega) (by have : y.val = _ := h1; show y.val = 7 * 128 + _; omega))
  case piece7 =>
    exact Eq.trans (b := valueTile (grp m c t (16 + 8) (by decide)) x) rfl
      (value_tile m c t 8 (by decide) x i y (by have : i.val = _ := h0; omega) (by have : y.val = _ := h1; show y.val = 8 * 128 + _; omega))
  case piece6 =>
    exact Eq.trans (b := valueTile (grp m c t (16 + 9) (by decide)) x) rfl
      (value_tile m c t 9 (by decide) x i y (by have : i.val = _ := h0; omega) (by have : y.val = _ := h1; show y.val = 9 * 128 + _; omega))
  case piece5 =>
    exact Eq.trans (b := valueTile (grp m c t (16 + 10) (by decide)) x) rfl
      (value_tile m c t 10 (by decide) x i y (by have : i.val = _ := h0; omega) (by have : y.val = _ := h1; show y.val = 10 * 128 + _; omega))
  case piece4 =>
    exact Eq.trans (b := valueTile (grp m c t (16 + 11) (by decide)) x) rfl
      (value_tile m c t 11 (by decide) x i y (by have : i.val = _ := h0; omega) (by have : y.val = _ := h1; show y.val = 11 * 128 + _; omega))
  case piece3 =>
    exact Eq.trans (b := valueTile (grp m c t (16 + 12) (by decide)) x) rfl
      (value_tile m c t 12 (by decide) x i y (by have : i.val = _ := h0; omega) (by have : y.val = _ := h1; show y.val = 12 * 128 + _; omega))
  case piece2 =>
    exact Eq.trans (b := valueTile (grp m c t (16 + 13) (by decide)) x) rfl
      (value_tile m c t 13 (by decide) x i y (by have : i.val = _ := h0; omega) (by have : y.val = _ := h1; show y.val = 13 * 128 + _; omega))
  case piece1 =>
    exact Eq.trans (b := valueTile (grp m c t (16 + 14) (by decide)) x) rfl
      (value_tile m c t 14 (by decide) x i y (by have : i.val = _ := h0; omega) (by have : y.val = _ := h1; show y.val = 14 * 128 + _; omega))
  case piece0 =>
    exact Eq.trans (b := valueTile (grp m c t (16 + 15) (by decide)) x) rfl
      (value_tile m c t 15 (by decide) x i y (by have : i.val = _ := h0; omega) (by have : y.val = _ := h1; show y.val = 15 * 128 + _; omega))

theorem value_index : ∀ t : Fin cfg0.N, (cfg0.win 8).index t = ![t.val, 0] := by decide +kernel

/-- The whole array: the blocks of the 64 points tile it. -/
def valueArray (X : S16384x12800.Idx → EReal) (W : S4x4096.Idx → EReal) : S16384x2048.Idx → EReal := fun q => valueAt X W (q 0) (q 1)

theorem value_array (c : Dev nD) : (dats m 0 c).arrAt 8 cfg0.N = valueArray (wide m c) (weights m c) := by
  refine (dats m 0 c).arrAt_eq_of_covers 8 _ (by decide +kernel) fun t hf y => ?_
  have ht := tlt t
  let y' : S256x2048.Idx := y
  have hy : y' = ix2 (y' 0) (y' 1) := by
    funext a
    fin_cases a <;> rfl
  blk_simp
  refine Eq.trans (b := (outsAt0 m c t).2.2.1 (ix2 (y' 0) (y' 1))) (congrArg (outsAt0 m c t).2.2.1 hy) ((value_outs m c t (y' 0) (y' 1)).trans ?_)
  unfold valueArray
  refine congrArg₂ (valueAt (wide m c) (weights m c)) (Fin.ext ?_) (Fin.ext ?_)
  · blk_simp [value_index t]
    rfl
  · blk_simp [value_index t]
    rfl

end Cert.DeltaPrep

end
-- ==== Proof.Prep.RefValue.lean ====
/-
  The reference's values, entry by entry.
-/
module

public import proofs.«01_k».proof.Proof.Prep.Values
public import proofs.«01_k».proof.Proof.Prep.RefConv

@[expose] public section

set_option maxRecDepth 16384
set_option maxHeartbeats 4000000

noncomputable section

namespace Cert.DeltaPrep

open Cert.PrepIdeal Cert.PrepIdeal.Gen Idealize.ShloMosaic Idealize.ShloMosaic.TcCoe

theorem reference_value (X : S16384x12800.Idx → EReal) (W : S4x4096.Idx → EReal) :
    Cert.PrepReferenceIdeal.Read.val_main_v84 (F := Ideal) X W = valueArray X W := by
  refine funext fun (q : S16384x2048.Idx) => ?_
  obtain ⟨r, y, rfl⟩ : ∃ (r : Fin 16384) (y : Fin 2048), q = ix2 r y := ⟨q 0, q 1, ValueIdx.eq_ix2 q⟩
  refine Eq.trans (b := Cert.PrepReferenceIdeal.Read.val_main_v83 (F := Ideal) X W (ix2 r y)) rfl ?_
  rw [Cert.PrepReferenceIdeal.Read.val_main_v83_apply, Cert.PrepReferenceIdeal.Read.val_main_v38_apply]
  have e : Cert.PrepReferenceIdeal.Read.idx_main_v38 (Cert.PrepReferenceIdeal.Read.idx_main_v83 (ix2 r y)) = ix3 (⟨r.val / 4096, by omega⟩ : Fin 4) (⟨r.val % 4096, by omega⟩ : Fin 4096) (⟨2048 + y.val, by omega⟩ : Fin 4096) := by
    refine funext fun a => Fin.ext ?_
    fin_cases a
    · show (r.val * 2048 + y.val) / 8388608 = r.val / 4096
      omega
    · show (r.val * 2048 + y.val) / 2048 % 4096 = r.val % 4096
      omega
    · show 2048 + (r.val * 2048 + y.val) % 2048 = 2048 + y.val
      omega
  rw [e, reference_act]
  show _ = valueAt X W r y
  unfold valueAt
  have er : (⟨r.val / 4096 * 4096 + r.val % 4096, by omega⟩ : Fin 16384) = r := Fin.ext (by dsimp only; omega)
  dsimp only
  rw [er]

end Cert.DeltaPrep

end
-- ==== Proof.Prep.Gates.lean ====
/-
  The gates a grid point stores: sixteen lanes of write strengths, sixteen lanes of decays summed up within each run of 64 rows, and
  zeros.
-/
module

public import proofs.«01_k».proof.Proof.Prep.Point
public import Idealize.ShloMosaic.Lib.KernelVsHost

@[expose] public section

set_option maxRecDepth 16384
set_option maxHeartbeats 4000000

noncomputable section

namespace Cert.DeltaPrep

open Cert.PrepIdeal Cert.PrepIdeal.Gen Idealize.ShloMosaic Idealize.ShloMosaic.TcCoe

/-- A row's place in its run of 64, as a word. -/
theorem place_val (i : Fin 256) (l : Fin 128) : k0_pay95 (ix2 i l) = BitVec.ofNat 32 (i.val % 64) := by
  pointwise [k0_pay95]
  revert i
  decide +kernel

theorem word_ge : ∀ a n : Fin 64, IntOp.cmpi .sge (BitVec.ofNat 32 a.val) (BitVec.ofNat 32 n.val) = if n.val ≤ a.val then 1#1 else 0#1 := by
  decide +kernel

theorem lane_lt16 : ∀ l : Fin 128, IntOp.cmpi .slt (BitVec.ofNat 32 l.val) 16#32 = if l.val < 16 then 1#1 else 0#1 := by decide +kernel
theorem lane_lt32 : ∀ l : Fin 128, IntOp.cmpi .slt (BitVec.ofNat 32 l.val) 32#32 = if l.val < 32 then 1#1 else 0#1 := by decide +kernel

/-- Each row plus the row `n` before it in the same run of 64. -/
def step (n : ℕ) (x : FVec Ideal S256x128 .f32) : FVec Ideal S256x128 .f32 :=
  addf x (select (cmpi .sge k0_pay95 (broadcast S256x128 (BitVec.ofNat 32 n))) (dynamicRotate 0 (BitVec.ofNat 32 n) none x rotates_S256x128_d0)
    (broadcast S256x128 (Scalar.ofBits .f32 0x00000000#32)))

theorem step_val (n : ℕ) (hn : n < 64) (x : FVec Ideal S256x128 .f32) (i : Fin 256) (l : Fin 128) :
    (step n x (ix2 i l) : EReal) = x (ix2 i l) + if h : n ≤ i.val % 64 then x (ix2 ⟨i.val - n, by omega⟩ l) else 0 := by
  have hw := word_ge ⟨i.val % 64, by omega⟩ ⟨n, hn⟩
  dsimp only at hw
  refine Eq.trans (b := x (ix2 i l) + Scalar.select (IntOp.cmpi .sge (k0_pay95 (ix2 i l)) (BitVec.ofNat 32 n))
    (dynamicRotate 0 (BitVec.ofNat 32 n) none x rotates_S256x128_d0 (ix2 i l)) (Ideal.ofBits .f32 0x00000000#32)) rfl ?_
  rw [place_val, hw]
  congr 1
  by_cases h : n ≤ i.val % 64
  · rw [dif_pos h, if_pos h]
    refine Eq.trans (b := dynamicRotate 0 (BitVec.ofNat 32 n) none x rotates_S256x128_d0 (ix2 i l)) rfl ?_
    refine dynamicRotate_apply 0 (BitVec.ofNat 32 n) x rotates_S256x128_d0 (ix2 i l) _ fun b => ?_
    fin_cases b
    · show i.val - n = (i.val + 256 - (BitVec.ofNat 32 n).toNat % 256) % 256
      rw [BitVec.toNat_ofNat]
      omega
    · rfl
  · rw [dif_neg h, if_neg h]
    refine Eq.trans (b := Ideal.ofBits .f32 0x00000000#32) rfl ?_
    pointwise []

/-- The sum of a row and the rows before it in its run of 64, `n` rows at most. -/
def runSum (f : ℕ → EReal) (n r : ℕ) : EReal := ∑ k ∈ Finset.range (min n (r % 64 + 1)), f (r - k)

theorem runSum_double (f : ℕ → EReal) (n r : ℕ) :
    runSum f (n + n) r = runSum f n r + if n ≤ r % 64 then runSum f n (r - n) else 0 := by
  unfold runSum
  by_cases h : n ≤ r % 64
  · rw [if_pos h, show min (n + n) (r % 64 + 1) = n + min n ((r - n) % 64 + 1) by omega, show min n (r % 64 + 1) = n by omega,
      Finset.sum_range_add]
    congr 1
    exact Finset.sum_congr rfl fun k _ => by rw [Nat.sub_sub]
  · rw [if_neg h, add_zero, show min (n + n) (r % 64 + 1) = min n (r % 64 + 1) by omega]

theorem step_run (n : ℕ) (hn : n < 64) (f : ℕ → EReal) (x : FVec Ideal S256x128 .f32) (l : Fin 128)
    (hx : ∀ i : Fin 256, (x (ix2 i l) : EReal) = runSum f n i.val) (i : Fin 256) : (step n x (ix2 i l) : EReal) = runSum f (n + n) i.val := by
  rw [step_val n hn, runSum_double, hx i]
  congr 1
  by_cases h : n ≤ i.val % 64
  · rw [dif_pos h, if_pos h, hx]
  · rw [dif_neg h, if_neg h]

/-- The decays of a point's rows. -/
def rates (ba : Vec Ideal S256x128 .f32) (d a : Vec Ideal S1x128 .f32) : FVec Ideal S256x128 .f32 :=
  mulf (broadcastTo S256x128 (subf (broadcast S1x128 (Scalar.ofBits .f32 0x00000000#32)) (exp (shapeCast S1x128 a shapeCasts_S1x128_S1x128))) broadcasts_S1x128_S256x128)
    (addf (maximumf (k0_pay97 ba d) (broadcast S256x128 (Scalar.ofBits .f32 0x00000000#32)))
      (log1p (exp (subf (broadcast S256x128 (Scalar.ofBits .f32 0x00000000#32)) (absf (k0_pay97 ba d))))))

/-- A decay, from its input, its offset and its logarithm. -/
def rate (x d a : EReal) : EReal := (0 - Ideal.exp a) * (max (x + d) 0 + Ideal.log1p (Ideal.exp (0 - FloatOps.absf (F := Ideal) (φ := .f32) (x + d))))

theorem rates_val (ba : Vec Ideal S256x128 .f32) (d a : Vec Ideal S1x128 .f32) (i : Fin 256) (l : Fin 128) :
    (rates ba d a (ix2 i l) : EReal) = rate (ba (ix2 i l)) (d (ix2 0 l)) (a (ix2 0 l)) := by
  unfold rate
  pointwise [rates, k0_pay97]

/-- What a point stores. -/
def gateTile (ba : Vec Ideal S256x128 .f32) (d a : Vec Ideal S1x128 .f32) : FVec Ideal S256x128 .f32 :=
  select (cmpi .slt (iota .tc S256x128 32 [1] iota_S256x128_d1_w32) (broadcast S256x128 16#32)) (logistic ba)
    (select (cmpi .slt (iota .tc S256x128 32 [1] iota_S256x128_d1_w32) (broadcast S256x128 32#32))
      (step 32 (step 16 (step 8 (step 4 (step 2 (step 1 (rates ba d a))))))) (broadcast S256x128 (Scalar.ofBits .f32 0x00000000#32)))

theorem steps_val (ba : Vec Ideal S256x128 .f32) (d a : Vec Ideal S1x128 .f32) (i : Fin 256) (l : Fin 128) (f : ℕ → EReal)
    (hf : ∀ i : Fin 256, rate (ba (ix2 i l)) (d (ix2 0 l)) (a (ix2 0 l)) = f i.val) :
    (step 32 (step 16 (step 8 (step 4 (step 2 (step 1 (rates ba d a)))))) (ix2 i l) : EReal) = ∑ k ∈ Finset.range (i.val % 64 + 1), f (i.val - k) := by
  have h1 : ∀ i : Fin 256, (rates ba d a (ix2 i l) : EReal) = runSum f 1 i.val := fun i => by
    rw [rates_val, hf]
    unfold runSum
    rw [show min 1 (i.val % 64 + 1) = 1 by omega, Finset.sum_range_one, Nat.sub_zero]
  refine (step_run 32 (by decide) f _ l (step_run 16 (by decide) f _ l (step_run 8 (by decide) f _ l (step_run 4 (by decide) f _ l
    (step_run 2 (by decide) f _ l (step_run 1 (by decide) f _ l h1))))) i).trans ?_
  unfold runSum
  rw [show min (32 + 32) (i.val % 64 + 1) = i.val % 64 + 1 by omega]

/-- A row's decay for head `h`. -/
def decay (X : S16384x128.Idx → EReal) (D A : S16.Idx → EReal) (r : Fin 16384) (h : Fin 16) : EReal :=
  rate (X (ix2 r ⟨16 + h.val, by omega⟩)) (D (ix1 h)) (A (ix1 h))

/-- The gates of row `r`, lane `l`. -/
def gateAt (X : S16384x128.Idx → EReal) (D A : S16.Idx → EReal) (r : Fin 16384) (l : Fin 128) : EReal :=
  if l.val < 16 then Ideal.logistic (X (ix2 r l))
  else if h : l.val < 32 then ∑ k ∈ Finset.range (r.val % 64 + 1), decay X D A ⟨r.val - k, by omega⟩ ⟨l.val - 16, by omega⟩
  else 0

variable (m : (ℓ : Loc nD τ sig) → Buf (Elt Ideal) ℓ)

theorem tile_gates (c : Dev nD) (t : Fin cfg0.N) (i : Fin 256) (l : Fin 128) :
    (gateTile (iblk m c 3 t) (iblk m c 5 t) (iblk m c 4 t) (ix2 i l) : EReal)
      = gateAt (narrow m c) (offsets m c) (decays m c) ⟨t.val * 256 + i.val, by have := tlt t; omega⟩ l := by
  have ht := tlt t
  have h16 := lane_lt16 l
  have h32 := lane_lt32 l
  refine Eq.trans (b := Scalar.select (IntOp.cmpi .slt (BitVec.ofNat 32 l.val) 16#32) (Ideal.logistic (iblk m c 3 t (ix2 i l)))
    (Scalar.select (IntOp.cmpi .slt (BitVec.ofNat 32 l.val) 32#32)
      (step 32 (step 16 (step 8 (step 4 (step 2 (step 1 (rates (iblk m c 3 t) (iblk m c 5 t) (iblk m c 4 t))))))) (ix2 i l))
      (Ideal.ofBits .f32 0x00000000#32))) ?_ ?_
  · unfold gateTile
    pointwise []
  unfold gateAt
  rw [h16, h32]
  by_cases e16 : l.val < 16
  · rw [if_pos e16, if_pos e16, narrow_blk]
    rfl
  · rw [if_neg e16, if_neg e16]
    by_cases e32 : l.val < 32
    · rw [if_pos e32, dif_pos e32]
      refine Eq.trans (b := step 32 (step 16 (step 8 (step 4 (step 2 (step 1 (rates (iblk m c 3 t) (iblk m c 5 t) (iblk m c 4 t))))))) (ix2 i l)) rfl ?_
      refine (steps_val _ _ _ i l (fun k => if hk : t.val * 256 + k < 16384 then
        decay (narrow m c) (offsets m c) (decays m c) ⟨t.val * 256 + k, hk⟩ ⟨l.val - 16, by omega⟩ else 0) fun i' => ?_).trans ?_
      · rw [dif_pos (by omega), narrow_blk, offsets_blk m c t l ⟨l.val - 16, by omega⟩ (by dsimp only; omega),
          decays_blk m c t l ⟨l.val - 16, by omega⟩ (by dsimp only; omega)]
        unfold decay
        refine congrArg (fun q => rate (narrow m c (ix2 _ q)) _ _) (Fin.ext ?_)
        show l.val = 16 + (l.val - 16)
        omega
      · dsimp only
        rw [show (t.val * 256 + i.val) % 64 = i.val % 64 by omega]
        refine Finset.sum_congr rfl fun k hk => ?_
        have hk' := Finset.mem_range.mp hk
        rw [dif_pos (by omega)]
        refine congrArg (fun q => decay _ _ _ q _) (Fin.ext ?_)
        show t.val * 256 + (i.val - k) = t.val * 256 + i.val - k
        omega
    · rw [if_neg e32, dif_neg e32]
      refine Eq.trans (b := Ideal.ofBits .f32 0x00000000#32) rfl ?_
      pointwise []

theorem gate_outs (c : Dev nD) (t : Fin cfg0.N) (i : Fin 256) (l : Fin 128) :
    ((outsAt0 m c t).2.2.2 (ix2 i l) : EReal)
      = gateAt (narrow m c) (offsets m c) (decays m c) ⟨t.val * 256 + i.val, by have := tlt t; omega⟩ l := by
  refine Eq.trans ?_ (tile_gates m c t i l)
  unfold outsAt0
  frame_out
  rfl

theorem gate_index : ∀ t : Fin cfg0.N, (cfg0.win 9).index t = ![t.val, 0] := by decide +kernel

/-- The whole array: the blocks of the 64 points tile it. -/
def gateArray (X : S16384x128.Idx → EReal) (D A : S16.Idx → EReal) : S16384x128.Idx → EReal := fun q => gateAt X D A (q 0) (q 1)

theorem gate_array (c : Dev nD) : (dats m 0 c).arrAt 9 cfg0.N = gateArray (narrow m c) (offsets m c) (decays m c) := by
  refine (dats m 0 c).arrAt_eq_of_covers 9 _ (by decide +kernel) fun t hf y => ?_
  have ht := tlt t
  let y' : S256x128.Idx := y
  have hy : y' = ix2 (y' 0) (y' 1) := by
    funext a
    fin_cases a <;> rfl
  blk_simp
  refine Eq.trans (b := (outsAt0 m c t).2.2.2 (ix2 (y' 0) (y' 1))) (congrArg (outsAt0 m c t).2.2.2 hy) ((gate_outs m c t (y' 0) (y' 1)).trans ?_)
  unfold gateArray
  refine congrArg₂ (gateAt (narrow m c) (offsets m c) (decays m c)) (Fin.ext ?_) (Fin.ext ?_)
  · blk_simp [gate_index t]
    rfl
  · blk_simp [gate_index t]
    rfl

end Cert.DeltaPrep

end
-- ==== Proof.Prep.RefGates.lean ====
/-
  The reference's gates, entry by entry.
-/
module

public import proofs.«01_k».proof.Proof.Prep.Gates
public import proofs.«01_k».proof.Proof.Gen.PrepReferenceIdeal.Read

@[expose] public section

set_option maxRecDepth 16384
set_option maxHeartbeats 4000000

noncomputable section

namespace Cert.DeltaPrep

open Cert.PrepIdeal Cert.PrepIdeal.Gen Idealize.ShloMosaic Idealize.ShloMosaic.TcCoe

theorem reference_decay (X : S16384x128.Idx → EReal) (D A : S16.Idx → EReal) (b : Fin 4) (p : Fin 4096) (h : Fin 16) :
    (Cert.PrepReferenceIdeal.Read.val_main_v73 (F := Ideal) X A D (ix3 b p h) : EReal) = decay X D A ⟨b.val * 4096 + p.val, by omega⟩ h := by
  unfold decay rate
  pointwise [Cert.PrepReferenceIdeal.Read.val_main_v73, Cert.PrepReferenceIdeal.Read.val_main_v72, Cert.PrepReferenceIdeal.Read.val_main_v71, Cert.PrepReferenceIdeal.Read.val_main_v70, Cert.PrepReferenceIdeal.Read.val_main_v69, Cert.PrepReferenceIdeal.Read.val_main_v68, Cert.PrepReferenceIdeal.Read.val_main_v67, Cert.PrepReferenceIdeal.Read.val_main_v66, Cert.PrepReferenceIdeal.Read.val_main_v65, Cert.PrepReferenceIdeal.Read.val_main_call2_v11, Cert.PrepReferenceIdeal.Read.val_main_call2_v10, Cert.PrepReferenceIdeal.Read.val_main_call2_v9, Cert.PrepReferenceIdeal.Read.val_main_call2_v8, Cert.PrepReferenceIdeal.Read.val_main_call2_v7, Cert.PrepReferenceIdeal.Read.val_main_call2_v6, Cert.PrepReferenceIdeal.Read.val_main_call2_v5, Cert.PrepReferenceIdeal.Read.val_main_call2_v4, Cert.PrepReferenceIdeal.Read.val_main_call2_v3, Cert.PrepReferenceIdeal.Read.val_main_call2_v2, Cert.PrepReferenceIdeal.Read.val_main_call2_v1, Cert.PrepReferenceIdeal.Read.val_main_call2_v0, Cert.PrepReferenceIdeal.Read.val_main_call2_cst, Cert.PrepReferenceIdeal.Read.val_main_v6, Cert.PrepReferenceIdeal.Read.val_main_v5]
  rw [if_neg (fun hne => hne rfl), zero_sub, zero_sub]

theorem windows_eq : (⟨4, ![1, 1, 64, 1]⟩ : Shape).numel = 64 := by decide +kernel

theorem windows_at : ∀ n : Fin (⟨4, ![1, 1, 64, 1]⟩ : Shape).numel,
    (⟨4, ![1, 1, 64, 1]⟩ : Shape).rowMajor.symm n = ix4 (0 : Fin 1) (0 : Fin 1) (⟨n.val, lt_of_lt_of_eq n.isLt windows_eq⟩ : Fin 64) (0 : Fin 1) := by
  intro n
  refine (Equiv.symm_apply_eq _).mpr (Fin.ext ?_)
  rw [Shape.rowMajor_val_four]
  show n.val = ((0 * 1 + 0) * 64 + n.val) * 1 + 0
  omega

theorem foldl_sum (l : List ℕ) (f : ℕ → EReal) (a : EReal) : l.foldl (fun r n => r + f n) a = a + (l.map f).sum := by
  induction l generalizing a with
  | nil => simp
  | cons x l ih => rw [List.foldl_cons, ih, List.map_cons, List.sum_cons, add_assoc]

/-- A running sum over a window of 64 padded with zeros in front. -/
theorem running_sum (f : ℕ → EReal) (p : ℕ) (hp : p < 64) :
    ((List.range 64).map (fun n => if 63 ≤ p + n then f (p + n - 63) else 0)).sum = ∑ k ∈ Finset.range (p + 1), f (p - k) := by
  have e : ∀ M : ℕ, ((List.range M).map (fun n => if 63 ≤ p + n then f (p + n - 63) else 0)).sum
      = ∑ n ∈ Finset.range M, (if 63 ≤ p + n then f (p + n - 63) else 0) := fun M => by
    induction M with
    | zero => rfl
    | succ M ih => rw [List.range_succ, List.map_append, List.sum_append, ih, Finset.sum_range_succ, List.map_singleton, List.sum_singleton]
  rw [e, show 64 = (63 - p) + (p + 1) by omega, Finset.sum_range_add, Finset.sum_eq_zero, zero_add,
    ← Finset.sum_range_reflect (fun k => f (p - k)) (p + 1)]
  · refine Finset.sum_congr rfl fun k hk => ?_
    have hk' := Finset.mem_range.mp hk
    rw [if_pos (by omega)]
    exact congrArg f (by omega)
  · intro k hk
    have hk' := Finset.mem_range.mp hk
    rw [if_neg (by omega)]

/-- A fold over a window's positions, whose terms are given by their numbers. -/
theorem foldl_positions {M N : ℕ} (h : M = N) (g : Fin M → EReal) (f : ℕ → EReal) (hg : ∀ n, g n = f n.val) :
    (List.finRange M).foldl (fun r n => r + g n) 0 = ((List.range N).map f).sum := by
  subst h
  rw [show g = fun n => f n.val from funext hg]
  have e : ∀ (l : List (Fin M)) (a : EReal), l.foldl (fun r n => r + f n.val) a = (l.map Fin.val).foldl (fun r n => r + f n) a := fun l => by
    induction l with
    | nil => intro a; rfl
    | cons x l ih => intro a; exact ih _
  rw [e, foldl_sum, zero_add, List.map_coe_finRange_eq_range]

theorem reference_sum (X : S16384x128.Idx → EReal) (D A : S16.Idx → EReal) (b : Fin 4) (n p : Fin 64) (h : Fin 16) :
    (Cert.PrepReferenceIdeal.Read.val_main_v75 (F := Ideal) X A D (ix4 b n p h) : EReal)
      = ∑ k ∈ Finset.range (p.val + 1), decay X D A ⟨b.val * 4096 + n.val * 64 + (p.val - k), by omega⟩ h := by
  have hp := p.isLt
  have hv : ∀ i : Fin 64, (Cert.PrepReferenceIdeal.Read.val_main_v74 (F := Ideal) X A D (ix4 b n i h) : EReal)
      = decay X D A ⟨b.val * 4096 + n.val * 64 + i.val, by omega⟩ h := fun i => by
    rw [Cert.PrepReferenceIdeal.Read.val_main_v74_apply]
    have e : Cert.PrepReferenceIdeal.Read.idx_main_v74 (ix4 b n i h) = ix3 b (⟨n.val * 64 + i.val, by omega⟩ : Fin 4096) h := by
      refine funext fun a => Fin.ext ?_
      fin_cases a
      · show (((b.val * 64 + n.val) * 64 + i.val) * 16 + h.val) / 65536 = b.val
        omega
      · show (((b.val * 64 + n.val) * 64 + i.val) * 16 + h.val) / 16 % 4096 = n.val * 64 + i.val
        omega
      · show (((b.val * 64 + n.val) * 64 + i.val) * 16 + h.val) % 16 = h.val
        omega
    rw [e, reference_decay]
    exact congrArg (fun r => decay X D A r h) (Fin.ext (by dsimp only; omega))
  refine Eq.trans ?_ ((running_sum (fun i => if hi : i < 64 then decay X D A ⟨b.val * 4096 + n.val * 64 + i, by omega⟩ h else 0) p.val hp).trans
    (Finset.sum_congr rfl fun k _ => dif_pos (by omega)))
  unfold Cert.PrepReferenceIdeal.Read.val_main_v75
  generalize Cert.PrepReferenceIdeal.Read.val_main_v74 (F := Ideal) X A D = T at hv
  have z : ∀ i, (Cert.PrepReferenceIdeal.Read.val_main_call3_call0_v0 (F := Ideal) i : EReal) = 0 := fun i => by
    rw [Cert.PrepReferenceIdeal.Read.val_main_call3_call0_v0_apply, Cert.PrepReferenceIdeal.Read.val_main_call3_call0_cst_apply]
    exact Ideal.ofBits_zero_f32
  generalize Cert.PrepReferenceIdeal.Read.val_main_call3_call0_v0 (F := Ideal) = v at z
  unfold Host.reduceWindowAdd
  rw [z]
  show Ideal.hostReduceWindowAdd _ _ _ _ _ _ _ _ = _
  unfold Ideal.hostReduceWindowAdd Host.reduceWindow
  dsimp only
  refine foldl_positions windows_eq _ _ fun w => ?_
  have hw : w.val < 64 := lt_of_lt_of_eq w.isLt windows_eq
  have hy : (((⟨4, ![1, 1, 64, 1]⟩ : Shape).rowMajor.symm w) : Shape.Idx _) = ix4 (0 : Fin 1) (0 : Fin 1) (⟨w.val, hw⟩ : Fin 64) (0 : Fin 1) := windows_at w
  split
  · next hin =>
    have h2 := hin 2
    change 63 ≤ p.val * 1 + ((⟨4, ![1, 1, 64, 1]⟩ : Shape).rowMajor.symm w 2).val
      ∧ p.val * 1 + ((⟨4, ![1, 1, 64, 1]⟩ : Shape).rowMajor.symm w 2).val - 63 < 64 at h2
    have w2 : ((⟨4, ![1, 1, 64, 1]⟩ : Shape).rowMajor.symm w 2).val = w.val := by rw [hy]; rfl
    rw [w2] at h2
    rw [if_pos (by omega), dif_pos (by omega)]
    refine (congrArg T (funext fun a => Fin.ext ?_)).trans (hv ⟨p.val + w.val - 63, by omega⟩)
    match a with
    | ⟨0, _⟩ =>
      show b.val * 1 + ((⟨4, ![1, 1, 64, 1]⟩ : Shape).rowMajor.symm w 0).val - 0 = b.val
      rw [hy]
      show b.val * 1 + 0 - 0 = b.val
      omega
    | ⟨1, _⟩ =>
      show n.val * 1 + ((⟨4, ![1, 1, 64, 1]⟩ : Shape).rowMajor.symm w 1).val - 0 = n.val
      rw [hy]
      show n.val * 1 + 0 - 0 = n.val
      omega
    | ⟨2, _⟩ =>
      show p.val * 1 + ((⟨4, ![1, 1, 64, 1]⟩ : Shape).rowMajor.symm w 2).val - 63 = p.val + w.val - 63
      rw [w2, Nat.mul_one]
    | ⟨3, _⟩ =>
      show h.val * 1 + ((⟨4, ![1, 1, 64, 1]⟩ : Shape).rowMajor.symm w 3).val - 0 = h.val
      rw [hy]
      show h.val * 1 + 0 - 0 = h.val
      omega
  · next hin =>
    rw [if_neg fun hle => hin fun a => by
      match a with
      | ⟨0, _⟩ =>
        show 0 ≤ b.val * 1 + ((⟨4, ![1, 1, 64, 1]⟩ : Shape).rowMajor.symm w 0).val
          ∧ b.val * 1 + ((⟨4, ![1, 1, 64, 1]⟩ : Shape).rowMajor.symm w 0).val - 0 < 4
        rw [hy]
        show 0 ≤ b.val * 1 + 0 ∧ b.val * 1 + 0 - 0 < 4
        omega
      | ⟨1, _⟩ =>
        show 0 ≤ n.val * 1 + ((⟨4, ![1, 1, 64, 1]⟩ : Shape).rowMajor.symm w 1).val
          ∧ n.val * 1 + ((⟨4, ![1, 1, 64, 1]⟩ : Shape).rowMajor.symm w 1).val - 0 < 64
        rw [hy]
        show 0 ≤ n.val * 1 + 0 ∧ n.val * 1 + 0 - 0 < 64
        omega
      | ⟨2, _⟩ =>
        show 63 ≤ p.val * 1 + ((⟨4, ![1, 1, 64, 1]⟩ : Shape).rowMajor.symm w 2).val
          ∧ p.val * 1 + ((⟨4, ![1, 1, 64, 1]⟩ : Shape).rowMajor.symm w 2).val - 63 < 64
        rw [hy]
        show 63 ≤ p.val * 1 + w.val ∧ p.val * 1 + w.val - 63 < 64
        omega
      | ⟨3, _⟩ =>
        show 0 ≤ h.val * 1 + ((⟨4, ![1, 1, 64, 1]⟩ : Shape).rowMajor.symm w 3).val
          ∧ h.val * 1 + ((⟨4, ![1, 1, 64, 1]⟩ : Shape).rowMajor.symm w 3).val - 0 < 16
        rw [hy]
        show 0 ≤ h.val * 1 + 0 ∧ h.val * 1 + 0 - 0 < 16
        omega]

theorem reference_gates (X : S16384x128.Idx → EReal) (D A : S16.Idx → EReal) :
    Cert.PrepReferenceIdeal.Read.val_main_v85 (F := Ideal) X A D = gateArray X D A := by
  refine funext fun (q : S16384x128.Idx) => ?_
  rw [ValueIdx.eq_ix2 q]
  unfold gateArray gateAt
  generalize q 0 = r
  generalize q 1 = y
  pointwise [Cert.PrepReferenceIdeal.Read.val_main_v85, Cert.PrepReferenceIdeal.Read.val_main_v78, Cert.PrepReferenceIdeal.Read.val_main_v77, Cert.PrepReferenceIdeal.Read.val_main_cst_6, Cert.PrepReferenceIdeal.Read.val_main_v76, Cert.PrepReferenceIdeal.Read.val_main_v64, Cert.PrepReferenceIdeal.Read.val_main_cst_5, Cert.PrepReferenceIdeal.Read.val_main_v63, Cert.PrepReferenceIdeal.Read.val_main_v62, Cert.PrepReferenceIdeal.Read.val_main_v61, Cert.PrepReferenceIdeal.Read.val_main_cst_4, Cert.PrepReferenceIdeal.Read.val_main_v60, Cert.PrepReferenceIdeal.Read.val_main_v59, Cert.PrepReferenceIdeal.Read.val_main_v4, Cert.PrepReferenceIdeal.Read.val_main_v3]
  show (if h : y.val < 16 then Ideal.div 1 (1 + Ideal.exp (-X (ValueIdx.ix2 r y))) else _) = _
  by_cases h16 : y.val < 16
  · rw [dif_pos h16]
    exact (if_pos (c := y.val < 16) h16).symm
  rw [dif_neg h16]
  refine Eq.trans ?_ (if_neg (c := y.val < 16) h16).symm
  by_cases h32 : y.val < 32
  · refine (dif_pos (c := y.val - 16 < 16) (by omega)).trans (Eq.trans ?_ (dif_pos (c := y.val < 32) h32).symm)
    refine (reference_sum X D A _ _ _ _).trans ?_
    have e : r.val % 4096 % 64 = r.val % 64 := by omega
    refine Finset.sum_congr (congrArg (fun t => Finset.range (t + 1)) e) fun k hk => ?_
    have hk' : k < r.val % 64 + 1 := Finset.mem_range.mp hk
    refine congrArg (fun s => decay X D A s _) (Fin.ext ?_)
    show r.val / 4096 * 4096 + r.val % 4096 / 64 * 64 + (r.val % 4096 % 64 - k) = r.val - k
    omega
  · refine (dif_neg (c := y.val - 16 < 16) (by omega)).trans ?_
    symm
    exact dif_neg (c := y.val < 32) h32

end Cert.DeltaPrep

end
-- ==== Proof.Merge1.Value.lean ====
/-
  The second layer's merge of the branches: as the first layer's, but the blocks of columns are of the second layer's weights.
-/
module

public import proofs.«01_k».proof.Proof.Gen.Merge1Ideal.Value
public import proofs.«01_k».proof.Proof.Gen.Merge1ReferenceIdeal.Read
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.Merging1

open Cert.Merge1Ideal Cert.Merge1Ideal.Gen Idealize.ShloMosaic Idealize.ShloMosaic.TcCoe

variable (m : (ℓ : Loc nD τ sig) → Buf (Elt Ideal) ℓ)

theorem index0 : ∀ t : Fin cfg0.N, (cfg0.win 0).index t = ![t.val / 4, 0] := by decide +kernel
theorem index1 : ∀ t : Fin cfg0.N, (cfg0.win 1).index t = ![t.val / 4, 0] := by decide +kernel
theorem index2 : ∀ t : Fin cfg0.N, (cfg0.win 2).index t = ![1, 0, t.val % 4] := by decide +kernel
theorem index3 : ∀ t : Fin cfg0.N, (cfg0.win 3).index t = ![1, 0, t.val % 4] := by decide +kernel
theorem index4 : ∀ t : Fin cfg0.N, (cfg0.win 4).index t = ![t.val / 4, 17 + t.val % 4] := by decide +kernel
theorem index5 : ∀ t : Fin cfg0.N, (cfg0.win 5).index t = ![t.val / 4, 21 + t.val % 4] := by decide +kernel
theorem index6 : ∀ t : Fin cfg0.N, (cfg0.win 6).index t = ![t.val / 4, t.val % 4] := by decide +kernel

theorem tlt (t : Fin cfg0.N) : t.val < 64 := t.isLt

/-- The two branches' products with their weights, each scaled by its gate, added: the entry of row `r` and column `y`. -/
def merged (A B : S16384x2048.Idx → EReal) (P : S16384x12800.Idx → EReal) (U W : S2x2048x2048.Idx → EReal) (r : Fin 16384) (y : Fin 2048) : EReal :=
  Ideal.logistic (P (ix2 r ⟨8704 + y.val, by omega⟩)) * (∑ k : Fin 2048, A (ix2 r k) * U (ix3 1 k y))
    + Ideal.logistic (P (ix2 r ⟨10752 + y.val, by omega⟩)) * (∑ k : Fin 2048, B (ix2 r k) * W (ix3 1 k y))

/-- The merged array. -/
def outArray (A B : S16384x2048.Idx → EReal) (P : S16384x12800.Idx → EReal) (U W : S2x2048x2048.Idx → EReal) : S16384x2048.Idx → EReal :=
  fun q => merged A B P U W (q 0) (q 1)

theorem rows_a (c : Dev nD) (t : Fin cfg0.N) (i : Fin 1024) (k : Fin 2048) :
    iblk m c 0 t (ix2 i k) = m ((c : Thread nD τ).loc main_arg0) (ix2 ⟨t.val / 4 * 1024 + i.val, by have := tlt t; omega⟩ k) := by
  have := tlt t
  rw [← V_main_arg0 m c]
  blk_ext [iblk, index0 t]

theorem rows_b (c : Dev nD) (t : Fin cfg0.N) (i : Fin 1024) (k : Fin 2048) :
    iblk m c 1 t (ix2 i k) = m ((c : Thread nD τ).loc main_arg1) (ix2 ⟨t.val / 4 * 1024 + i.val, by have := tlt t; omega⟩ k) := by
  have := tlt t
  rw [← V_main_arg1 m c]
  blk_ext [iblk, index1 t]

theorem weights_a (c : Dev nD) (t : Fin cfg0.N) (k : Fin 2048) (j : Fin 512) :
    iblk m c 2 t (ix3 0 k j) = (m ((c : Thread nD τ).loc main_arg3) (ix3 1 k ⟨t.val % 4 * 512 + j.val, by omega⟩) : EReal) := by
  have := tlt t
  have e : (V m c main_v0 (ix3 1 k ⟨t.val % 4 * 512 + j.val, by omega⟩) : EReal)
      = m ((c : Thread nD τ).loc main_arg3) (ix3 1 k ⟨t.val % 4 * 512 + j.val, by omega⟩) := by
    unfold V
    after_reads_at
  rw [← e]
  blk_ext [iblk, index2 t]

theorem weights_b (c : Dev nD) (t : Fin cfg0.N) (k : Fin 2048) (j : Fin 512) :
    iblk m c 3 t (ix3 0 k j) = (m ((c : Thread nD τ).loc main_arg4) (ix3 1 k ⟨t.val % 4 * 512 + j.val, by omega⟩) : EReal) := by
  have := tlt t
  have e : (V m c main_v1 (ix3 1 k ⟨t.val % 4 * 512 + j.val, by omega⟩) : EReal)
      = m ((c : Thread nD τ).loc main_arg4) (ix3 1 k ⟨t.val % 4 * 512 + j.val, by omega⟩) := by
    unfold V
    after_reads_at
  rw [← e]
  blk_ext [iblk, index3 t]

theorem gates_a (c : Dev nD) (t : Fin cfg0.N) (i : Fin 1024) (j : Fin 512) :
    iblk m c 4 t (ix2 i j) = m ((c : Thread nD τ).loc main_arg2)
      (ix2 ⟨t.val / 4 * 1024 + i.val, by have := tlt t; omega⟩ ⟨8704 + (t.val % 4 * 512 + j.val), by omega⟩) := by
  have := tlt t
  have e : (⟨8704 + (t.val % 4 * 512 + j.val), by omega⟩ : Fin 12800) = ⟨(17 + t.val % 4) * 512 + j.val, by omega⟩ := Fin.ext (by dsimp only; omega)
  rw [← V_main_arg2 m c, e]
  blk_ext [iblk, index4 t]

theorem gates_b (c : Dev nD) (t : Fin cfg0.N) (i : Fin 1024) (j : Fin 512) :
    iblk m c 5 t (ix2 i j) = m ((c : Thread nD τ).loc main_arg2)
      (ix2 ⟨t.val / 4 * 1024 + i.val, by have := tlt t; omega⟩ ⟨10752 + (t.val % 4 * 512 + j.val), by omega⟩) := by
  have := tlt t
  have e : (⟨10752 + (t.val % 4 * 512 + j.val), by omega⟩ : Fin 12800) = ⟨(21 + t.val % 4) * 512 + j.val, by omega⟩ := Fin.ext (by dsimp only; omega)
  rw [← V_main_arg2 m c, e]
  blk_ext [iblk, index5 t]

theorem tile_eq (x0 x1 : Vec Ideal S1024x2048 .bf16) (x2 x3 : Vec Ideal S1x2048x512 .bf16) (x4 x5 : Vec Ideal S1024x512 .bf16) :
    out0_6 x0 x1 x2 x3 x4 x5 = k0_pay1 x0 x2 x1 x3 x4 x5 := by
  unfold out0_6
  rw [View.canon_cons_unit_lit _ _ _ (by decide)]
  rw [View.ld_unit_lit _ _ (by decide), View.ld_unit_lit _ _ (by decide), View.ld_unit_lit _ _ (by decide),
    View.ld_unit_lit _ _ (by decide), View.ld_unit_lit _ _ (by decide), View.ld_unit_lit _ _ (by decide)]

/-- One stored tile from the blocks of its point. -/
theorem tile_val (x0 x1 : Vec Ideal S1024x2048 .bf16) (x2 x3 : Vec Ideal S1x2048x512 .bf16) (x4 x5 : Vec Ideal S1024x512 .bf16) (i : Fin 1024) (j : Fin 512) :
    (k0_pay1 x0 x2 x1 x3 x4 x5 (ix2 i j) : EReal)
      = Ideal.logistic (x4 (ix2 i j)) * (∑ k : Fin 2048, x0 (ix2 i k) * x2 (ix3 0 k j))
        + Ideal.logistic (x5 (ix2 i j)) * (∑ k : Fin 2048, x1 (ix2 i k) * x3 (ix3 0 k j)) := by
  pointwise [k0_pay1]

theorem after_at (c : Dev nD) (t : Fin cfg0.N) (i : Fin 1024) (j : Fin 512) (q : S16384x2048.Idx)
    (h0 : (q 0).val = t.val / 4 * 1024 + i.val) (h1 : (q 1).val = t.val % 4 * 512 + j.val) :
    out0_6 (iblk m c 0 t) (iblk m c 1 t) (iblk m c 2 t) (iblk m c 3 t) (iblk m c 4 t) (iblk m c 5 t) (ix2 i j)
      = outArray (m ((c : Thread nD τ).loc main_arg0)) (m ((c : Thread nD τ).loc main_arg1)) (m ((c : Thread nD τ).loc main_arg2))
        (m ((c : Thread nD τ).loc main_arg3)) (m ((c : Thread nD τ).loc main_arg4)) q := by
  have := tlt t
  have e0 : q 0 = (⟨t.val / 4 * 1024 + i.val, by omega⟩ : Fin 16384) := Fin.ext h0
  have e1 : q 1 = (⟨t.val % 4 * 512 + j.val, by omega⟩ : Fin 2048) := Fin.ext h1
  rw [tile_eq]
  refine (tile_val _ _ _ _ _ _ i j).trans ?_
  unfold outArray
  rw [e0, e1]
  unfold merged
  rw [gates_a m c t i j, gates_b m c t i j]
  simp only [rows_a, rows_b, weights_a, weights_b]

theorem array_val (c : Dev nD) : (dats m 0 c).arrAt 6 cfg0.N
    = outArray (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  have ht := tlt t
  let y' : S1024x512.Idx := y
  have hy : y' = ix2 (y' 0) (y' 1) := by
    funext a
    fin_cases a <;> rfl
  blk_simp
  rw [after0_6]
  refine (congrArg (out0_6 (iblk m c 0 t) (iblk m c 1 t) (iblk m c 2 t) (iblk m c 3 t) (iblk m c 4 t) (iblk m c 5 t)) hy).trans
    (after_at m c t (y' 0) (y' 1) _ ?_ ?_)
  · blk_simp [index6 t]
    rfl
  · blk_simp [index6 t]
    rfl

open Cert.Merge1ReferenceIdeal.Read in
/-- The reference's array is the same function. -/
theorem reference_val (A B : S16384x2048.Idx → EReal) (P : S16384x12800.Idx → EReal) (U W : S2x2048x2048.Idx → EReal) :
    val_main_v27 (F := Ideal) A B P U W = outArray A B P U W := by
  funext q
  obtain ⟨r, y, rfl⟩ : ∃ (r : Fin 16384) (y : Fin 2048), q = ix2 r y := ⟨q 0, q 1, Idealize.ShloMosaic.ValueIdx.eq_ix2 q⟩
  show _ = merged A B P U W r y
  unfold merged Ideal.logistic
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2]

end Cert.Merging1

end
-- ==== Proof.Out1.Value.lean ====
/-
  The second layer's output projection: as the first layer's, but the blocks of columns are of the second layer's weights.
-/
module

public import proofs.«01_k».proof.Proof.Gen.OutProj1Ideal.Value
public import proofs.«01_k».proof.Proof.Gen.OutProj1ReferenceIdeal.Read
public import Idealize.ShloMosaic.Lib.Pointwise
public import Idealize.ShloMosaic.Lib.Pipeline.ValueKit
public import Idealize.ShloMosaic.Lib.StableHlo.ReadAt

@[expose] public section

set_option maxRecDepth 16384
set_option maxHeartbeats 4000000

noncomputable section

namespace Cert.OutProjection1

open Cert.OutProj1Ideal Cert.OutProj1Ideal.Gen Idealize.ShloMosaic Idealize.ShloMosaic.TcCoe

variable (m : (ℓ : Loc nD τ sig) → Buf (Elt Ideal) ℓ)

theorem index0 : ∀ t : Fin cfg0.N, (cfg0.win 0).index t = ![t.val / 4, 0] := by decide +kernel
theorem index1 : ∀ t : Fin cfg0.N, (cfg0.win 1).index t = ![1, 0, t.val % 4] := by decide +kernel
theorem index2 : ∀ t : Fin cfg0.N, (cfg0.win 2).index t = ![t.val / 4, t.val % 4] := by decide +kernel
theorem index3 : ∀ t : Fin cfg0.N, (cfg0.win 3).index t = ![t.val / 4, t.val % 4] := by decide +kernel

theorem tlt (t : Fin cfg0.N) : t.val < 32 := t.isLt

/-- The activations plus the product with the second layer's weights. -/
def outArray (Y : S16384x2048.Idx → EReal) (X : S16384x2048.Idx → EReal) (W : S2x2048x2048.Idx → EReal) : S16384x2048.Idx → EReal := fun q =>
  X (ix2 (q 0) (q 1)) + ∑ k : Fin 2048, Y (ix2 (q 0) k) * W (ix3 1 k (q 1))

theorem rows (c : Dev nD) (t : Fin cfg0.N) (i k : Fin 2048) :
    iblk m c 0 t (ix2 i k) = m ((c : Thread nD τ).loc main_arg0) (ix2 ⟨t.val / 4 * 2048 + i.val, by have := tlt t; omega⟩ k) := by
  have := tlt t
  rw [← V_main_arg0 m c]
  blk_ext [iblk, index0 t]

theorem weights (c : Dev nD) (t : Fin cfg0.N) (k : Fin 2048) (j : Fin 512) :
    iblk m c 1 t (ix3 0 k j) = (m ((c : Thread nD τ).loc main_arg2) (ix3 1 k ⟨t.val % 4 * 512 + j.val, by omega⟩) : EReal) := by
  have := tlt t
  have e : (V m c main_v0 (ix3 1 k ⟨t.val % 4 * 512 + j.val, by omega⟩) : EReal)
      = m ((c : Thread nD τ).loc main_arg2) (ix3 1 k ⟨t.val % 4 * 512 + j.val, by omega⟩) := by
    unfold V
    after_reads_at
  rw [← e]
  blk_ext [iblk, index1 t]

theorem acts (c : Dev nD) (t : Fin cfg0.N) (i : Fin 2048) (j : Fin 512) :
    iblk m c 2 t (ix2 i j) = m ((c : Thread nD τ).loc main_arg1) (ix2 ⟨t.val / 4 * 2048 + i.val, by have := tlt t; omega⟩ ⟨t.val % 4 * 512 + j.val, by omega⟩) := by
  have := tlt t
  rw [← V_main_arg1 m c]
  blk_ext [iblk, index2 t]

theorem tile_eq (x0 : Vec Ideal S2048x2048 .bf16) (x1 : Vec Ideal S1x2048x512 .bf16) (x2 : Vec Ideal S2048x512 .f32) :
    out0_3 x0 x1 x2 = k0_pay1 x2 x0 x1 := by
  unfold out0_3
  rw [View.canon_cons_unit_lit _ _ _ (by decide), View.ld_unit_lit _ _ (by decide), View.ld_unit_lit _ _ (by decide), View.ld_unit_lit _ _ (by decide)]

/-- One stored tile: the activations' tile plus a row of activations times a column of weights. -/
theorem tile_val (x0 : Vec Ideal S2048x2048 .bf16) (x1 : Vec Ideal S1x2048x512 .bf16) (x2 : Vec Ideal S2048x512 .f32) (i : Fin 2048) (j : Fin 512) :
    (k0_pay1 x2 x0 x1 (ix2 i j) : EReal) = x2 (ix2 i j) + ∑ k : Fin 2048, x0 (ix2 i k) * x1 (ix3 0 k j) := by
  pointwise [k0_pay1]

theorem after_at (c : Dev nD) (t : Fin cfg0.N) (i : Fin 2048) (j : Fin 512) (q : S16384x2048.Idx)
    (h0 : (q 0).val = t.val / 4 * 2048 + i.val) (h1 : (q 1).val = t.val % 4 * 512 + j.val) :
    out0_3 (iblk m c 0 t) (iblk m c 1 t) (iblk m c 2 t) (ix2 i j)
      = outArray (m ((c : Thread nD τ).loc main_arg0)) (m ((c : Thread nD τ).loc main_arg1)) (m ((c : Thread nD τ).loc main_arg2)) q := by
  have := tlt t
  have e0 : q 0 = (⟨t.val / 4 * 2048 + i.val, by omega⟩ : Fin 16384) := Fin.ext h0
  have e1 : q 1 = (⟨t.val % 4 * 512 + j.val, by omega⟩ : Fin 2048) := Fin.ext h1
  rw [tile_eq]
  refine (tile_val _ _ _ i j).trans ?_
  unfold outArray
  rw [e0, e1, acts m c t i j]
  simp only [rows, weights]

theorem array_val (c : Dev nD) : (dats m 0 c).arrAt 3 cfg0.N
    = outArray (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := tlt t
  let y' : S2048x512.Idx := y
  have hy : y' = ix2 (y' 0) (y' 1) := by
    funext a
    fin_cases a <;> rfl
  blk_simp
  rw [after0_3]
  refine (congrArg (out0_3 (iblk m c 0 t) (iblk m c 1 t) (iblk m c 2 t)) hy).trans (after_at m c t (y' 0) (y' 1) _ ?_ ?_)
  · blk_simp [index3 t]
    rfl
  · blk_simp [index3 t]
    rfl

/-- The reference's array is the same function. -/
theorem reference_val (Y X : S16384x2048.Idx → EReal) (W : S2x2048x2048.Idx → EReal) :
    Cert.OutProj1ReferenceIdeal.Read.val_main_v4 (F := Ideal) Y X W = outArray Y X W := by
  funext q
  obtain ⟨r, y, rfl⟩ : ∃ (r : Fin 16384) (y : Fin 2048), q = ix2 r y := ⟨q 0, q 1, Idealize.ShloMosaic.ValueIdx.eq_ix2 q⟩
  unfold outArray
  pointwise [Cert.OutProj1ReferenceIdeal.Read.val_main_v4, Cert.OutProj1ReferenceIdeal.Read.val_main_v3, Cert.OutProj1ReferenceIdeal.Read.val_main_v2, Cert.OutProj1ReferenceIdeal.Read.val_main_v1, Cert.OutProj1ReferenceIdeal.Read.val_main_v0]

end Cert.OutProjection1

end
-- ==== Proof.lean ====
/- Six calls of the layer, three of them in both layers: for each, the kernel's frame on the bits, the idealized kernel's and
   the reference's frames, and the equality of the two results over the extended reals. The mathematics is under Proof/: In
   (norm and input projection), Swa (sliding-window attention), Merge (merge of the two branches), Out (output projection),
   Dense (dense feed-forward part), Prep (convolution and gates of the delta rule), and In1, Merge1 and Out1 for the second layer. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.DenseFfn
public import proofs.«01_k».proof.Proof.Gen.DenseFfn.Skeleton
public import proofs.«01_k».proof.Proof.Gen.DenseFfn.Launch
public import proofs.«01_k».proof.Proof.Gen.DenseFfn.Points
public import proofs.«01_k».proof.Proof.Gen.DenseFfn.Frame
public import proofs.«01_k».proof.Proof.Gen.DenseFfnIdeal
public import proofs.«01_k».proof.Proof.Gen.DenseFfnIdeal.Skeleton
public import proofs.«01_k».proof.Proof.Gen.DenseFfnIdeal.Launch
public import proofs.«01_k».proof.Proof.Gen.DenseFfnIdeal.Points
public import proofs.«01_k».proof.Proof.Gen.DenseFfnIdeal.Frame
public import proofs.«01_k».proof.Proof.Gen.DenseFfnIdeal.Value
public import proofs.«01_k».proof.Proof.Gen.DenseFfnReferenceIdeal
public import proofs.«01_k».proof.Proof.Gen.DenseFfnReferenceIdeal.Run
public import proofs.«01_k».proof.Proof.Gen.DenseFfnReferenceIdeal.Read
public import proofs.«01_k».proof.Proof.Swa.Array
public import proofs.«01_k».proof.Proof.Swa.Equal
public import proofs.«01_k».proof.Proof.Swa.Finite
public import proofs.«01_k».proof.Proof.In.Value
public import proofs.«01_k».proof.Proof.Merge.Value
public import proofs.«01_k».proof.Proof.Out.Value
public import proofs.«01_k».proof.Proof.Dense.Value
public import Idealize.ShloMosaic.Lib.Claim
public import Idealize.ShloMosaic.Lib.Quiescent
public import Idealize.ShloMosaic.Adequacy
public import Idealize.ShloMosaic.Init
public import proofs.«01_k».proof.Proof.Gen.InProj1
public import proofs.«01_k».proof.Proof.Gen.InProj1.Skeleton
public import proofs.«01_k».proof.Proof.Gen.InProj1.Launch
public import proofs.«01_k».proof.Proof.Gen.InProj1.Points
public import proofs.«01_k».proof.Proof.Gen.InProj1.Frame
public import proofs.«01_k».proof.Proof.Gen.InProj1Ideal
public import proofs.«01_k».proof.Proof.Gen.InProj1Ideal.Skeleton
public import proofs.«01_k».proof.Proof.Gen.InProj1Ideal.Launch
public import proofs.«01_k».proof.Proof.Gen.InProj1Ideal.Points
public import proofs.«01_k».proof.Proof.Gen.InProj1Ideal.Frame
public import proofs.«01_k».proof.Proof.Gen.InProj1ReferenceIdeal
public import proofs.«01_k».proof.Proof.Gen.InProj1ReferenceIdeal.Run
public import proofs.«01_k».proof.Proof.Gen.InProj1ReferenceIdeal.Read
public import proofs.«01_k».proof.Proof.Gen.Merge1
public import proofs.«01_k».proof.Proof.Gen.Merge1.Skeleton
public import proofs.«01_k».proof.Proof.Gen.Merge1.Launch
public import proofs.«01_k».proof.Proof.Gen.Merge1.Points
public import proofs.«01_k».proof.Proof.Gen.Merge1.Frame
public import proofs.«01_k».proof.Proof.Gen.Merge1Ideal
public import proofs.«01_k».proof.Proof.Gen.Merge1Ideal.Skeleton
public import proofs.«01_k».proof.Proof.Gen.Merge1Ideal.Launch
public import proofs.«01_k».proof.Proof.Gen.Merge1Ideal.Points
public import proofs.«01_k».proof.Proof.Gen.Merge1Ideal.Frame
public import proofs.«01_k».proof.Proof.Gen.Merge1Ideal.Value
public import proofs.«01_k».proof.Proof.Gen.Merge1ReferenceIdeal
public import proofs.«01_k».proof.Proof.Gen.Merge1ReferenceIdeal.Run
public import proofs.«01_k».proof.Proof.Gen.Merge1ReferenceIdeal.Read
public import proofs.«01_k».proof.Proof.Gen.OutProj1
public import proofs.«01_k».proof.Proof.Gen.OutProj1.Skeleton
public import proofs.«01_k».proof.Proof.Gen.OutProj1.Launch
public import proofs.«01_k».proof.Proof.Gen.OutProj1.Points
public import proofs.«01_k».proof.Proof.Gen.OutProj1.Frame
public import proofs.«01_k».proof.Proof.Gen.OutProj1Ideal
public import proofs.«01_k».proof.Proof.Gen.OutProj1Ideal.Skeleton
public import proofs.«01_k».proof.Proof.Gen.OutProj1Ideal.Launch
public import proofs.«01_k».proof.Proof.Gen.OutProj1Ideal.Points
public import proofs.«01_k».proof.Proof.Gen.OutProj1Ideal.Frame
public import proofs.«01_k».proof.Proof.Gen.OutProj1Ideal.Value
public import proofs.«01_k».proof.Proof.Gen.OutProj1ReferenceIdeal
public import proofs.«01_k».proof.Proof.Gen.OutProj1ReferenceIdeal.Run
public import proofs.«01_k».proof.Proof.Gen.OutProj1ReferenceIdeal.Read
public import proofs.«01_k».proof.Proof.In1.Value
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Prep.RefQuery
public import proofs.«01_k».proof.Proof.Prep.RefKey
public import proofs.«01_k».proof.Proof.Prep.RefValue
public import proofs.«01_k».proof.Proof.Prep.RefGates
public import proofs.«01_k».proof.Proof.Merge1.Value
public import proofs.«01_k».proof.Proof.Out1.Value

@[expose] public section

noncomputable section

namespace Cert.Proof

open Idealize.ShloMosaic Idealize.SL.Sem

/-! ## The sliding-window attention -/

/-- The reference runs and leaves its arguments; it declares no semaphore, so every counter reads zero. -/
theorem frame_reference [Cert.ReferenceIdeal.Facts] : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- On finite inputs the idealized kernel and the reference end with the same array. -/
theorem attention_eq : Cert.algebraic_KernelIdeal_ReferenceIdeal_pre_finite_inputs (hKernelIdeal := Cert.KernelIdeal.Gen.facts)
    (hReferenceIdeal := Cert.ReferenceIdeal.Gen.facts) (hPre_finite_inputs := Cert.Swa.pre_facts) := by
  intro m g m' g' hpre hagree
  refine ⟨fun c => Cert.Swa.outArray (m (c.tc.loc Cert.KernelIdeal.main_arg0)) (m (c.tc.loc Cert.KernelIdeal.main_arg1))
    (m (c.tc.loc Cert.KernelIdeal.main_arg2)), ?_, ?_⟩
  · refine (θ_run Cert.KernelIdeal.defs _ _).mono (fun r h c => ⟨(h c).1.trans ?_, (h c).2⟩) (Cert.KernelIdeal.Value.run_blocks (F := Ideal) m g)
    exact Cert.Swa.array_val m c
  · refine (θ_run Cert.ReferenceIdeal.defs _ _).mono (fun r h c => ⟨(h c).1.trans ?_, (h c).2⟩) (Cert.ReferenceIdeal.Value.run (F := Ideal) m' g')
    obtain ⟨h0, h1, h2⟩ := @Cert.Swa.finite_parts Cert.Swa.pre_facts _ _ _ (hpre c)
    obtain ⟨e0, e1, e2⟩ := hagree c
    refine (Cert.ReferenceIdeal.Read.val_main_v104_eq m' c).trans ?_
    rw [e0, e1, e2]
    exact (Cert.Swa.array_eq _ _ _ h0 h1 h2).symm

/-! ## The norm and input projection -/

theorem frame_in_reference [Cert.InProjReferenceIdeal.Facts] : Cert.quiescent_InProjReferenceIdeal := by
  intro m g _
  exact (θ_run Cert.InProjReferenceIdeal.defs _ _).mono (fun r h => ⟨fun c => (h c).2.2, sem_eq_zero_of_no_sems (by decide) r.2⟩)
    (Cert.InProjReferenceIdeal.Value.run (F := Ideal) m g)

section Same

attribute [local instance] Cert.InProj.Gen.facts Cert.InProjIdeal.Gen.facts

variable {F : FTy → Type} [FloatOps F]

/-- The projection's two body tables are one: they agree at their only label. -/
theorem in_bodies : Cert.InProj.defs₀ (F := F) = Cert.InProjIdeal.defs₀ (F := F) := by
  unfold Cert.InProj.defs₀ Cert.InProjIdeal.defs₀
  refine congrArg Defs.onTc (funext fun l => funext fun a => ?_)
  match l, a with
  | 0, (_, _) => rfl

theorem in_defs : Cert.InProj.defs (F := F) = Cert.InProjIdeal.defs (F := F) :=
  congrArg (Pipeline.defs (Cert.InProjIdeal.pcfgs (F := F))) in_bodies

end Same

/-- The two programs have the same text but for their names: the run over any float values, taken at the bits. -/
theorem frame_in : Cert.quiescent_InProj (hInProj := Cert.InProj.Gen.facts) := by
  intro m ρ _
  rw [in_defs]
  exact (θ_run Cert.InProjIdeal.defs _ _).mono (fun _ h => And.intro h.1 h.2.2) (Cert.InProjection.run (F := Bits) m ρ)

theorem frame_in_ideal : Cert.quiescent_InProjIdeal (hInProjIdeal := Cert.InProjIdeal.Gen.facts) := fun m ρ _ =>
  (θ_run Cert.InProjIdeal.defs _ _).mono (fun _ h => ⟨h.1, h.2.2⟩) (Cert.InProjection.run (F := Ideal) m ρ)

theorem in_eq : Cert.algebraic_InProjIdeal_InProjReferenceIdeal (hInProjIdeal := Cert.InProjIdeal.Gen.facts)
    (hInProjReferenceIdeal := Cert.InProjReferenceIdeal.Gen.facts) := by
  intro m g m' g' _ hagree
  refine ⟨fun c => Cert.InProjection.wideArray (m (c.tc.loc Cert.InProjIdeal.main_arg0)) (m (c.tc.loc Cert.InProjIdeal.main_arg1))
    (m (c.tc.loc Cert.InProjIdeal.main_arg2)), fun c => Cert.InProjection.narrowArray (m (c.tc.loc Cert.InProjIdeal.main_arg0))
    (m (c.tc.loc Cert.InProjIdeal.main_arg1)) (m (c.tc.loc Cert.InProjIdeal.main_arg2)), ?_, ?_⟩
  · exact (θ_run Cert.InProjIdeal.defs _ _).mono (fun r h c => ⟨(h.2.1 c).1.trans (Cert.InProjection.wide_array m c),
      (h.2.1 c).2.trans (Cert.InProjection.narrow_array m c), h.1 c⟩) (Cert.InProjection.run (F := Ideal) m g)
  · refine (θ_run Cert.InProjReferenceIdeal.defs _ _).mono (fun r h c => ⟨(h c).1.trans ?_, (h c).2.1.trans ?_, (h c).2.2⟩)
      (Cert.InProjReferenceIdeal.Value.run (F := Ideal) m' g')
    · obtain ⟨e0, e1, e2⟩ := hagree c
      refine (Cert.InProjReferenceIdeal.Read.val_main_v34_eq m' c).trans ?_
      rw [e0, e1, e2]
      exact Cert.InProjection.reference_wide _ _ _
    · obtain ⟨e0, e1, e2⟩ := hagree c
      refine (Cert.InProjReferenceIdeal.Read.val_main_v33_eq _ _ _).trans ?_
      rw [e0, e1, e2]
      exact Cert.InProjection.reference_narrow _ _ _

/-! ## The second layer's norm and input projection -/

theorem frame_in1_reference [Cert.InProj1ReferenceIdeal.Facts] : Cert.quiescent_InProj1ReferenceIdeal := by
  intro m g _
  exact (θ_run Cert.InProj1ReferenceIdeal.defs _ _).mono (fun r h => ⟨fun c => (h c).2.2, sem_eq_zero_of_no_sems (by decide) r.2⟩)
    (Cert.InProj1ReferenceIdeal.Value.run (F := Ideal) m g)

section Same1

attribute [local instance] Cert.InProj1.Gen.facts Cert.InProj1Ideal.Gen.facts

variable {F : FTy → Type} [FloatOps F]

/-- The projection's two body tables are one: they agree at their only label. -/
theorem in1_bodies : Cert.InProj1.defs₀ (F := F) = Cert.InProj1Ideal.defs₀ (F := F) := by
  unfold Cert.InProj1.defs₀ Cert.InProj1Ideal.defs₀
  refine congrArg Defs.onTc (funext fun l => funext fun a => ?_)
  match l, a with
  | 0, (_, _) => rfl

theorem in1_defs : Cert.InProj1.defs (F := F) = Cert.InProj1Ideal.defs (F := F) :=
  congrArg (Pipeline.defs (Cert.InProj1Ideal.pcfgs (F := F))) in1_bodies

end Same1

/-- The two programs have the same text but for their names: the run over any float values, taken at the bits. -/
theorem frame_in1 : Cert.quiescent_InProj1 (hInProj1 := Cert.InProj1.Gen.facts) := by
  intro m ρ _
  rw [in1_defs]
  exact (θ_run Cert.InProj1Ideal.defs _ _).mono (fun _ h => And.intro h.1 h.2.2) (Cert.InProjection1.run (F := Bits) m ρ)

theorem frame_in1_ideal : Cert.quiescent_InProj1Ideal (hInProj1Ideal := Cert.InProj1Ideal.Gen.facts) := fun m ρ _ =>
  (θ_run Cert.InProj1Ideal.defs _ _).mono (fun _ h => ⟨h.1, h.2.2⟩) (Cert.InProjection1.run (F := Ideal) m ρ)

theorem in1_eq : Cert.algebraic_InProj1Ideal_InProj1ReferenceIdeal (hInProj1Ideal := Cert.InProj1Ideal.Gen.facts)
    (hInProj1ReferenceIdeal := Cert.InProj1ReferenceIdeal.Gen.facts) := by
  intro m g m' g' _ hagree
  refine ⟨fun c => Cert.InProjection1.wideArray (m (c.tc.loc Cert.InProj1Ideal.main_arg0)) (m (c.tc.loc Cert.InProj1Ideal.main_arg1))
    (m (c.tc.loc Cert.InProj1Ideal.main_arg2)), fun c => Cert.InProjection1.narrowArray (m (c.tc.loc Cert.InProj1Ideal.main_arg0))
    (m (c.tc.loc Cert.InProj1Ideal.main_arg1)) (m (c.tc.loc Cert.InProj1Ideal.main_arg2)), ?_, ?_⟩
  · exact (θ_run Cert.InProj1Ideal.defs _ _).mono (fun r h c => ⟨(h.2.1 c).1.trans (Cert.InProjection1.wide_array m c),
      (h.2.1 c).2.trans (Cert.InProjection1.narrow_array m c), h.1 c⟩) (Cert.InProjection1.run (F := Ideal) m g)
  · refine (θ_run Cert.InProj1ReferenceIdeal.defs _ _).mono (fun r h c => ⟨(h c).1.trans ?_, (h c).2.1.trans ?_, (h c).2.2⟩)
      (Cert.InProj1ReferenceIdeal.Value.run (F := Ideal) m' g')
    · obtain ⟨e0, e1, e2⟩ := hagree c
      refine (Cert.InProj1ReferenceIdeal.Read.val_main_v34_eq m' c).trans ?_
      rw [e0, e1, e2]
      exact Cert.InProjection1.reference_wide _ _ _
    · obtain ⟨e0, e1, e2⟩ := hagree c
      refine (Cert.InProj1ReferenceIdeal.Read.val_main_v33_eq _ _ _).trans ?_
      rw [e0, e1, e2]
      exact Cert.InProjection1.reference_narrow _ _ _

/-! ## The convolution and gates of the delta rule -/

theorem frame_prep_reference [Cert.PrepReferenceIdeal.Facts] : Cert.quiescent_PrepReferenceIdeal := by
  intro m g _
  exact (θ_run Cert.PrepReferenceIdeal.defs _ _).mono (fun r h => ⟨fun c => (h c).2.2.2.2, sem_eq_zero_of_no_sems (by decide) r.2⟩)
    (Cert.PrepReferenceIdeal.Value.run (F := Ideal) m g)

theorem prep_eq : Cert.algebraic_PrepIdeal_PrepReferenceIdeal (hPrepIdeal := Cert.PrepIdeal.Gen.facts)
    (hPrepReferenceIdeal := Cert.PrepReferenceIdeal.Gen.facts) := by
  intro m g m' g' _ hagree
  refine ⟨fun c => Cert.DeltaPrep.queryArray (m (c.tc.loc Cert.PrepIdeal.main_arg0)) (m (c.tc.loc Cert.PrepIdeal.main_arg2)),
    fun c => Cert.DeltaPrep.keyArray (m (c.tc.loc Cert.PrepIdeal.main_arg0)) (m (c.tc.loc Cert.PrepIdeal.main_arg2)),
    fun c => Cert.DeltaPrep.valueArray (m (c.tc.loc Cert.PrepIdeal.main_arg0)) (m (c.tc.loc Cert.PrepIdeal.main_arg2)),
    fun c => Cert.DeltaPrep.gateArray (m (c.tc.loc Cert.PrepIdeal.main_arg1)) (m (c.tc.loc Cert.PrepIdeal.main_arg4)) (m (c.tc.loc Cert.PrepIdeal.main_arg3)), ?_, ?_⟩
  · exact (θ_run Cert.PrepIdeal.defs _ _).mono (fun r h c => ⟨(h c).1.trans (Cert.DeltaPrep.query_array m c),
      (h c).2.1.trans (Cert.DeltaPrep.key_array m c), (h c).2.2.1.trans (Cert.DeltaPrep.value_array m c),
      (h c).2.2.2.1.trans (Cert.DeltaPrep.gate_array m c), (h c).2.2.2.2⟩)
      (Cert.PrepIdeal.Value.run_blocks (F := Ideal) m g)
  · refine (θ_run Cert.PrepReferenceIdeal.defs _ _).mono (fun r h c => ⟨(h c).1.trans ?_, (h c).2.1.trans ?_, (h c).2.2.1.trans ?_,
      (h c).2.2.2.1.trans ?_, (h c).2.2.2.2⟩) (Cert.PrepReferenceIdeal.Value.run (F := Ideal) m' g')
    · obtain ⟨e0, e1, e2, e3, e4⟩ := hagree c
      refine (Cert.PrepReferenceIdeal.Read.val_main_v80_eq m' c).trans ?_
      rw [e0, e2]
      exact Cert.DeltaPrep.reference_query _ _
    · obtain ⟨e0, e1, e2, e3, e4⟩ := hagree c
      refine (Cert.PrepReferenceIdeal.Read.val_main_v82_eq m' c).trans ?_
      rw [e0, e2]
      exact Cert.DeltaPrep.reference_key _ _
    · obtain ⟨e0, e1, e2, e3, e4⟩ := hagree c
      refine (Cert.PrepReferenceIdeal.Read.val_main_v84_eq m' c).trans ?_
      rw [e0, e2]
      exact Cert.DeltaPrep.reference_value _ _
    · obtain ⟨e0, e1, e2, e3, e4⟩ := hagree c
      refine (Cert.PrepReferenceIdeal.Read.val_main_v85_eq _ _ _).trans ?_
      rw [e1, e3, e4]
      exact Cert.DeltaPrep.reference_gates _ _ _

/-! ## The merge of the two branches -/

theorem frame_merge_reference [Cert.MergeReferenceIdeal.Facts] : Cert.quiescent_MergeReferenceIdeal := by
  intro m g _
  exact (θ_run Cert.MergeReferenceIdeal.defs _ _).mono (fun r h => ⟨fun c => (h c).2, sem_eq_zero_of_no_sems (by decide) r.2⟩)
    (Cert.MergeReferenceIdeal.Value.run (F := Ideal) m g)

theorem merge_eq : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => Cert.Merging.outArray (m (c.tc.loc Cert.MergeIdeal.main_arg0)) (m (c.tc.loc Cert.MergeIdeal.main_arg1)) (m (c.tc.loc Cert.MergeIdeal.main_arg2)) (m (c.tc.loc Cert.MergeIdeal.main_arg3)) (m (c.tc.loc Cert.MergeIdeal.main_arg4)), ?_, ?_⟩
  · exact (θ_run Cert.MergeIdeal.defs _ _).mono (fun r h c => ⟨(h c).1.trans (Cert.Merging.array_val m c), (h c).2⟩)
      (Cert.MergeIdeal.Value.run_blocks (F := Ideal) m g)
  · refine (θ_run Cert.MergeReferenceIdeal.defs _ _).mono (fun r h c => ⟨(h c).1.trans ?_, (h c).2⟩)
      (Cert.MergeReferenceIdeal.Value.run (F := Ideal) m' g')
    obtain ⟨e0, e1, e2, e3, e4⟩ := hagree c
    refine (Cert.MergeReferenceIdeal.Read.val_main_v27_eq _ _ _ _ _).trans ?_
    rw [e0, e1, e2, e3, e4]
    exact Cert.Merging.reference_val _ _ _ _ _

/-! ## The second layer's merge of the two branches -/

theorem frame_merge1_reference [Cert.Merge1ReferenceIdeal.Facts] : Cert.quiescent_Merge1ReferenceIdeal := by
  intro m g _
  exact (θ_run Cert.Merge1ReferenceIdeal.defs _ _).mono (fun r h => ⟨fun c => (h c).2, sem_eq_zero_of_no_sems (by decide) r.2⟩)
    (Cert.Merge1ReferenceIdeal.Value.run (F := Ideal) m g)

theorem merge1_eq : Cert.algebraic_Merge1Ideal_Merge1ReferenceIdeal (hMerge1Ideal := Cert.Merge1Ideal.Gen.facts)
    (hMerge1ReferenceIdeal := Cert.Merge1ReferenceIdeal.Gen.facts) := by
  intro m g m' g' _ hagree
  refine ⟨fun c => Cert.Merging1.outArray (m (c.tc.loc Cert.Merge1Ideal.main_arg0)) (m (c.tc.loc Cert.Merge1Ideal.main_arg1)) (m (c.tc.loc Cert.Merge1Ideal.main_arg2)) (m (c.tc.loc Cert.Merge1Ideal.main_arg3)) (m (c.tc.loc Cert.Merge1Ideal.main_arg4)), ?_, ?_⟩
  · exact (θ_run Cert.Merge1Ideal.defs _ _).mono (fun r h c => ⟨(h c).1.trans (Cert.Merging1.array_val m c), (h c).2⟩)
      (Cert.Merge1Ideal.Value.run_blocks (F := Ideal) m g)
  · refine (θ_run Cert.Merge1ReferenceIdeal.defs _ _).mono (fun r h c => ⟨(h c).1.trans ?_, (h c).2⟩)
      (Cert.Merge1ReferenceIdeal.Value.run (F := Ideal) m' g')
    obtain ⟨e0, e1, e2, e3, e4⟩ := hagree c
    refine (Cert.Merge1ReferenceIdeal.Read.val_main_v27_eq _ _ _ _ _).trans ?_
    rw [e0, e1, e2, e3, e4]
    exact Cert.Merging1.reference_val _ _ _ _ _

/-! ## The output projection -/

theorem frame_out_reference [Cert.OutProjReferenceIdeal.Facts] : Cert.quiescent_OutProjReferenceIdeal := by
  intro m g _
  exact (θ_run Cert.OutProjReferenceIdeal.defs _ _).mono (fun r h => ⟨fun c => (h c).2, sem_eq_zero_of_no_sems (by decide) r.2⟩)
    (Cert.OutProjReferenceIdeal.Value.run (F := Ideal) m g)

theorem out_eq : Cert.algebraic_OutProjIdeal_OutProjReferenceIdeal (hOutProjIdeal := Cert.OutProjIdeal.Gen.facts)
    (hOutProjReferenceIdeal := Cert.OutProjReferenceIdeal.Gen.facts) := by
  intro m g m' g' _ hagree
  refine ⟨fun c => Cert.OutProjection.outArray (m (c.tc.loc Cert.OutProjIdeal.main_arg0)) (m (c.tc.loc Cert.OutProjIdeal.main_arg1)) (m (c.tc.loc Cert.OutProjIdeal.main_arg2)), ?_, ?_⟩
  · exact (θ_run Cert.OutProjIdeal.defs _ _).mono (fun r h c => ⟨(h c).1.trans (Cert.OutProjection.array_val m c), (h c).2⟩)
      (Cert.OutProjIdeal.Value.run_blocks (F := Ideal) m g)
  · refine (θ_run Cert.OutProjReferenceIdeal.defs _ _).mono (fun r h c => ⟨(h c).1.trans ?_, (h c).2⟩)
      (Cert.OutProjReferenceIdeal.Value.run (F := Ideal) m' g')
    obtain ⟨e0, e1, e2⟩ := hagree c
    refine (Cert.OutProjReferenceIdeal.Read.val_main_v4_eq _ _ _).trans ?_
    rw [e0, e1, e2]
    exact Cert.OutProjection.reference_val _ _ _

/-! ## The second layer's output projection -/

theorem frame_out1_reference [Cert.OutProj1ReferenceIdeal.Facts] : Cert.quiescent_OutProj1ReferenceIdeal := by
  intro m g _
  exact (θ_run Cert.OutProj1ReferenceIdeal.defs _ _).mono (fun r h => ⟨fun c => (h c).2, sem_eq_zero_of_no_sems (by decide) r.2⟩)
    (Cert.OutProj1ReferenceIdeal.Value.run (F := Ideal) m g)

theorem out1_eq : Cert.algebraic_OutProj1Ideal_OutProj1ReferenceIdeal (hOutProj1Ideal := Cert.OutProj1Ideal.Gen.facts)
    (hOutProj1ReferenceIdeal := Cert.OutProj1ReferenceIdeal.Gen.facts) := by
  intro m g m' g' _ hagree
  refine ⟨fun c => Cert.OutProjection1.outArray (m (c.tc.loc Cert.OutProj1Ideal.main_arg0)) (m (c.tc.loc Cert.OutProj1Ideal.main_arg1)) (m (c.tc.loc Cert.OutProj1Ideal.main_arg2)), ?_, ?_⟩
  · exact (θ_run Cert.OutProj1Ideal.defs _ _).mono (fun r h c => ⟨(h c).1.trans (Cert.OutProjection1.array_val m c), (h c).2⟩)
      (Cert.OutProj1Ideal.Value.run_blocks (F := Ideal) m g)
  · refine (θ_run Cert.OutProj1ReferenceIdeal.defs _ _).mono (fun r h c => ⟨(h c).1.trans ?_, (h c).2⟩)
      (Cert.OutProj1ReferenceIdeal.Value.run (F := Ideal) m' g')
    obtain ⟨e0, e1, e2⟩ := hagree c
    refine (Cert.OutProj1ReferenceIdeal.Read.val_main_v4_eq _ _ _).trans ?_
    rw [e0, e1, e2]
    exact Cert.OutProjection1.reference_val _ _ _

/-! ## The dense feed-forward part -/

theorem frame_dense_reference [Cert.DenseFfnReferenceIdeal.Facts] : Cert.quiescent_DenseFfnReferenceIdeal := by
  intro m g _
  exact (θ_run Cert.DenseFfnReferenceIdeal.defs _ _).mono (fun r h => ⟨fun c => (h c).2, sem_eq_zero_of_no_sems (by decide) r.2⟩)
    (Cert.DenseFfnReferenceIdeal.Value.run (F := Ideal) m g)

theorem dense_eq : Cert.algebraic_DenseFfnIdeal_DenseFfnReferenceIdeal (hDenseFfnIdeal := Cert.DenseFfnIdeal.Gen.facts)
    (hDenseFfnReferenceIdeal := Cert.DenseFfnReferenceIdeal.Gen.facts) := by
  intro m g m' g' _ hagree
  refine ⟨fun c => Cert.FeedForward.outArray (m (c.tc.loc Cert.DenseFfnIdeal.main_arg0)) (m (c.tc.loc Cert.DenseFfnIdeal.main_arg1)) (m (c.tc.loc Cert.DenseFfnIdeal.main_arg2)) (m (c.tc.loc Cert.DenseFfnIdeal.main_arg3)) (m (c.tc.loc Cert.DenseFfnIdeal.main_arg4)), ?_, ?_⟩
  · exact (θ_run Cert.DenseFfnIdeal.defs _ _).mono (fun r h c => ⟨(h c).1.trans (Cert.FeedForward.array_val m c), (h c).2⟩)
      (Cert.DenseFfnIdeal.Value.run (F := Ideal) m g)
  · refine (θ_run Cert.DenseFfnReferenceIdeal.defs _ _).mono (fun r h c => ⟨(h c).1.trans ?_, (h c).2⟩)
      (Cert.DenseFfnReferenceIdeal.Value.run (F := Ideal) m' g')
    obtain ⟨e0, e1, e2, e3, e4⟩ := hagree c
    refine (Cert.DenseFfnReferenceIdeal.Read.val_main_v23_eq _ _ _ _ _).trans ?_
    rw [e0, e1, e2, e3, e4]
    exact Cert.FeedForward.reference_val _ _ _ _ _

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.InProj1.Gen.facts, Cert.InProj1Ideal.Gen.facts, Cert.InProj1ReferenceIdeal.Gen.facts,
  Cert.Prep.Gen.facts, Cert.PrepIdeal.Gen.facts, Cert.PrepReferenceIdeal.Gen.facts,
  Cert.Merge.Gen.facts, Cert.MergeIdeal.Gen.facts, Cert.MergeReferenceIdeal.Gen.facts,
  Cert.Merge1.Gen.facts, Cert.Merge1Ideal.Gen.facts, Cert.Merge1ReferenceIdeal.Gen.facts,
  Cert.OutProj.Gen.facts, Cert.OutProjIdeal.Gen.facts, Cert.OutProjReferenceIdeal.Gen.facts,
  Cert.OutProj1.Gen.facts, Cert.OutProj1Ideal.Gen.facts, Cert.OutProj1ReferenceIdeal.Gen.facts,
  Cert.DenseFfn.Gen.facts, Cert.DenseFfnIdeal.Gen.facts, Cert.DenseFfnReferenceIdeal.Gen.facts, Cert.Swa.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  frame_in, frame_in_ideal, frame_in_reference,
  frame_in1, frame_in1_ideal, frame_in1_reference,
  fun m ρ _ => Cert.Prep.Gen.frame m ρ, fun m ρ _ => Cert.PrepIdeal.Gen.frame m ρ, frame_prep_reference,
  fun m ρ _ => Cert.Merge.Gen.frame m ρ, fun m ρ _ => Cert.MergeIdeal.Gen.frame m ρ, frame_merge_reference,
  fun m ρ _ => Cert.Merge1.Gen.frame m ρ, fun m ρ _ => Cert.Merge1Ideal.Gen.frame m ρ, frame_merge1_reference,
  fun m ρ _ => Cert.OutProj.Gen.frame m ρ, fun m ρ _ => Cert.OutProjIdeal.Gen.frame m ρ, frame_out_reference,
  fun m ρ _ => Cert.OutProj1.Gen.frame m ρ, fun m ρ _ => Cert.OutProj1Ideal.Gen.frame m ρ, frame_out1_reference,
  fun m ρ _ => Cert.DenseFfn.Gen.frame m ρ, fun m ρ _ => Cert.DenseFfnIdeal.Gen.frame m ρ, frame_dense_reference,
  trivial, attention_eq, trivial, in_eq, trivial, in1_eq, trivial, prep_eq, trivial, merge_eq, trivial, merge1_eq, trivial, out_eq, trivial, out1_eq, trivial, dense_eq⟩

end Cert.Proof

end
